-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_within_capacity_KernelIdeal [hPre_routed_within_capacity_KernelIdeal : Cert.Pre_routed_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_within_capacity_ReferenceIdeal [hPre_routed_within_capacity_ReferenceIdeal : Cert.Pre_routed_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_within_capacity_KernelIdeal [hKernelIdeal : Cert.KernelIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_within_capacity_ReferenceIdeal [hReferenceIdeal : Cert.ReferenceIdeal.Facts] [hPre_routed_within_capacity_ReferenceIdeal : Cert.Pre_routed_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_within_capacity_KernelIdeal [hKernelIdeal : Cert.KernelIdeal.Facts] [hReferenceIdeal : Cert.ReferenceIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_within_capacity_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![16384, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_within_capacity_KernelIdeal : Cert.Pre_routed_within_capacity_KernelIdeal.Facts) (hPre_routed_within_capacity_ReferenceIdeal : Cert.Pre_routed_within_capacity_ReferenceIdeal.Facts),
    quiescent_Kernel (hKernel := hKernel)
    ∧ quiescent_KernelIdeal (hKernelIdeal := hKernelIdeal)
    ∧ quiescent_KernelIdeal_pre_routed_within_capacity_KernelIdeal (hKernelIdeal := hKernelIdeal) (hPre_routed_within_capacity_KernelIdeal := hPre_routed_within_capacity_KernelIdeal)
    ∧ quiescent_ReferenceIdeal (hReferenceIdeal := hReferenceIdeal)
    ∧ quiescent_ReferenceIdeal_pre_routed_within_capacity_ReferenceIdeal (hReferenceIdeal := hReferenceIdeal) (hPre_routed_within_capacity_ReferenceIdeal := hPre_routed_within_capacity_ReferenceIdeal)
    ∧ preserves_Kernel_KernelIdeal
    ∧ algebraic_KernelIdeal_ReferenceIdeal_pre_routed_within_capacity_KernelIdeal (hKernelIdeal := hKernelIdeal) (hReferenceIdeal := hReferenceIdeal) (hPre_routed_within_capacity_KernelIdeal := hPre_routed_within_capacity_KernelIdeal)
-- ==== Pre_routed_within_capacity_KernelIdeal.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S_ : Shape := ⟨0, ![]⟩
abbrev S512x64 : Shape := ⟨2, ![512, 64]⟩
abbrev S512x1 : Shape := ⟨2, ![512, 1]⟩
abbrev S64 : Shape := ⟨1, ![64]⟩

class Facts : Prop where
  bcast_S_S512x2 : S_.BroadcastsInDim S512x2 (![] : Fin 0 → Fin S512x2.rank)
  slices_S512x2_S512x1_0_0 : S512x2.Slices ![0, 0] S512x1
  bcast_S512x1_S512x64_0_1 : S512x1.BroadcastsInDim S512x64 (![0, 1] : Fin 2 → Fin S512x64.rank)
  slices_S512x2_S512x1_0_1 : S512x2.Slices ![0, 1] S512x1
  natLt_1_32 : 1 < 32
  reducesTo_S512x64_S64_d0 : S512x64.ReducesTo [0] S64
  h_S_ : 0 < S_.numel
  reducesTo_S512x2_S_d0_1 : S512x2.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v15 : IVec S_ 1) (main_v17 : IVec S64 1) (main_c_4 : IVec S_ 1) : IVec S_ 1 :=
  let main_v18 : IVec S_ 1 := (fun x v => Host.reduce IntOp.andi x v reducesTo_S64_S_d0 h_S_) main_v17 main_c_4
  let main_v19 : IVec S_ 1 := andi main_v15 main_v18
  main_v19

def fn {F : FTy → Type} [FloatOps F] (main_arg0 : FVec F S512x256 .f32) (main_arg1 : FVec F S256x64 .f32) (main_arg2 : IVec S512x2 32) (main_arg3 : FVec F S2x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 64#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : IVec S512x64 32 := iotaInDim S512x64 32 1
  let main_v6 : IVec S512x1 32 := (extractStridedSlice S512x1 ![0, 0] · slices_S512x2_S512x1_0_0) main_arg2
  let main_v7 : IVec S512x64 32 := broadcastInDim S512x64 ![0, 1] bcast_S512x1_S512x64_0_1 main_v6
  let main_v8 : IVec S512x64 1 := cmpi .eq main_v7 main_v5
  let main_v9 : IVec S512x1 32 := (extractStridedSlice S512x1 ![0, 1] · slices_S512x2_S512x1_0_1) main_arg2
  let main_v10 : IVec S512x64 32 := broadcastInDim S512x64 ![0, 1] bcast_S512x1_S512x64_0_1 main_v9
  let main_v11 : IVec S512x64 1 := cmpi .eq main_v10 main_v5
  let main_v12 : IVec S512x64 1 := ori main_v8 main_v11
  let main_v13 : IVec S512x64 32 := (extui 32 · natLt_1_32) main_v12
  let main_c_1 : IVec S_ 32 := constantI S_ 32 0#32
  let main_v14 : IVec S64 32 := (fun x v => Host.reduce IntOp.addi x v reducesTo_S512x64_S64_d0 h_S_) main_v13 main_c_1
  let main_c_2 : IVec S_ 1 := constantI S_ 1 1#1
  let main_v15 : IVec S_ 1 := (fun x v => Host.reduce IntOp.andi x v reducesTo_S512x2_S_d0_1 h_S_) main_v4 main_c_2
  let main_c_3 : IVec S_ 32 := constantI S_ 32 48#32
  let main_v16 : IVec S64 32 := broadcastInDim S64 ![] bcast_S_S64 main_c_3
  let main_v17 : IVec S64 1 := cmpi .sle main_v14 main_v16
  let main_c_4 : IVec S_ 1 := constantI S_ 1 1#1
  fn_part1 (F := F) main_v15 main_v17 main_c_4
-- ==== Pre_routed_within_capacity_ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S_ : Shape := ⟨0, ![]⟩
abbrev S16384x64 : Shape := ⟨2, ![16384, 64]⟩
abbrev S16384x1 : Shape := ⟨2, ![16384, 1]⟩
abbrev S64 : Shape := ⟨1, ![64]⟩

class Facts : Prop where
  bcast_S_S16384x2 : S_.BroadcastsInDim S16384x2 (![] : Fin 0 → Fin S16384x2.rank)
  slices_S16384x2_S16384x1_0_0 : S16384x2.Slices ![0, 0] S16384x1
  bcast_S16384x1_S16384x64_0_1 : S16384x1.BroadcastsInDim S16384x64 (![0, 1] : Fin 2 → Fin S16384x64.rank)
  slices_S16384x2_S16384x1_0_1 : S16384x2.Slices ![0, 1] S16384x1
  natLt_1_32 : 1 < 32
  reducesTo_S16384x64_S64_d0 : S16384x64.ReducesTo [0] S64
  h_S_ : 0 < S_.numel
  reducesTo_S16384x2_S_d0_1 : S16384x2.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v15 : IVec S_ 1) (main_v17 : IVec S64 1) (main_c_4 : IVec S_ 1) : IVec S_ 1 :=
  let main_v18 : IVec S_ 1 := (fun x v => Host.reduce IntOp.andi x v reducesTo_S64_S_d0 h_S_) main_v17 main_c_4
  let main_v19 : IVec S_ 1 := andi main_v15 main_v18
  main_v19

def fn {F : FTy → Type} [FloatOps F] (main_arg0 : FVec F S16384x256 .f32) (main_arg1 : FVec F S256x64 .f32) (main_arg2 : IVec S16384x2 32) (main_arg3 : FVec F S64x256x512 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg2 main_v0
  let main_c_0 : IVec S_ 32 := constantI S_ 32 64#32
  let main_v2 : IVec S16384x2 32 := broadcastInDim S16384x2 ![] bcast_S_S16384x2 main_c_0
  let main_v3 : IVec S16384x2 1 := cmpi .slt main_arg2 main_v2
  let main_v4 : IVec S16384x2 1 := andi main_v1 main_v3
  let main_v5 : IVec S16384x64 32 := iotaInDim S16384x64 32 1
  let main_v6 : IVec S16384x1 32 := (extractStridedSlice S16384x1 ![0, 0] · slices_S16384x2_S16384x1_0_0) main_arg2
  let main_v7 : IVec S16384x64 32 := broadcastInDim S16384x64 ![0, 1] bcast_S16384x1_S16384x64_0_1 main_v6
  let main_v8 : IVec S16384x64 1 := cmpi .eq main_v7 main_v5
  let main_v9 : IVec S16384x1 32 := (extractStridedSlice S16384x1 ![0, 1] · slices_S16384x2_S16384x1_0_1) main_arg2
  let main_v10 : IVec S16384x64 32 := broadcastInDim S16384x64 ![0, 1] bcast_S16384x1_S16384x64_0_1 main_v9
  let main_v11 : IVec S16384x64 1 := cmpi .eq main_v10 main_v5
  let main_v12 : IVec S16384x64 1 := ori main_v8 main_v11
  let main_v13 : IVec S16384x64 32 := (extui 32 · natLt_1_32) main_v12
  let main_c_1 : IVec S_ 32 := constantI S_ 32 0#32
  let main_v14 : IVec S64 32 := (fun x v => Host.reduce IntOp.addi x v reducesTo_S16384x64_S64_d0 h_S_) main_v13 main_c_1
  let main_c_2 : IVec S_ 1 := constantI S_ 1 1#1
  let main_v15 : IVec S_ 1 := (fun x v => Host.reduce IntOp.andi x v reducesTo_S16384x2_S_d0_1 h_S_) main_v4 main_c_2
  let main_c_3 : IVec S_ 32 := constantI S_ 32 48#32
  let main_v16 : IVec S64 32 := broadcastInDim S64 ![] bcast_S_S64 main_c_3
  let main_v17 : IVec S64 1 := cmpi .sle main_v14 main_v16
  let main_c_4 : IVec S_ 1 := constantI S_ 1 1#1
  fn_part1 (F := F) main_v15 main_v17 main_c_4
-- ==== Kernel.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x512 : Shape := ⟨2, ![512, 512]⟩
abbrev S32x2x48x256 : Shape := ⟨4, ![32, 2, 48, 256]⟩
abbrev S32x2x48x512 : Shape := ⟨4, ![32, 2, 48, 512]⟩
abbrev S32 : Shape := ⟨1, ![32]⟩
abbrev S_ : Shape := ⟨0, ![]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S64x512 : Shape := ⟨2, ![64, 512]⟩
abbrev S64x48x512 : Shape := ⟨3, ![64, 48, 512]⟩
abbrev S64x1x512 : Shape := ⟨3, ![64, 1, 512]⟩
abbrev S3072x512 : Shape := ⟨2, ![3072, 512]⟩
abbrev S3072x256 : Shape := ⟨2, ![3072, 256]⟩
abbrev S1 : Shape := ⟨1, ![1]⟩
abbrev S1x2x48x256 : Shape := ⟨4, ![1, 2, 48, 256]⟩
abbrev S16x2x48x256 : Shape := ⟨4, ![16, 2, 48, 256]⟩
abbrev S16x1x48x256 : Shape := ⟨4, ![16, 1, 48, 256]⟩
abbrev S16x48x256 : Shape := ⟨3, ![16, 48, 256]⟩
abbrev S768x256 : Shape := ⟨2, ![768, 256]⟩
abbrev S1x256x512 : Shape := ⟨3, ![1, 256, 512]⟩
abbrev S256x512 : Shape := ⟨2, ![256, 512]⟩
abbrev S768x512 : Shape := ⟨2, ![768, 512]⟩
abbrev S16x48x512 : Shape := ⟨3, ![16, 48, 512]⟩
abbrev S16x1x48x512 : Shape := ⟨4, ![16, 1, 48, 512]⟩
abbrev S16x2x48x512 : Shape := ⟨4, ![16, 2, 48, 512]⟩
abbrev S1x2x48x512 : Shape := ⟨4, ![1, 2, 48, 512]⟩
abbrev S1536x512 : Shape := ⟨2, ![1536, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S32x2x48x256, .bf16⟩
  | .local _ .vmem, ⟨6, _⟩ => ⟨S32x2x48x256, .bf16⟩
  | .local _ .vmem, ⟨7, _⟩ => ⟨S32x2x48x512, .bf16⟩
  | .local _ .vmem, ⟨8, _⟩ => ⟨S32x2x48x512, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_144 : BitVec 32 := 0#32
  let v221 : BitVec 1 := Scalar.cmpi .ne v2 c0_i32_144
  let v222 : BitVec 32 := Scalar.extui v221
  let c0_i32_146 : BitVec 32 := 0#32
  let v223 : BitVec 1 := Scalar.cmpi .ne v222 c0_i32_146
  v223

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev32 : Nat :=
  let c0_i32_897 : BitVec 32 := 0#32
  let c0_i32_895 : BitVec 32 := 0#32
  let c1_i32_896 : BitVec 32 := 1#32
  let v870 : BitVec 32 := Scalar.muli c0_i32_895 c1_i32_896
  let v871 : BitVec 32 := Scalar.addi c0_i32_897 v870
  v871.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_147 : BitVec 32 := 1#32
  let v224 : BitVec 1 := Scalar.cmpi .ne v2 c1_i32_147
  let v225 : BitVec 32 := Scalar.extui v224
  let c0_i32_149 : BitVec 32 := 0#32
  let v226 : BitVec 1 := Scalar.cmpi .ne v225 c0_i32_149
  v226

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev33 : Nat :=
  let c0_i32_897 : BitVec 32 := 0#32
  let c1_i32_895 : BitVec 32 := 1#32
  let c1_i32_896 : BitVec 32 := 1#32
  let v870 : BitVec 32 := Scalar.muli c1_i32_895 c1_i32_896
  let v871 : BitVec 32 := Scalar.addi c0_i32_897 v870
  v871.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v227 : BitVec 1 := Scalar.cmpi .ne v2 c2_i32_150
  let v228 : BitVec 32 := Scalar.extui v227
  let c0_i32_152 : BitVec 32 := 0#32
  let v229 : BitVec 1 := Scalar.cmpi .ne v228 c0_i32_152
  v229

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev34 : Nat :=
  let c0_i32_897 : BitVec 32 := 0#32
  let c2_i32_895 : BitVec 32 := 2#32
  let c1_i32_896 : BitVec 32 := 1#32
  let v870 : BitVec 32 := Scalar.muli c2_i32_895 c1_i32_896
  let v871 : BitVec 32 := Scalar.addi c0_i32_897 v870
  v871.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v230 : BitVec 1 := Scalar.cmpi .ne v2 c3_i32_153
  let v231 : BitVec 32 := Scalar.extui v230
  let c0_i32_155 : BitVec 32 := 0#32
  let v232 : BitVec 1 := Scalar.cmpi .ne v231 c0_i32_155
  v232

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev35 : Nat :=
  let c0_i32_897 : BitVec 32 := 0#32
  let c3_i32_895 : BitVec 32 := 3#32
  let c1_i32_896 : BitVec 32 := 1#32
  let v870 : BitVec 32 := Scalar.muli c3_i32_895 c1_i32_896
  let v871 : BitVec 32 := Scalar.addi c0_i32_897 v870
  v871.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_156 : BitVec 32 := 4#32
  let v233 : BitVec 1 := Scalar.cmpi .ne v2 c4_i32_156
  let v234 : BitVec 32 := Scalar.extui v233
  let c0_i32_158 : BitVec 32 := 0#32
  let v235 : BitVec 1 := Scalar.cmpi .ne v234 c0_i32_158
  v235

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev36 : Nat :=
  let c0_i32_897 : BitVec 32 := 0#32
  let c4_i32_895 : BitVec 32 := 4#32
  let c1_i32_896 : BitVec 32 := 1#32
  let v870 : BitVec 32 := Scalar.muli c4_i32_895 c1_i32_896
  let v871 : BitVec 32 := Scalar.addi c0_i32_897 v870
  v871.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_159 : BitVec 32 := 5#32
  let v236 : BitVec 1 := Scalar.cmpi .ne v2 c5_i32_159
  let v237 : BitVec 32 := Scalar.extui v236
  let c0_i32_161 : BitVec 32 := 0#32
  let v238 : BitVec 1 := Scalar.cmpi .ne v237 c0_i32_161
  v238

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev37 : Nat :=
  let c0_i32_897 : BitVec 32 := 0#32
  let c5_i32_895 : BitVec 32 := 5#32
  let c1_i32_896 : BitVec 32 := 1#32
  let v870 : BitVec 32 := Scalar.muli c5_i32_895 c1_i32_896
  let v871 : BitVec 32 := Scalar.addi c0_i32_897 v870
  v871.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_162 : BitVec 32 := 6#32
  let v239 : BitVec 1 := Scalar.cmpi .ne v2 c6_i32_162
  let v240 : BitVec 32 := Scalar.extui v239
  let c0_i32_164 : BitVec 32 := 0#32
  let v241 : BitVec 1 := Scalar.cmpi .ne v240 c0_i32_164
  v241

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev38 : Nat :=
  let c0_i32_897 : BitVec 32 := 0#32
  let c6_i32_895 : BitVec 32 := 6#32
  let c1_i32_896 : BitVec 32 := 1#32
  let v870 : BitVec 32 := Scalar.muli c6_i32_895 c1_i32_896
  let v871 : BitVec 32 := Scalar.addi c0_i32_897 v870
  v871.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_165 : BitVec 32 := 7#32
  let v242 : BitVec 1 := Scalar.cmpi .ne v2 c7_i32_165
  let v243 : BitVec 32 := Scalar.extui v242
  let c0_i32_167 : BitVec 32 := 0#32
  let v244 : BitVec 1 := Scalar.cmpi .ne v243 c0_i32_167
  v244

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev39 : Nat :=
  let c0_i32_897 : BitVec 32 := 0#32
  let c7_i32_895 : BitVec 32 := 7#32
  let c1_i32_896 : BitVec 32 := 1#32
  let v870 : BitVec 32 := Scalar.muli c7_i32_895 c1_i32_896
  let v871 : BitVec 32 := Scalar.addi c0_i32_897 v870
  v871.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_168 : BitVec 32 := 8#32
  let v245 : BitVec 1 := Scalar.cmpi .ne v2 c8_i32_168
  let v246 : BitVec 32 := Scalar.extui v245
  let c0_i32_170 : BitVec 32 := 0#32
  let v247 : BitVec 1 := Scalar.cmpi .ne v246 c0_i32_170
  v247

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev40 : Nat :=
  let c0_i32_897 : BitVec 32 := 0#32
  let c8_i32_895 : BitVec 32 := 8#32
  let c1_i32_896 : BitVec 32 := 1#32
  let v870 : BitVec 32 := Scalar.muli c8_i32_895 c1_i32_896
  let v871 : BitVec 32 := Scalar.addi c0_i32_897 v870
  v871.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_171 : BitVec 32 := 9#32
  let v248 : BitVec 1 := Scalar.cmpi .ne v2 c9_i32_171
  let v249 : BitVec 32 := Scalar.extui v248
  let c0_i32_173 : BitVec 32 := 0#32
  let v250 : BitVec 1 := Scalar.cmpi .ne v249 c0_i32_173
  v250

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev41 : Nat :=
  let c0_i32_897 : BitVec 32 := 0#32
  let c9_i32_895 : BitVec 32 := 9#32
  let c1_i32_896 : BitVec 32 := 1#32
  let v870 : BitVec 32 := Scalar.muli c9_i32_895 c1_i32_896
  let v871 : BitVec 32 := Scalar.addi c0_i32_897 v870
  v871.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_174 : BitVec 32 := 10#32
  let v251 : BitVec 1 := Scalar.cmpi .ne v2 c10_i32_174
  let v252 : BitVec 32 := Scalar.extui v251
  let c0_i32_176 : BitVec 32 := 0#32
  let v253 : BitVec 1 := Scalar.cmpi .ne v252 c0_i32_176
  v253

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev42 : Nat :=
  let c0_i32_897 : BitVec 32 := 0#32
  let c10_i32_895 : BitVec 32 := 10#32
  let c1_i32_896 : BitVec 32 := 1#32
  let v870 : BitVec 32 := Scalar.muli c10_i32_895 c1_i32_896
  let v871 : BitVec 32 := Scalar.addi c0_i32_897 v870
  v871.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_177 : BitVec 32 := 11#32
  let v254 : BitVec 1 := Scalar.cmpi .ne v2 c11_i32_177
  let v255 : BitVec 32 := Scalar.extui v254
  let c0_i32_179 : BitVec 32 := 0#32
  let v256 : BitVec 1 := Scalar.cmpi .ne v255 c0_i32_179
  v256

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev43 : Nat :=
  let c0_i32_897 : BitVec 32 := 0#32
  let c11_i32_895 : BitVec 32 := 11#32
  let c1_i32_896 : BitVec 32 := 1#32
  let v870 : BitVec 32 := Scalar.muli c11_i32_895 c1_i32_896
  let v871 : BitVec 32 := Scalar.addi c0_i32_897 v870
  v871.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_180 : BitVec 32 := 12#32
  let v257 : BitVec 1 := Scalar.cmpi .ne v2 c12_i32_180
  let v258 : BitVec 32 := Scalar.extui v257
  let c0_i32_182 : BitVec 32 := 0#32
  let v259 : BitVec 1 := Scalar.cmpi .ne v258 c0_i32_182
  v259

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev44 : Nat :=
  let c0_i32_897 : BitVec 32 := 0#32
  let c12_i32_895 : BitVec 32 := 12#32
  let c1_i32_896 : BitVec 32 := 1#32
  let v870 : BitVec 32 := Scalar.muli c12_i32_895 c1_i32_896
  let v871 : BitVec 32 := Scalar.addi c0_i32_897 v870
  v871.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_183 : BitVec 32 := 13#32
  let v260 : BitVec 1 := Scalar.cmpi .ne v2 c13_i32_183
  let v261 : BitVec 32 := Scalar.extui v260
  let c0_i32_185 : BitVec 32 := 0#32
  let v262 : BitVec 1 := Scalar.cmpi .ne v261 c0_i32_185
  v262

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev45 : Nat :=
  let c0_i32_897 : BitVec 32 := 0#32
  let c13_i32_895 : BitVec 32 := 13#32
  let c1_i32_896 : BitVec 32 := 1#32
  let v870 : BitVec 32 := Scalar.muli c13_i32_895 c1_i32_896
  let v871 : BitVec 32 := Scalar.addi c0_i32_897 v870
  v871.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_186 : BitVec 32 := 14#32
  let v263 : BitVec 1 := Scalar.cmpi .ne v2 c14_i32_186
  let v264 : BitVec 32 := Scalar.extui v263
  let c0_i32_188 : BitVec 32 := 0#32
  let v265 : BitVec 1 := Scalar.cmpi .ne v264 c0_i32_188
  v265

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev46 : Nat :=
  let c0_i32_897 : BitVec 32 := 0#32
  let c14_i32_895 : BitVec 32 := 14#32
  let c1_i32_896 : BitVec 32 := 1#32
  let v870 : BitVec 32 := Scalar.muli c14_i32_895 c1_i32_896
  let v871 : BitVec 32 := Scalar.addi c0_i32_897 v870
  v871.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_189 : BitVec 32 := 15#32
  let v266 : BitVec 1 := Scalar.cmpi .ne v2 c15_i32_189
  let v267 : BitVec 32 := Scalar.extui v266
  let c0_i32_191 : BitVec 32 := 0#32
  let v268 : BitVec 1 := Scalar.cmpi .ne v267 c0_i32_191
  v268

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev47 : Nat :=
  let c0_i32_897 : BitVec 32 := 0#32
  let c15_i32_895 : BitVec 32 := 15#32
  let c1_i32_896 : BitVec 32 := 1#32
  let v870 : BitVec 32 := Scalar.muli c15_i32_895 c1_i32_896
  let v871 : BitVec 32 := Scalar.addi c0_i32_897 v870
  v871.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_192 : BitVec 32 := 16#32
  let v269 : BitVec 1 := Scalar.cmpi .ne v2 c16_i32_192
  let v270 : BitVec 32 := Scalar.extui v269
  let c0_i32_194 : BitVec 32 := 0#32
  let v271 : BitVec 1 := Scalar.cmpi .ne v270 c0_i32_194
  v271

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev48 : Nat :=
  let c0_i32_897 : BitVec 32 := 0#32
  let c16_i32_895 : BitVec 32 := 16#32
  let c1_i32_896 : BitVec 32 := 1#32
  let v870 : BitVec 32 := Scalar.muli c16_i32_895 c1_i32_896
  let v871 : BitVec 32 := Scalar.addi c0_i32_897 v870
  v871.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_195 : BitVec 32 := 17#32
  let v272 : BitVec 1 := Scalar.cmpi .ne v2 c17_i32_195
  let v273 : BitVec 32 := Scalar.extui v272
  let c0_i32_197 : BitVec 32 := 0#32
  let v274 : BitVec 1 := Scalar.cmpi .ne v273 c0_i32_197
  v274

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev49 : Nat :=
  let c0_i32_897 : BitVec 32 := 0#32
  let c17_i32_895 : BitVec 32 := 17#32
  let c1_i32_896 : BitVec 32 := 1#32
  let v870 : BitVec 32 := Scalar.muli c17_i32_895 c1_i32_896
  let v871 : BitVec 32 := Scalar.addi c0_i32_897 v870
  v871.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_198 : BitVec 32 := 18#32
  let v275 : BitVec 1 := Scalar.cmpi .ne v2 c18_i32_198
  let v276 : BitVec 32 := Scalar.extui v275
  let c0_i32_200 : BitVec 32 := 0#32
  let v277 : BitVec 1 := Scalar.cmpi .ne v276 c0_i32_200
  v277

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev50 : Nat :=
  let c0_i32_897 : BitVec 32 := 0#32
  let c18_i32_895 : BitVec 32 := 18#32
  let c1_i32_896 : BitVec 32 := 1#32
  let v870 : BitVec 32 := Scalar.muli c18_i32_895 c1_i32_896
  let v871 : BitVec 32 := Scalar.addi c0_i32_897 v870
  v871.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_201 : BitVec 32 := 19#32
  let v278 : BitVec 1 := Scalar.cmpi .ne v2 c19_i32_201
  let v279 : BitVec 32 := Scalar.extui v278
  let c0_i32_203 : BitVec 32 := 0#32
  let v280 : BitVec 1 := Scalar.cmpi .ne v279 c0_i32_203
  v280

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev51 : Nat :=
  let c0_i32_897 : BitVec 32 := 0#32
  let c19_i32_895 : BitVec 32 := 19#32
  let c1_i32_896 : BitVec 32 := 1#32
  let v870 : BitVec 32 := Scalar.muli c19_i32_895 c1_i32_896
  let v871 : BitVec 32 := Scalar.addi c0_i32_897 v870
  v871.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_204 : BitVec 32 := 20#32
  let v281 : BitVec 1 := Scalar.cmpi .ne v2 c20_i32_204
  let v282 : BitVec 32 := Scalar.extui v281
  let c0_i32_206 : BitVec 32 := 0#32
  let v283 : BitVec 1 := Scalar.cmpi .ne v282 c0_i32_206
  v283

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev52 : Nat :=
  let c0_i32_897 : BitVec 32 := 0#32
  let c20_i32_895 : BitVec 32 := 20#32
  let c1_i32_896 : BitVec 32 := 1#32
  let v870 : BitVec 32 := Scalar.muli c20_i32_895 c1_i32_896
  let v871 : BitVec 32 := Scalar.addi c0_i32_897 v870
  v871.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_207 : BitVec 32 := 21#32
  let v284 : BitVec 1 := Scalar.cmpi .ne v2 c21_i32_207
  let v285 : BitVec 32 := Scalar.extui v284
  let c0_i32_209 : BitVec 32 := 0#32
  let v286 : BitVec 1 := Scalar.cmpi .ne v285 c0_i32_209
  v286

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev53 : Nat :=
  let c0_i32_897 : BitVec 32 := 0#32
  let c21_i32_895 : BitVec 32 := 21#32
  let c1_i32_896 : BitVec 32 := 1#32
  let v870 : BitVec 32 := Scalar.muli c21_i32_895 c1_i32_896
  let v871 : BitVec 32 := Scalar.addi c0_i32_897 v870
  v871.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_210 : BitVec 32 := 22#32
  let v287 : BitVec 1 := Scalar.cmpi .ne v2 c22_i32_210
  let v288 : BitVec 32 := Scalar.extui v287
  let c0_i32_212 : BitVec 32 := 0#32
  let v289 : BitVec 1 := Scalar.cmpi .ne v288 c0_i32_212
  v289

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev54 : Nat :=
  let c0_i32_897 : BitVec 32 := 0#32
  let c22_i32_895 : BitVec 32 := 22#32
  let c1_i32_896 : BitVec 32 := 1#32
  let v870 : BitVec 32 := Scalar.muli c22_i32_895 c1_i32_896
  let v871 : BitVec 32 := Scalar.addi c0_i32_897 v870
  v871.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_213 : BitVec 32 := 23#32
  let v290 : BitVec 1 := Scalar.cmpi .ne v2 c23_i32_213
  let v291 : BitVec 32 := Scalar.extui v290
  let c0_i32_215 : BitVec 32 := 0#32
  let v292 : BitVec 1 := Scalar.cmpi .ne v291 c0_i32_215
  v292

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev55 : Nat :=
  let c0_i32_897 : BitVec 32 := 0#32
  let c23_i32_895 : BitVec 32 := 23#32
  let c1_i32_896 : BitVec 32 := 1#32
  let v870 : BitVec 32 := Scalar.muli c23_i32_895 c1_i32_896
  let v871 : BitVec 32 := Scalar.addi c0_i32_897 v870
  v871.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_216 : BitVec 32 := 24#32
  let v293 : BitVec 1 := Scalar.cmpi .ne v2 c24_i32_216
  let v294 : BitVec 32 := Scalar.extui v293
  let c0_i32_218 : BitVec 32 := 0#32
  let v295 : BitVec 1 := Scalar.cmpi .ne v294 c0_i32_218
  v295

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev56 : Nat :=
  let c0_i32_897 : BitVec 32 := 0#32
  let c24_i32_895 : BitVec 32 := 24#32
  let c1_i32_896 : BitVec 32 := 1#32
  let v870 : BitVec 32 := Scalar.muli c24_i32_895 c1_i32_896
  let v871 : BitVec 32 := Scalar.addi c0_i32_897 v870
  v871.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_219 : BitVec 32 := 25#32
  let v296 : BitVec 1 := Scalar.cmpi .ne v2 c25_i32_219
  let v297 : BitVec 32 := Scalar.extui v296
  let c0_i32_221 : BitVec 32 := 0#32
  let v298 : BitVec 1 := Scalar.cmpi .ne v297 c0_i32_221
  v298

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev57 : Nat :=
  let c0_i32_897 : BitVec 32 := 0#32
  let c25_i32_895 : BitVec 32 := 25#32
  let c1_i32_896 : BitVec 32 := 1#32
  let v870 : BitVec 32 := Scalar.muli c25_i32_895 c1_i32_896
  let v871 : BitVec 32 := Scalar.addi c0_i32_897 v870
  v871.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_222 : BitVec 32 := 26#32
  let v299 : BitVec 1 := Scalar.cmpi .ne v2 c26_i32_222
  let v300 : BitVec 32 := Scalar.extui v299
  let c0_i32_224 : BitVec 32 := 0#32
  let v301 : BitVec 1 := Scalar.cmpi .ne v300 c0_i32_224
  v301

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev58 : Nat :=
  let c0_i32_897 : BitVec 32 := 0#32
  let c26_i32_895 : BitVec 32 := 26#32
  let c1_i32_896 : BitVec 32 := 1#32
  let v870 : BitVec 32 := Scalar.muli c26_i32_895 c1_i32_896
  let v871 : BitVec 32 := Scalar.addi c0_i32_897 v870
  v871.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_225 : BitVec 32 := 27#32
  let v302 : BitVec 1 := Scalar.cmpi .ne v2 c27_i32_225
  let v303 : BitVec 32 := Scalar.extui v302
  let c0_i32_227 : BitVec 32 := 0#32
  let v304 : BitVec 1 := Scalar.cmpi .ne v303 c0_i32_227
  v304

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev59 : Nat :=
  let c0_i32_897 : BitVec 32 := 0#32
  let c27_i32_895 : BitVec 32 := 27#32
  let c1_i32_896 : BitVec 32 := 1#32
  let v870 : BitVec 32 := Scalar.muli c27_i32_895 c1_i32_896
  let v871 : BitVec 32 := Scalar.addi c0_i32_897 v870
  v871.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_228 : BitVec 32 := 28#32
  let v305 : BitVec 1 := Scalar.cmpi .ne v2 c28_i32_228
  let v306 : BitVec 32 := Scalar.extui v305
  let c0_i32_230 : BitVec 32 := 0#32
  let v307 : BitVec 1 := Scalar.cmpi .ne v306 c0_i32_230
  v307

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev60 : Nat :=
  let c0_i32_897 : BitVec 32 := 0#32
  let c28_i32_895 : BitVec 32 := 28#32
  let c1_i32_896 : BitVec 32 := 1#32
  let v870 : BitVec 32 := Scalar.muli c28_i32_895 c1_i32_896
  let v871 : BitVec 32 := Scalar.addi c0_i32_897 v870
  v871.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_231 : BitVec 32 := 29#32
  let v308 : BitVec 1 := Scalar.cmpi .ne v2 c29_i32_231
  let v309 : BitVec 32 := Scalar.extui v308
  let c0_i32_233 : BitVec 32 := 0#32
  let v310 : BitVec 1 := Scalar.cmpi .ne v309 c0_i32_233
  v310

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev61 : Nat :=
  let c0_i32_897 : BitVec 32 := 0#32
  let c29_i32_895 : BitVec 32 := 29#32
  let c1_i32_896 : BitVec 32 := 1#32
  let v870 : BitVec 32 := Scalar.muli c29_i32_895 c1_i32_896
  let v871 : BitVec 32 := Scalar.addi c0_i32_897 v870
  v871.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_234 : BitVec 32 := 30#32
  let v311 : BitVec 1 := Scalar.cmpi .ne v2 c30_i32_234
  let v312 : BitVec 32 := Scalar.extui v311
  let c0_i32_236 : BitVec 32 := 0#32
  let v313 : BitVec 1 := Scalar.cmpi .ne v312 c0_i32_236
  v313

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev62 : Nat :=
  let c0_i32_897 : BitVec 32 := 0#32
  let c30_i32_895 : BitVec 32 := 30#32
  let c1_i32_896 : BitVec 32 := 1#32
  let v870 : BitVec 32 := Scalar.muli c30_i32_895 c1_i32_896
  let v871 : BitVec 32 := Scalar.addi c0_i32_897 v870
  v871.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_237 : BitVec 32 := 31#32
  let v314 : BitVec 1 := Scalar.cmpi .ne v2 c31_i32_237
  let v315 : BitVec 32 := Scalar.extui v314
  let c0_i32_239 : BitVec 32 := 0#32
  let v316 : BitVec 1 := Scalar.cmpi .ne v315 c0_i32_239
  v316

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev63 : Nat :=
  let c0_i32_897 : BitVec 32 := 0#32
  let c31_i32_895 : BitVec 32 := 31#32
  let c1_i32_896 : BitVec 32 := 1#32
  let v870 : BitVec 32 := Scalar.muli c31_i32_895 c1_i32_896
  let v871 : BitVec 32 := Scalar.addi c0_i32_897 v870
  v871.toNat
def k0_off65 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v317 : Index := Scalar.indexCast v2
  let c0_240 : Index := 0#32
  let c0_241 : Index := 0#32
  let c0_242 : Index := 0#32
  ![v317.toNat, 0, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_323 : BitVec 32 := 0#32
  let v397 : BitVec 1 := Scalar.cmpi .ne v2 c0_i32_323
  let v398 : BitVec 32 := Scalar.extui v397
  let c0_i32_325 : BitVec 32 := 0#32
  let v399 : BitVec 1 := Scalar.cmpi .ne v398 c0_i32_325
  v399

def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off67 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev64 : Nat :=
  let c0_i32_897 : BitVec 32 := 0#32
  let c0_i32_895 : BitVec 32 := 0#32
  let c1_i32_896 : BitVec 32 := 1#32
  let v870 : BitVec 32 := Scalar.muli c0_i32_895 c1_i32_896
  let v871 : BitVec 32 := Scalar.addi c0_i32_897 v870
  v871.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_326 : BitVec 32 := 1#32
  let v400 : BitVec 1 := Scalar.cmpi .ne v2 c1_i32_326
  let v401 : BitVec 32 := Scalar.extui v400
  let c0_i32_328 : BitVec 32 := 0#32
  let v402 : BitVec 1 := Scalar.cmpi .ne v401 c0_i32_328
  v402

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev65 : Nat :=
  let c0_i32_897 : BitVec 32 := 0#32
  let c1_i32_895 : BitVec 32 := 1#32
  let c1_i32_896 : BitVec 32 := 1#32
  let v870 : BitVec 32 := Scalar.muli c1_i32_895 c1_i32_896
  let v871 : BitVec 32 := Scalar.addi c0_i32_897 v870
  v871.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_329 : BitVec 32 := 2#32
  let v403 : BitVec 1 := Scalar.cmpi .ne v2 c2_i32_329
  let v404 : BitVec 32 := Scalar.extui v403
  let c0_i32_331 : BitVec 32 := 0#32
  let v405 : BitVec 1 := Scalar.cmpi .ne v404 c0_i32_331
  v405

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev66 : Nat :=
  let c0_i32_897 : BitVec 32 := 0#32
  let c2_i32_895 : BitVec 32 := 2#32
  let c1_i32_896 : BitVec 32 := 1#32
  let v870 : BitVec 32 := Scalar.muli c2_i32_895 c1_i32_896
  let v871 : BitVec 32 := Scalar.addi c0_i32_897 v870
  v871.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_332 : BitVec 32 := 3#32
  let v406 : BitVec 1 := Scalar.cmpi .ne v2 c3_i32_332
  let v407 : BitVec 32 := Scalar.extui v406
  let c0_i32_334 : BitVec 32 := 0#32
  let v408 : BitVec 1 := Scalar.cmpi .ne v407 c0_i32_334
  v408

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev67 : Nat :=
  let c0_i32_897 : BitVec 32 := 0#32
  let c3_i32_895 : BitVec 32 := 3#32
  let c1_i32_896 : BitVec 32 := 1#32
  let v870 : BitVec 32 := Scalar.muli c3_i32_895 c1_i32_896
  let v871 : BitVec 32 := Scalar.addi c0_i32_897 v870
  v871.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_335 : BitVec 32 := 4#32
  let v409 : BitVec 1 := Scalar.cmpi .ne v2 c4_i32_335
  let v410 : BitVec 32 := Scalar.extui v409
  let c0_i32_337 : BitVec 32 := 0#32
  let v411 : BitVec 1 := Scalar.cmpi .ne v410 c0_i32_337
  v411

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev68 : Nat :=
  let c0_i32_897 : BitVec 32 := 0#32
  let c4_i32_895 : BitVec 32 := 4#32
  let c1_i32_896 : BitVec 32 := 1#32
  let v870 : BitVec 32 := Scalar.muli c4_i32_895 c1_i32_896
  let v871 : BitVec 32 := Scalar.addi c0_i32_897 v870
  v871.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_338 : BitVec 32 := 5#32
  let v412 : BitVec 1 := Scalar.cmpi .ne v2 c5_i32_338
  let v413 : BitVec 32 := Scalar.extui v412
  let c0_i32_340 : BitVec 32 := 0#32
  let v414 : BitVec 1 := Scalar.cmpi .ne v413 c0_i32_340
  v414

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev69 : Nat :=
  let c0_i32_897 : BitVec 32 := 0#32
  let c5_i32_895 : BitVec 32 := 5#32
  let c1_i32_896 : BitVec 32 := 1#32
  let v870 : BitVec 32 := Scalar.muli c5_i32_895 c1_i32_896
  let v871 : BitVec 32 := Scalar.addi c0_i32_897 v870
  v871.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_341 : BitVec 32 := 6#32
  let v415 : BitVec 1 := Scalar.cmpi .ne v2 c6_i32_341
  let v416 : BitVec 32 := Scalar.extui v415
  let c0_i32_343 : BitVec 32 := 0#32
  let v417 : BitVec 1 := Scalar.cmpi .ne v416 c0_i32_343
  v417

def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev70 : Nat :=
  let c0_i32_897 : BitVec 32 := 0#32
  let c6_i32_895 : BitVec 32 := 6#32
  let c1_i32_896 : BitVec 32 := 1#32
  let v870 : BitVec 32 := Scalar.muli c6_i32_895 c1_i32_896
  let v871 : BitVec 32 := Scalar.addi c0_i32_897 v870
  v871.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_344 : BitVec 32 := 7#32
  let v418 : BitVec 1 := Scalar.cmpi .ne v2 c7_i32_344
  let v419 : BitVec 32 := Scalar.extui v418
  let c0_i32_346 : BitVec 32 := 0#32
  let v420 : BitVec 1 := Scalar.cmpi .ne v419 c0_i32_346
  v420

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev71 : Nat :=
  let c0_i32_897 : BitVec 32 := 0#32
  let c7_i32_895 : BitVec 32 := 7#32
  let c1_i32_896 : BitVec 32 := 1#32
  let v870 : BitVec 32 := Scalar.muli c7_i32_895 c1_i32_896
  let v871 : BitVec 32 := Scalar.addi c0_i32_897 v870
  v871.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_347 : BitVec 32 := 8#32
  let v421 : BitVec 1 := Scalar.cmpi .ne v2 c8_i32_347
  let v422 : BitVec 32 := Scalar.extui v421
  let c0_i32_349 : BitVec 32 := 0#32
  let v423 : BitVec 1 := Scalar.cmpi .ne v422 c0_i32_349
  v423

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev72 : Nat :=
  let c0_i32_897 : BitVec 32 := 0#32
  let c8_i32_895 : BitVec 32 := 8#32
  let c1_i32_896 : BitVec 32 := 1#32
  let v870 : BitVec 32 := Scalar.muli c8_i32_895 c1_i32_896
  let v871 : BitVec 32 := Scalar.addi c0_i32_897 v870
  v871.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_350 : BitVec 32 := 9#32
  let v424 : BitVec 1 := Scalar.cmpi .ne v2 c9_i32_350
  let v425 : BitVec 32 := Scalar.extui v424
  let c0_i32_352 : BitVec 32 := 0#32
  let v426 : BitVec 1 := Scalar.cmpi .ne v425 c0_i32_352
  v426

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev73 : Nat :=
  let c0_i32_897 : BitVec 32 := 0#32
  let c9_i32_895 : BitVec 32 := 9#32
  let c1_i32_896 : BitVec 32 := 1#32
  let v870 : BitVec 32 := Scalar.muli c9_i32_895 c1_i32_896
  let v871 : BitVec 32 := Scalar.addi c0_i32_897 v870
  v871.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_353 : BitVec 32 := 10#32
  let v427 : BitVec 1 := Scalar.cmpi .ne v2 c10_i32_353
  let v428 : BitVec 32 := Scalar.extui v427
  let c0_i32_355 : BitVec 32 := 0#32
  let v429 : BitVec 1 := Scalar.cmpi .ne v428 c0_i32_355
  v429

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev74 : Nat :=
  let c0_i32_897 : BitVec 32 := 0#32
  let c10_i32_895 : BitVec 32 := 10#32
  let c1_i32_896 : BitVec 32 := 1#32
  let v870 : BitVec 32 := Scalar.muli c10_i32_895 c1_i32_896
  let v871 : BitVec 32 := Scalar.addi c0_i32_897 v870
  v871.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_356 : BitVec 32 := 11#32
  let v430 : BitVec 1 := Scalar.cmpi .ne v2 c11_i32_356
  let v431 : BitVec 32 := Scalar.extui v430
  let c0_i32_358 : BitVec 32 := 0#32
  let v432 : BitVec 1 := Scalar.cmpi .ne v431 c0_i32_358
  v432

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev75 : Nat :=
  let c0_i32_897 : BitVec 32 := 0#32
  let c11_i32_895 : BitVec 32 := 11#32
  let c1_i32_896 : BitVec 32 := 1#32
  let v870 : BitVec 32 := Scalar.muli c11_i32_895 c1_i32_896
  let v871 : BitVec 32 := Scalar.addi c0_i32_897 v870
  v871.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_359 : BitVec 32 := 12#32
  let v433 : BitVec 1 := Scalar.cmpi .ne v2 c12_i32_359
  let v434 : BitVec 32 := Scalar.extui v433
  let c0_i32_361 : BitVec 32 := 0#32
  let v435 : BitVec 1 := Scalar.cmpi .ne v434 c0_i32_361
  v435

def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev76 : Nat :=
  let c0_i32_897 : BitVec 32 := 0#32
  let c12_i32_895 : BitVec 32 := 12#32
  let c1_i32_896 : BitVec 32 := 1#32
  let v870 : BitVec 32 := Scalar.muli c12_i32_895 c1_i32_896
  let v871 : BitVec 32 := Scalar.addi c0_i32_897 v870
  v871.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_362 : BitVec 32 := 13#32
  let v436 : BitVec 1 := Scalar.cmpi .ne v2 c13_i32_362
  let v437 : BitVec 32 := Scalar.extui v436
  let c0_i32_364 : BitVec 32 := 0#32
  let v438 : BitVec 1 := Scalar.cmpi .ne v437 c0_i32_364
  v438

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev77 : Nat :=
  let c0_i32_897 : BitVec 32 := 0#32
  let c13_i32_895 : BitVec 32 := 13#32
  let c1_i32_896 : BitVec 32 := 1#32
  let v870 : BitVec 32 := Scalar.muli c13_i32_895 c1_i32_896
  let v871 : BitVec 32 := Scalar.addi c0_i32_897 v870
  v871.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_365 : BitVec 32 := 14#32
  let v439 : BitVec 1 := Scalar.cmpi .ne v2 c14_i32_365
  let v440 : BitVec 32 := Scalar.extui v439
  let c0_i32_367 : BitVec 32 := 0#32
  let v441 : BitVec 1 := Scalar.cmpi .ne v440 c0_i32_367
  v441

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev78 : Nat :=
  let c0_i32_897 : BitVec 32 := 0#32
  let c14_i32_895 : BitVec 32 := 14#32
  let c1_i32_896 : BitVec 32 := 1#32
  let v870 : BitVec 32 := Scalar.muli c14_i32_895 c1_i32_896
  let v871 : BitVec 32 := Scalar.addi c0_i32_897 v870
  v871.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_368 : BitVec 32 := 15#32
  let v442 : BitVec 1 := Scalar.cmpi .ne v2 c15_i32_368
  let v443 : BitVec 32 := Scalar.extui v442
  let c0_i32_370 : BitVec 32 := 0#32
  let v444 : BitVec 1 := Scalar.cmpi .ne v443 c0_i32_370
  v444

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev79 : Nat :=
  let c0_i32_897 : BitVec 32 := 0#32
  let c15_i32_895 : BitVec 32 := 15#32
  let c1_i32_896 : BitVec 32 := 1#32
  let v870 : BitVec 32 := Scalar.muli c15_i32_895 c1_i32_896
  let v871 : BitVec 32 := Scalar.addi c0_i32_897 v870
  v871.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_444 : BitVec 32 := 16#32
  let v516 : BitVec 1 := Scalar.cmpi .ne v2 c16_i32_444
  let v517 : BitVec 32 := Scalar.extui v516
  let c0_i32_446 : BitVec 32 := 0#32
  let v518 : BitVec 1 := Scalar.cmpi .ne v517 c0_i32_446
  v518

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev80 : Nat :=
  let c0_i32_897 : BitVec 32 := 0#32
  let c16_i32_895 : BitVec 32 := 16#32
  let c1_i32_896 : BitVec 32 := 1#32
  let v870 : BitVec 32 := Scalar.muli c16_i32_895 c1_i32_896
  let v871 : BitVec 32 := Scalar.addi c0_i32_897 v870
  v871.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_447 : BitVec 32 := 17#32
  let v519 : BitVec 1 := Scalar.cmpi .ne v2 c17_i32_447
  let v520 : BitVec 32 := Scalar.extui v519
  let c0_i32_449 : BitVec 32 := 0#32
  let v521 : BitVec 1 := Scalar.cmpi .ne v520 c0_i32_449
  v521

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev81 : Nat :=
  let c0_i32_897 : BitVec 32 := 0#32
  let c17_i32_895 : BitVec 32 := 17#32
  let c1_i32_896 : BitVec 32 := 1#32
  let v870 : BitVec 32 := Scalar.muli c17_i32_895 c1_i32_896
  let v871 : BitVec 32 := Scalar.addi c0_i32_897 v870
  v871.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_450 : BitVec 32 := 18#32
  let v522 : BitVec 1 := Scalar.cmpi .ne v2 c18_i32_450
  let v523 : BitVec 32 := Scalar.extui v522
  let c0_i32_452 : BitVec 32 := 0#32
  let v524 : BitVec 1 := Scalar.cmpi .ne v523 c0_i32_452
  v524

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev82 : Nat :=
  let c0_i32_897 : BitVec 32 := 0#32
  let c18_i32_895 : BitVec 32 := 18#32
  let c1_i32_896 : BitVec 32 := 1#32
  let v870 : BitVec 32 := Scalar.muli c18_i32_895 c1_i32_896
  let v871 : BitVec 32 := Scalar.addi c0_i32_897 v870
  v871.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_453 : BitVec 32 := 19#32
  let v525 : BitVec 1 := Scalar.cmpi .ne v2 c19_i32_453
  let v526 : BitVec 32 := Scalar.extui v525
  let c0_i32_455 : BitVec 32 := 0#32
  let v527 : BitVec 1 := Scalar.cmpi .ne v526 c0_i32_455
  v527

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev83 : Nat :=
  let c0_i32_897 : BitVec 32 := 0#32
  let c19_i32_895 : BitVec 32 := 19#32
  let c1_i32_896 : BitVec 32 := 1#32
  let v870 : BitVec 32 := Scalar.muli c19_i32_895 c1_i32_896
  let v871 : BitVec 32 := Scalar.addi c0_i32_897 v870
  v871.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_456 : BitVec 32 := 20#32
  let v528 : BitVec 1 := Scalar.cmpi .ne v2 c20_i32_456
  let v529 : BitVec 32 := Scalar.extui v528
  let c0_i32_458 : BitVec 32 := 0#32
  let v530 : BitVec 1 := Scalar.cmpi .ne v529 c0_i32_458
  v530

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev84 : Nat :=
  let c0_i32_897 : BitVec 32 := 0#32
  let c20_i32_895 : BitVec 32 := 20#32
  let c1_i32_896 : BitVec 32 := 1#32
  let v870 : BitVec 32 := Scalar.muli c20_i32_895 c1_i32_896
  let v871 : BitVec 32 := Scalar.addi c0_i32_897 v870
  v871.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_459 : BitVec 32 := 21#32
  let v531 : BitVec 1 := Scalar.cmpi .ne v2 c21_i32_459
  let v532 : BitVec 32 := Scalar.extui v531
  let c0_i32_461 : BitVec 32 := 0#32
  let v533 : BitVec 1 := Scalar.cmpi .ne v532 c0_i32_461
  v533

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev85 : Nat :=
  let c0_i32_897 : BitVec 32 := 0#32
  let c21_i32_895 : BitVec 32 := 21#32
  let c1_i32_896 : BitVec 32 := 1#32
  let v870 : BitVec 32 := Scalar.muli c21_i32_895 c1_i32_896
  let v871 : BitVec 32 := Scalar.addi c0_i32_897 v870
  v871.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_462 : BitVec 32 := 22#32
  let v534 : BitVec 1 := Scalar.cmpi .ne v2 c22_i32_462
  let v535 : BitVec 32 := Scalar.extui v534
  let c0_i32_464 : BitVec 32 := 0#32
  let v536 : BitVec 1 := Scalar.cmpi .ne v535 c0_i32_464
  v536

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev86 : Nat :=
  let c0_i32_897 : BitVec 32 := 0#32
  let c22_i32_895 : BitVec 32 := 22#32
  let c1_i32_896 : BitVec 32 := 1#32
  let v870 : BitVec 32 := Scalar.muli c22_i32_895 c1_i32_896
  let v871 : BitVec 32 := Scalar.addi c0_i32_897 v870
  v871.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_465 : BitVec 32 := 23#32
  let v537 : BitVec 1 := Scalar.cmpi .ne v2 c23_i32_465
  let v538 : BitVec 32 := Scalar.extui v537
  let c0_i32_467 : BitVec 32 := 0#32
  let v539 : BitVec 1 := Scalar.cmpi .ne v538 c0_i32_467
  v539

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev87 : Nat :=
  let c0_i32_897 : BitVec 32 := 0#32
  let c23_i32_895 : BitVec 32 := 23#32
  let c1_i32_896 : BitVec 32 := 1#32
  let v870 : BitVec 32 := Scalar.muli c23_i32_895 c1_i32_896
  let v871 : BitVec 32 := Scalar.addi c0_i32_897 v870
  v871.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_468 : BitVec 32 := 24#32
  let v540 : BitVec 1 := Scalar.cmpi .ne v2 c24_i32_468
  let v541 : BitVec 32 := Scalar.extui v540
  let c0_i32_470 : BitVec 32 := 0#32
  let v542 : BitVec 1 := Scalar.cmpi .ne v541 c0_i32_470
  v542

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev88 : Nat :=
  let c0_i32_897 : BitVec 32 := 0#32
  let c24_i32_895 : BitVec 32 := 24#32
  let c1_i32_896 : BitVec 32 := 1#32
  let v870 : BitVec 32 := Scalar.muli c24_i32_895 c1_i32_896
  let v871 : BitVec 32 := Scalar.addi c0_i32_897 v870
  v871.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_471 : BitVec 32 := 25#32
  let v543 : BitVec 1 := Scalar.cmpi .ne v2 c25_i32_471
  let v544 : BitVec 32 := Scalar.extui v543
  let c0_i32_473 : BitVec 32 := 0#32
  let v545 : BitVec 1 := Scalar.cmpi .ne v544 c0_i32_473
  v545

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev89 : Nat :=
  let c0_i32_897 : BitVec 32 := 0#32
  let c25_i32_895 : BitVec 32 := 25#32
  let c1_i32_896 : BitVec 32 := 1#32
  let v870 : BitVec 32 := Scalar.muli c25_i32_895 c1_i32_896
  let v871 : BitVec 32 := Scalar.addi c0_i32_897 v870
  v871.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_474 : BitVec 32 := 26#32
  let v546 : BitVec 1 := Scalar.cmpi .ne v2 c26_i32_474
  let v547 : BitVec 32 := Scalar.extui v546
  let c0_i32_476 : BitVec 32 := 0#32
  let v548 : BitVec 1 := Scalar.cmpi .ne v547 c0_i32_476
  v548

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev90 : Nat :=
  let c0_i32_897 : BitVec 32 := 0#32
  let c26_i32_895 : BitVec 32 := 26#32
  let c1_i32_896 : BitVec 32 := 1#32
  let v870 : BitVec 32 := Scalar.muli c26_i32_895 c1_i32_896
  let v871 : BitVec 32 := Scalar.addi c0_i32_897 v870
  v871.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_477 : BitVec 32 := 27#32
  let v549 : BitVec 1 := Scalar.cmpi .ne v2 c27_i32_477
  let v550 : BitVec 32 := Scalar.extui v549
  let c0_i32_479 : BitVec 32 := 0#32
  let v551 : BitVec 1 := Scalar.cmpi .ne v550 c0_i32_479
  v551

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev91 : Nat :=
  let c0_i32_897 : BitVec 32 := 0#32
  let c27_i32_895 : BitVec 32 := 27#32
  let c1_i32_896 : BitVec 32 := 1#32
  let v870 : BitVec 32 := Scalar.muli c27_i32_895 c1_i32_896
  let v871 : BitVec 32 := Scalar.addi c0_i32_897 v870
  v871.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_480 : BitVec 32 := 28#32
  let v552 : BitVec 1 := Scalar.cmpi .ne v2 c28_i32_480
  let v553 : BitVec 32 := Scalar.extui v552
  let c0_i32_482 : BitVec 32 := 0#32
  let v554 : BitVec 1 := Scalar.cmpi .ne v553 c0_i32_482
  v554

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev92 : Nat :=
  let c0_i32_897 : BitVec 32 := 0#32
  let c28_i32_895 : BitVec 32 := 28#32
  let c1_i32_896 : BitVec 32 := 1#32
  let v870 : BitVec 32 := Scalar.muli c28_i32_895 c1_i32_896
  let v871 : BitVec 32 := Scalar.addi c0_i32_897 v870
  v871.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_483 : BitVec 32 := 29#32
  let v555 : BitVec 1 := Scalar.cmpi .ne v2 c29_i32_483
  let v556 : BitVec 32 := Scalar.extui v555
  let c0_i32_485 : BitVec 32 := 0#32
  let v557 : BitVec 1 := Scalar.cmpi .ne v556 c0_i32_485
  v557

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev93 : Nat :=
  let c0_i32_897 : BitVec 32 := 0#32
  let c29_i32_895 : BitVec 32 := 29#32
  let c1_i32_896 : BitVec 32 := 1#32
  let v870 : BitVec 32 := Scalar.muli c29_i32_895 c1_i32_896
  let v871 : BitVec 32 := Scalar.addi c0_i32_897 v870
  v871.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_486 : BitVec 32 := 30#32
  let v558 : BitVec 1 := Scalar.cmpi .ne v2 c30_i32_486
  let v559 : BitVec 32 := Scalar.extui v558
  let c0_i32_488 : BitVec 32 := 0#32
  let v560 : BitVec 1 := Scalar.cmpi .ne v559 c0_i32_488
  v560

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev94 : Nat :=
  let c0_i32_897 : BitVec 32 := 0#32
  let c30_i32_895 : BitVec 32 := 30#32
  let c1_i32_896 : BitVec 32 := 1#32
  let v870 : BitVec 32 := Scalar.muli c30_i32_895 c1_i32_896
  let v871 : BitVec 32 := Scalar.addi c0_i32_897 v870
  v871.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_489 : BitVec 32 := 31#32
  let v561 : BitVec 1 := Scalar.cmpi .ne v2 c31_i32_489
  let v562 : BitVec 32 := Scalar.extui v561
  let c0_i32_491 : BitVec 32 := 0#32
  let v563 : BitVec 1 := Scalar.cmpi .ne v562 c0_i32_491
  v563

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_898 : BitVec 32 := 0#32
  let c0_i32_899 : BitVec 32 := 0#32
  let c0_i32_900 : BitVec 32 := 0#32
  ![v2.toNat, 0, 0, 0]
def k0_dev95 : Nat :=
  let c0_i32_897 : BitVec 32 := 0#32
  let c31_i32_895 : BitVec 32 := 31#32
  let c1_i32_896 : BitVec 32 := 1#32
  let v870 : BitVec 32 := Scalar.muli c31_i32_895 c1_i32_896
  let v871 : BitVec 32 := Scalar.addi c0_i32_897 v870
  v871.toNat
def k0_off130 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v564 : Index := Scalar.indexCast v2
  let c0_492 : Index := 0#32
  let c0_493 : Index := 0#32
  let c0_494 : Index := 0#32
  ![v564.toNat, 0, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x2 : Shape := ⟨2, ![16384, 2]⟩
abbrev S64x256x512 : Shape := ⟨3, ![64, 256, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S16384x256x512 : Shape := ⟨3, ![16384, 256, 512]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S16384x2, .i32⟩
  | .hbm, ⟨3, _⟩ => ⟨S64x256x512, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x1, .i32⟩
  | .hbm, ⟨17, _⟩ => ⟨S16384, .i32⟩
  | .hbm, ⟨18, _⟩ => ⟨S16384x1, .i32⟩
  | .hbm, ⟨19, _⟩ => ⟨S16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S16384x1, .f32⟩
  | .hbm, ⟨30, _⟩ => ⟨S16384x1, .i32⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S_, .i32⟩
  | .hbm, ⟨35, _⟩ => ⟨S16384x1, .i32⟩
  | .hbm, ⟨36, _⟩ => ⟨S16384x1, .i32⟩
  | .hbm, ⟨37, _⟩ => ⟨S16384x1, .i32⟩
  | .hbm, ⟨38, _⟩ => ⟨S16384x1x1, .i32⟩
  | .hbm, ⟨39, _⟩ => ⟨S16384x1, .f32⟩
  | .hbm, ⟨40, _⟩ => ⟨S16384x1, .f32⟩
  | .hbm, ⟨41, _⟩ => ⟨S16384x1, .i32⟩
  | .hbm, ⟨42, _⟩ => ⟨S16384x256x512, .f32⟩
  | .hbm, ⟨43, _⟩ => ⟨S16384x512, .f32⟩
  | .hbm, ⟨44, _⟩ => ⟨S16384x1, .i32⟩
  | .hbm, ⟨45, _⟩ => ⟨S16384x256x512, .f32⟩
  | .hbm, ⟨46, _⟩ => ⟨S16384x512, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S16384x1, .f32⟩
  | .hbm, ⟨51, _⟩ => ⟨S16384x512, .f32⟩
  | .hbm, ⟨52, _⟩ => ⟨S16384x512, .f32⟩
  | .hbm, ⟨53, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.Common.lean ====
/-
# The exchange: cells, rows, contents and schedule

The kernel of device `c` dispatches the tokens of `c` to the 32 owners of the experts, each owner applies its two
experts to what it received and returns the products, and `c` combines them. Here is what the run of the body is
stated over: the semaphore cells and the 32 rows of the four exchange buffers, the contents every row carries when
it is handed over, and the one-round schedule of every cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-- The exchange's rounds: duties are named by the device that pays them. -/
abbrev UX : Type := URounds (GSem nD τ sig) (Dev nD)
/-- The pipeline's rounds beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-! ## Cells -/

/-- The cell of device `j` in an array of 32 DMA semaphores. -/
def semv (A : DmaSems sig S32) (j : Dev nD) : DmaSem sig :=
  ((A.slice (Rect.unit (s := S32) ![j.val] S1.size (by intro a; fin_cases a; exact j.isLt))).squeeze S_ squeezes_S1_S_).sem

/-- The four arrays: dispatch sent, dispatch received, return sent, return received. -/
def arr : Fin 4 → DmaSems sig S32
  | 0 => cc0_scratch4 | 1 => cc0_scratch5 | 2 => cc0_scratch6 | 3 => cc0_scratch7

/-- The kernel's own semaphores, by array and device. -/
def osem (p : Fin 4 × Dev nD) : SemLoc sig := .dma (semv (arr p.1) p.2)

/-- The place of a cell: `5 + 32 κ + j`. -/
theorem semv_val (κ : Fin 4) (j : Dev nD) : (semv (arr κ) j).val = 5 + 32 * κ.val + j.val := by
  revert κ j; decide +kernel

/-- The runtime's barrier semaphore. -/
def barS : Sem sig := (SemArray.scalar (sig.barrier 0 rfl) : Sems sig S_).sem

def cell (p : Fin 4 × Dev nD) (c : Dev nD) : GSem nD τ sig := ((c : Thread nD τ), osem p)
def barCell (c : Dev nD) : GSem nD τ sig := ((c : Thread nD τ), .reg barS)

/-- Which of the own cells a semaphore is. -/
def slotOf : SemLoc sig → Option (Fin 4 × Dev nD)
  | .reg _ => none
  | .dma q => if h : 5 ≤ q.val ∧ q.val < 133 then
      some (⟨(q.val - 5) / 32, by omega⟩, ⟨(q.val - 5) % 32, Nat.mod_lt _ (by decide)⟩) else none

theorem slotOf_osem (p : Fin 4 × Dev nD) : slotOf (osem p) = some p := by
  obtain ⟨κ, j⟩ := p
  have hv := semv_val κ j
  have hj : j.val < 32 := j.isLt
  have hκ := κ.isLt
  show (if h : 5 ≤ (semv (arr κ) j).val ∧ (semv (arr κ) j).val < 133 then
      some ((⟨((semv (arr κ) j).val - 5) / 32, by omega⟩ : Fin 4), (⟨((semv (arr κ) j).val - 5) % 32, Nat.mod_lt _ (by decide)⟩ : Dev nD)) else none) = _
  rw [dif_pos (by omega)]
  refine congrArg some (Prod.ext (Fin.ext ?_) (Fin.ext ?_)) <;> (dsimp only; omega)

theorem osem_inj {p q : Fin 4 × Dev nD} (h : osem p = osem q) : p = q := by
  have := congrArg slotOf h
  rw [slotOf_osem, slotOf_osem] at this
  exact Option.some.inj this

theorem slotOf_bar : slotOf (.reg barS) = none := rfl

/-! ## Rows of the exchange buffers -/

/-- The row an element lies in. -/
def rowNo {d : Nat} (i : (⟨4, ![32, 2, 48, d]⟩ : Shape).Idx) : Dev nD := i 0

/-- The elements of the rows `S`. -/
def rowsD (d : Nat) (S : Finset (Dev nD)) : Finset (⟨4, ![32, 2, 48, d]⟩ : Shape).Idx :=
  Finset.univ.filter fun i => rowNo i ∈ S

theorem mem_rowsD {d : Nat} {S : Finset (Dev nD)} {i : (⟨4, ![32, 2, 48, d]⟩ : Shape).Idx} :
    i ∈ rowsD d S ↔ rowNo i ∈ S := by simp [rowsD]

theorem rowsD_biUnion (d : Nat) (S : Finset (Dev nD)) : rowsD d S = S.biUnion fun j => rowsD d {j} := by
  ext i; simp [mem_rowsD]

theorem rowsD_univ (d : Nat) : rowsD d Finset.univ = Finset.univ := by ext i; simp [mem_rowsD]

theorem rowsD_disj (d : Nat) {S : Finset (Dev nD)} : ∀ i ∈ S, ∀ j ∈ S, i ≠ j → Disjoint (rowsD d {i}) (rowsD d {j}) := by
  intro i _ j _ hij
  rw [Finset.disjoint_left]; intro x hx hx'
  rw [mem_rowsD, Finset.mem_singleton] at hx hx'
  exact hij (hx.symm.trans hx')

/-- The elements of a rectangle that takes whole rows. -/
theorem set_rows {d n lo : Nat} {off : Fin 4 → Nat} (ho : off = ![lo, 0, 0, 0])
    (inb : ∀ a, off a + (⟨4, ![n, 2, 48, d]⟩ : Shape).size a ≤ (⟨4, ![32, 2, 48, d]⟩ : Shape).size a) (S : Finset (Dev nD))
    (hS : ∀ j : Dev nD, j ∈ S ↔ lo ≤ j.val ∧ j.val < lo + n) :
    (Rect.unit (s := ⟨4, ![32, 2, 48, d]⟩) off (⟨4, ![n, 2, 48, d]⟩ : Shape).size inb).set = rowsD d S := by
  subst ho
  ext i
  rw [Rect.mem_set_unit, mem_rowsD, hS]
  constructor
  · intro h; exact h 0
  · intro h a
    match a with
    | ⟨0, _⟩ => exact h
    | ⟨1, _⟩ => exact ⟨Nat.zero_le _, by simpa using (i 1).isLt⟩
    | ⟨2, _⟩ => exact ⟨Nat.zero_le _, by simpa using (i 2).isLt⟩
    | ⟨3, _⟩ => exact ⟨Nat.zero_le _, by simpa using (i 3).isLt⟩

abbrev B1 (F : FTy → Type) : Type := FVec F S32x2x48x256 .bf16
abbrev B2 (F : FTy → Type) : Type := FVec F S32x2x48x512 .bf16

/-- Rows `S` of device `c`'s dispatch buffer, holding `f`. -/
def sR (c : Dev nD) (S : Finset (Dev nD)) (f : B1 F) : sProp 𝕄 :=
  ((c : Thread nD τ).loc cc0_scratch0) ↦[rowsD 256 S]{fullShare} f
/-- Rows `S` of its receive buffer. -/
def vR (c : Dev nD) (S : Finset (Dev nD)) (f : B1 F) : sProp 𝕄 :=
  ((c : Thread nD τ).loc cc0_scratch1) ↦[rowsD 256 S]{fullShare} f
/-- Rows `S` of its product buffer. -/
def rR (c : Dev nD) (S : Finset (Dev nD)) (f : B2 F) : sProp 𝕄 :=
  ((c : Thread nD τ).loc cc0_scratch2) ↦[rowsD 512 S]{fullShare} f
/-- Rows `S` of its return buffer. -/
def tR (c : Dev nD) (S : Finset (Dev nD)) (f : B2 F) : sProp 𝕄 :=
  ((c : Thread nD τ).loc cc0_scratch3) ↦[rowsD 512 S]{fullShare} f

theorem sR_split (c : Dev nD) (S : Finset (Dev nD)) (f : B1 F) : sR c S f = bigSep S fun j => sR c {j} f := by
  unfold sR; rw [rowsD_biUnion 256 S]; exact pointsTo_biUnion S _ (rowsD_disj 256)
theorem vR_split (c : Dev nD) (S : Finset (Dev nD)) (f : B1 F) : vR c S f = bigSep S fun j => vR c {j} f := by
  unfold vR; rw [rowsD_biUnion 256 S]; exact pointsTo_biUnion S _ (rowsD_disj 256)
theorem rR_split (c : Dev nD) (S : Finset (Dev nD)) (f : B2 F) : rR c S f = bigSep S fun j => rR c {j} f := by
  unfold rR; rw [rowsD_biUnion 512 S]; exact pointsTo_biUnion S _ (rowsD_disj 512)
theorem tR_split (c : Dev nD) (S : Finset (Dev nD)) (f : B2 F) : tR c S f = bigSep S fun j => tR c {j} f := by
  unfold tR; rw [rowsD_biUnion 512 S]; exact pointsTo_biUnion S _ (rowsD_disj 512)

theorem sR_congr {c : Dev nD} {S : Finset (Dev nD)} {f g : B1 F} (h : ∀ i, rowNo i ∈ S → f i = g i) :
    sR c S f = sR c S g := pointsTo_congr fun i hi => h i (mem_rowsD.1 hi)
theorem vR_congr {c : Dev nD} {S : Finset (Dev nD)} {f g : B1 F} (h : ∀ i, rowNo i ∈ S → f i = g i) :
    vR c S f = vR c S g := pointsTo_congr fun i hi => h i (mem_rowsD.1 hi)
theorem rR_congr {c : Dev nD} {S : Finset (Dev nD)} {f g : B2 F} (h : ∀ i, rowNo i ∈ S → f i = g i) :
    rR c S f = rR c S g := pointsTo_congr fun i hi => h i (mem_rowsD.1 hi)
theorem tR_congr {c : Dev nD} {S : Finset (Dev nD)} {f g : B2 F} (h : ∀ i, rowNo i ∈ S → f i = g i) :
    tR c S f = tR c S g := pointsTo_congr fun i hi => h i (mem_rowsD.1 hi)

/-! ## Contents -/

section Contents
variable (m : (ℓ : Loc nD τ sig) → Buf (Elt F) ℓ)

/-- The tokens of device `c`. -/
def inX (c : Dev nD) : Vec F S512x256 .f32 := iblk m c 0 t0_0
/-- The router's matrix on `c`. -/
def inR (c : Dev nD) : Vec F S256x64 .f32 := iblk m c 1 t0_0
/-- The two chosen experts of every token of `c`. -/
def inI (c : Dev nD) : Vec F S512x2 .i32 := iblk m c 2 t0_0
/-- The two experts of `c`. -/
def inW (c : Dev nD) : Vec F S2x256x512 .f32 := iblk m c 3 t0_0

/-- First and second choice, as columns. -/
def ch0 (c : Dev nD) : Vec F S512x1 .i32 := fun i => inI m c (ix2 (i 0) 0)
def ch1 (c : Dev nD) : Vec F S512x1 .i32 := fun i => inI m c (ix2 (i 0) 1)

/-- What `c` dispatches. -/
def SEND (c : Dev nD) : B1 F := k0_pay14 (k0_pay2 (inX m c)) (k0_pay11 (F := F) (k0_pay4 (ch0 m c)) (k0_pay5 (ch1 m c)))
/-- What `c` receives: row `i` is row `c` of what `i` dispatched. -/
def RECV (c : Dev nD) : B1 F := fun i => SEND m (rowNo i) (ix4 c (i 1) (i 2) (i 3))
/-- Sixteen rows from row `16 k`. -/
def chunk {d : Nat} (k : Fin 2) (f : FVec F ⟨4, ![32, 2, 48, d]⟩ .bf16) : FVec F ⟨4, ![16, 2, 48, d]⟩ .bf16 :=
  fun i => f (ix4 (⟨16 * k.val + (i 0).val, by have h : (i 0).val < 16 := (i 0).isLt; have := k.isLt; omega⟩ : Fin 32) (i 1) (i 2) (i 3))
/-- The products of the sixteen rows of one step. -/
def PROD (c : Dev nD) : Fin 2 → FVec F S16x2x48x512 .bf16
  | 0 => k0_pay17 (k0_pay16 (inW m c)) (chunk 0 (RECV m c))
  | 1 => k0_pay18 (k0_pay16 (inW m c)) (chunk 1 (RECV m c))
/-- What `c` returns. -/
def RES (c : Dev nD) : B2 F := fun i =>
  PROD m c ⟨(i 0).val / 16, by have : (i 0).val < 32 := (i 0).isLt; omega⟩
    (ix4 (⟨(i 0).val % 16, Nat.mod_lt _ (by decide)⟩ : Fin 16) (i 1) (i 2) (i 3))
/-- What comes back to `c`: row `i` is row `c` of what `i` returned. -/
def RET (c : Dev nD) : B2 F := fun i => RES m (rowNo i) (ix4 c (i 1) (i 2) (i 3))
/-- The combining matrix of `c`. -/
def COMB (c : Dev nD) : FVec F S3072x512 .bf16 :=
  k0_pay13 (k0_pay10 (F := F) (k0_pay4 (ch0 m c)) (k0_pay5 (ch1 m c)))
    (k0_pay12 (k0_pay3 (inX m c) (inR m c)) (k0_pay4 (ch0 m c)) (k0_pay5 (ch1 m c)) (k0_pay6 (ch1 m c))
      (k0_pay7 (inX m c) (inR m c) (ch0 m c))) (Scalar.ofBits .f32 0x00000000#32)
/-- The result on `c`. -/
def OUT (c : Dev nD) : FVec F S512x512 .f32 :=
  k0_pay22 (COMB m c) (k0_pay21 (COMB m c) (k0_pay20 (F := F)) (chunk 0 (RET m c))) (chunk 1 (RET m c))

/-! ## The schedule -/

/-- A row of the dispatch buffers, and one of the product buffers. -/
abbrev row1 : Memref sig .tc .vmem S1x2x48x256 .bf16 := (Memref.whole cc0_scratch0).slice (Rect.unit (s := S32x2x48x256) ![0, 0, 0, 0] S1x2x48x256.size inb_S32x2x48x256_S1x2x48x256_0_0_0_0) (fun _ => rfl)
abbrev row2 : Memref sig .tc .vmem S1x2x48x512 .bf16 := (Memref.whole cc0_scratch2).slice (Rect.unit (s := S32x2x48x512) ![0, 0, 0, 0] S1x2x48x512.size inb_S32x2x48x512_S1x2x48x512_0_0_0_0) (fun _ => rfl)

/-- What a transfer of one row credits. -/
def amt (κ : Fin 4) : ℕ := if κ.val < 2 then row1.view.dmaCredit else row2.view.dmaCredit

theorem amt_pos (κ : Fin 4) : 0 < amt κ := by
  unfold amt; split
  · exact View.dmaCredit_pos _ (by decide)
  · exact View.dmaCredit_pos _ (by decide)

/-- What the barrier signal of `q` hands to `p`: row `p` of `q`'s receive and return buffers. -/
def barPay (p q : Dev nD) : sProp 𝕄 := iprop((∃ f, vR (F := F) q {p} f) ∗ ∃ f, tR (F := F) q {p} f)

/-- What the cell `j` of array `κ` hands over on device `c`. -/
def xPay (κ : Fin 4) (c j : Dev nD) : sProp 𝕄 :=
  match κ with
  | 0 => sR c {j} (SEND m c) | 1 => vR c {j} (RECV m c) | 2 => rR c {j} (RES m c) | 3 => tR c {j} (RET m c)

/-- Who pays it. -/
def payer (κ : Fin 4) (c j : Dev nD) : Dev nD := if κ.val % 2 = 0 then c else j

/-- The duties of a cell: its barrier by every other device, an exchange cell by its one payer. -/
def dutiesOf (g : GSem nD τ sig) : Finset (Dev nD) :=
  if g.2 = .reg barS then Finset.univ.erase g.1.1
  else match slotOf g.2 with
    | some (κ, j) => if j = g.1.1 then ∅ else {payer κ g.1.1 j}
    | none => ∅

/-- One round, round 0, of every cell. -/
def Rd : Rounds.Schedule (GSem nD τ sig) (Dev nD) 𝕄 where
  duties g r := if r = 0 ∧ g.1.2 = .tc then dutiesOf g else ∅
  unitless _ := False
  amount g _ _ := match slotOf g.2 with | some (κ, _) => amt κ | none => 1
  payload g _ d := match slotOf g.2 with | some (κ, j) => xPay m κ g.1.1 j | none => barPay g.1.1 d
  amount_pos g _ _ _ := by
    split
    · exact amt_pos _
    · exact Nat.one_pos

theorem osem_ne_bar (p : Fin 4 × Dev nD) : osem p ≠ .reg barS := nofun

theorem duties_cell {p : Fin 4 × Dev nD} {c : Dev nD} (h : p.2 ≠ c) : (Rd m).duties (cell p c) 0 = {payer p.1 c p.2} := by
  dsimp only [Rd]; rw [if_pos ⟨rfl, rfl⟩]; unfold dutiesOf cell; dsimp only
  rw [if_neg (osem_ne_bar _), slotOf_osem]; exact if_neg h
theorem duties_own (κ : Fin 4) (c : Dev nD) (r : ℕ) : (Rd m).duties (cell (κ, c) c) r = ∅ := by
  dsimp only [Rd]; split
  · unfold dutiesOf cell; dsimp only; rw [if_neg (osem_ne_bar _), slotOf_osem]; exact if_pos rfl
  · rfl
theorem duties_later (g : GSem nD τ sig) : ∀ r, 1 ≤ r → (Rd m).duties g r = ∅ :=
  fun r h => by dsimp only [Rd]; exact if_neg fun e => by omega
theorem duties_bar (c : Dev nD) : (Rd m).duties (barCell c) 0 = Finset.univ.erase c := by
  dsimp only [Rd]; rw [if_pos ⟨rfl, rfl⟩]; unfold dutiesOf; exact if_pos rfl
theorem amount_cell (p : Fin 4 × Dev nD) (c d : Dev nD) (r : ℕ) : (Rd m).amount (cell p c) r d = amt p.1 := by
  dsimp only [Rd]; unfold cell; dsimp only; rw [slotOf_osem]
theorem amount_bar (c d : Dev nD) (r : ℕ) : (Rd m).amount (barCell c) r d = 1 := rfl
theorem payload_cell (p : Fin 4 × Dev nD) (c d : Dev nD) (r : ℕ) : (Rd m).payload (cell p c) r d = xPay m p.1 c p.2 := by
  dsimp only [Rd]; unfold cell; dsimp only; rw [slotOf_osem]
theorem payload_bar (c d : Dev nD) (r : ℕ) : (Rd m).payload (barCell c) r d = barPay (F := F) c d := rfl
theorem expect_cell {p : Fin 4 × Dev nD} {c : Dev nD} (h : p.2 ≠ c) : (Rd m).expect (cell p c) 0 = amt p.1 := by
  unfold Schedule.expect Schedule.amountOf; rw [duties_cell m h, Finset.sum_singleton, amount_cell]
theorem expect_bar (c : Dev nD) : (Rd m).expect (barCell c) 0 = 31 := by
  unfold Schedule.expect Schedule.amountOf
  rw [duties_bar, Finset.sum_congr rfl (g := fun _ => 1) (fun d _ => amount_bar m c d 0), Finset.sum_const,
    Finset.card_erase_of_mem (Finset.mem_univ _)]
  rfl

instance sR_storable (c : Dev nD) (S : Finset (Dev nD)) (f : B1 F) : BI.Storable (upEmb : UEmb _ 𝕄) (sR (F := F) c S f) := by unfold sR; infer_instance
instance vR_storable (c : Dev nD) (S : Finset (Dev nD)) (f : B1 F) : BI.Storable (upEmb : UEmb _ 𝕄) (vR (F := F) c S f) := by unfold vR; infer_instance
instance rR_storable (c : Dev nD) (S : Finset (Dev nD)) (f : B2 F) : BI.Storable (upEmb : UEmb _ 𝕄) (rR (F := F) c S f) := by unfold rR; infer_instance
instance tR_storable (c : Dev nD) (S : Finset (Dev nD)) (f : B2 F) : BI.Storable (upEmb : UEmb _ 𝕄) (tR (F := F) c S f) := by unfold tR; infer_instance
instance barPay_storable (p q : Dev nD) : BI.Storable (upEmb : UEmb _ 𝕄) (barPay (F := F) p q) := by unfold barPay; infer_instance
instance xPay_storable (κ : Fin 4) (c j : Dev nD) : BI.Storable (upEmb : UEmb _ 𝕄) (xPay m κ c j) := by
  unfold xPay; split <;> infer_instance
instance payload_storable (g : GSem nD τ sig) (r : ℕ) (d : Dev nD) : BI.Storable (upEmb : UEmb _ 𝕄) ((Rd m).payload g r d) := by
  dsimp only [Rd]; split <;> infer_instance

end Contents

end Cert.MoeProof
-- ==== Proof.Owed.lean ====
/-
# What a device still owes, and the records every step reads

A device walks through the 32 devices in order. What is left of a walk is a set of devices `rng c k hi` (all but `c`
itself, from `k` up to `hi`); a step takes the first one off. This module has the walks, what a device owes along
them, the levels that order the waits, and the records (the cells' invariants) the steps open.
-/
module

public import proofs.«01_k».proof.Proof.Common

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

/-! ## Walks -/

/-- The devices from `lo` up to `hi`, without `c`. -/
def rng (c : Dev nD) (lo hi : ℕ) : Finset (Dev nD) := Finset.univ.filter fun j => j ≠ c ∧ lo ≤ j.val ∧ j.val < hi

theorem mem_rng {c j : Dev nD} {lo hi : ℕ} : j ∈ rng c lo hi ↔ j ≠ c ∧ lo ≤ j.val ∧ j.val < hi := by simp [rng]

theorem rng_head {c : Dev nD} {k hi : ℕ} (hk : k < 32) (h : k < hi) (hc : c.val ≠ k) :
    rng c k hi = insert (⟨k, hk⟩ : Dev nD) (rng c (k + 1) hi) := by
  ext j; rw [Finset.mem_insert, mem_rng, mem_rng]
  constructor
  · rintro ⟨h1, h2, h3⟩
    by_cases e : j.val = k
    · exact .inl (Fin.ext e)
    · exact .inr ⟨h1, by omega, h3⟩
  · rintro (rfl | ⟨h1, h2, h3⟩)
    · exact ⟨fun e => hc (by rw [← e]), le_refl _, h⟩
    · exact ⟨h1, by omega, h3⟩

theorem not_mem_rng_succ {c : Dev nD} {k hi : ℕ} (hk : k < 32) : (⟨k, hk⟩ : Dev nD) ∉ rng c (k + 1) hi := by
  rw [mem_rng]; rintro ⟨-, h, -⟩; simp at h

theorem rng_head_own {c : Dev nD} {k hi : ℕ} (hc : c.val = k) : rng c k hi = rng c (k + 1) hi := by
  ext j; rw [mem_rng, mem_rng]
  constructor
  · rintro ⟨h1, h2, h3⟩
    exact ⟨h1, by have : j.val ≠ k := fun e => h1 (Fin.ext (e.trans hc.symm)); omega, h3⟩
  · rintro ⟨h1, h2, h3⟩; exact ⟨h1, by omega, h3⟩

theorem rng_last {c : Dev nD} {k lo : ℕ} (hk : k < 32) (h : lo ≤ k) (hc : c.val ≠ k) :
    rng c lo (k + 1) = insert (⟨k, hk⟩ : Dev nD) (rng c lo k) := by
  ext j; rw [Finset.mem_insert, mem_rng, mem_rng]
  constructor
  · rintro ⟨h1, h2, h3⟩
    by_cases e : j.val = k
    · exact .inl (Fin.ext e)
    · exact .inr ⟨h1, h2, by omega⟩
  · rintro (rfl | ⟨h1, h2, h3⟩)
    · exact ⟨fun e => hc (by rw [← e]), h, Nat.lt_succ_self _⟩
    · exact ⟨h1, h2, by omega⟩

theorem not_mem_rng_last {c : Dev nD} {k lo : ℕ} (hk : k < 32) : (⟨k, hk⟩ : Dev nD) ∉ rng c lo k := by
  rw [mem_rng]; rintro ⟨-, -, h⟩; simp at h

theorem rng_last_own {c : Dev nD} {k lo : ℕ} (hc : c.val = k) : rng c lo (k + 1) = rng c lo k := by
  ext j; rw [mem_rng, mem_rng]
  constructor
  · rintro ⟨h1, h2, h3⟩
    exact ⟨h1, h2, by have : j.val ≠ k := fun e => h1 (Fin.ext (e.trans hc.symm)); omega⟩
  · rintro ⟨h1, h2, h3⟩; exact ⟨h1, h2, by omega⟩

theorem rng_full (c : Dev nD) : rng c 0 32 = Finset.univ.erase c := by
  ext j; rw [mem_rng, Finset.mem_erase]; exact ⟨fun h => ⟨h.1, Finset.mem_univ _⟩, fun h => ⟨h.1, Nat.zero_le _, j.isLt⟩⟩

theorem rng_empty (c : Dev nD) (lo : ℕ) {hi : ℕ} (h : hi ≤ lo) : rng c lo hi = ∅ := by
  ext j; rw [mem_rng]; constructor
  · rintro ⟨-, h1, h2⟩; omega
  · intro h; exact absurd h (Finset.notMem_empty _)

theorem rng_append (c : Dev nD) {a b d : ℕ} (h1 : a ≤ b) (h2 : b ≤ d) : rng c a d = rng c a b ∪ rng c b d := by
  ext j; rw [Finset.mem_union, mem_rng, mem_rng, mem_rng]
  constructor
  · rintro ⟨x, y, z⟩
    by_cases e : j.val < b
    · exact .inl ⟨x, y, e⟩
    · exact .inr ⟨x, by omega, z⟩
  · rintro (⟨x, y, z⟩ | ⟨x, y, z⟩)
    · exact ⟨x, y, by omega⟩
    · exact ⟨x, by omega, z⟩

theorem rng_disj (c : Dev nD) (a b d : ℕ) : Disjoint (rng c a b) (rng c b d) := by
  rw [Finset.disjoint_left]; intro j h h'; rw [mem_rng] at h h'; omega

/-- The device `o` places after `c`. -/
def pe (c : Dev nD) (o : ℕ) : Dev nD := ⟨(c.val + o) % 32, Nat.mod_lt _ (by decide)⟩

theorem pe_ne {c : Dev nD} {o : ℕ} (h1 : 1 ≤ o) (h2 : o < 32) : c ≠ pe c o := by
  intro h; have h' := congrArg Fin.val h; simp only [pe] at h'; have : c.val < 32 := c.isLt; omega

section Sep

theorem bigSep_head {Φ : Dev nD → sProp 𝕄} {c : Dev nD} {k hi : ℕ} (hk : k < 32) (h : k < hi) (hc : c.val ≠ k) :
    bigSep (rng c k hi) Φ = iprop(Φ (⟨k, hk⟩ : Dev nD) ∗ bigSep (rng c (k + 1) hi) Φ) := by
  rw [rng_head hk h hc]; exact bigSep_insert (not_mem_rng_succ (c := c) (hi := hi) hk)

theorem bigSep_last {Φ : Dev nD → sProp 𝕄} {c : Dev nD} {k lo : ℕ} (hk : k < 32) (h : lo ≤ k) (hc : c.val ≠ k) :
    bigSep (rng c lo (k + 1)) Φ = iprop(Φ (⟨k, hk⟩ : Dev nD) ∗ bigSep (rng c lo k) Φ) := by
  rw [rng_last hk h hc]; exact bigSep_insert (not_mem_rng_last (c := c) (lo := lo) hk)

theorem Ico_head {k : ℕ} (hk : k < 32) : Finset.Ico k 32 = insert k (Finset.Ico (k + 1) 32) := by
  ext j; simp only [Finset.mem_insert, Finset.mem_Ico]; omega

theorem bigSep_Ico {Φ : ℕ → sProp 𝕄} {k : ℕ} (hk : k < 32) :
    bigSep (Finset.Ico k 32) Φ = iprop(Φ k ∗ bigSep (Finset.Ico (k + 1) 32) Φ) := by
  rw [Ico_head hk]
  exact bigSep_insert (by simp)

end Sep

/-! ## What is owed -/

/-- A row's credit at cell `c` of array `κ` on every device of the walk. -/
def OX (κ : Fin 4) (c : Dev nD) (k : ℕ) : CellTallies nD τ sig Unit := ∑ j ∈ rng c k 32, tallyAt (cell (κ, c) j) () (amt κ)
/-- A unit at the barrier of every device still to be signalled. -/
def OB (c : Dev nD) (k : ℕ) : CellTallies nD τ sig Unit := ∑ o ∈ Finset.Ico k 32, tallyAt (barCell (pe c o)) () 1
/-- At launch: all of it. -/
def O₀ (c : Dev nD) : CellTallies nD τ sig Unit := OB c 1 + (OX 1 c 0 + OX 3 c 0)

theorem OX_head {κ : Fin 4} {c : Dev nD} {k : ℕ} (hk : k < 32) (hc : c.val ≠ k) :
    OX κ c k = OX κ c (k + 1) + tallyAt (cell (κ, c) ⟨k, hk⟩) () (amt κ) := by
  unfold OX; rw [rng_head hk hk hc, Finset.sum_insert (not_mem_rng_succ hk), add_comm]
theorem OX_own {κ : Fin 4} {c : Dev nD} {k : ℕ} (hc : c.val = k) : OX κ c k = OX κ c (k + 1) := by
  unfold OX; rw [rng_head_own hc]
theorem OX_end (κ : Fin 4) (c : Dev nD) : OX κ c 32 = 0 := by
  unfold OX; rw [rng_empty c 32 (le_refl _), Finset.sum_empty]
theorem OB_head {c : Dev nD} {k : ℕ} (hk : k < 32) : OB c k = OB c (k + 1) + tallyAt (barCell (pe c k)) () 1 := by
  unfold OB; rw [Ico_head hk, Finset.sum_insert (by simp), add_comm]
theorem OB_end (c : Dev nD) : OB c 32 = 0 := by unfold OB; rw [Finset.Ico_self, Finset.sum_empty]

/-! ## Levels -/

def L (g : GSem nD τ sig) : Finset Unit := if g.1.2 = .tc then {()} else ∅
/-- Staging and sending cells at 0, barriers at 1, the dispatch's arrivals at 2, the return's at 3. -/
def lv (g : GSem nD τ sig) (_ : Unit) : ℕ :=
  if g.2 = .reg barS then 1 else match slotOf g.2 with
    | some (κ, _) => if κ.val = 1 then 2 else if κ.val = 3 then 3 else 0
    | none => 0

theorem L_of_ne (g : GSem nD τ sig) (h : g.1.2 ≠ .tc) : L g = ∅ := if_neg h
theorem L_tc {g : GSem nD τ sig} (h : g.1.2 = .tc) : L g = {()} := if_pos h

theorem lv_bar (c : Dev nD) : lv (barCell c) () = 1 := if_pos rfl
theorem lv_cell (p : Fin 4 × Dev nD) (c : Dev nD) : lv (cell p c) () = if p.1.val = 1 then 2 else if p.1.val = 3 then 3 else 0 := by
  unfold lv cell; dsimp only; rw [if_neg (osem_ne_bar p), slotOf_osem]

/-- Some cell of the walk is owed something. -/
theorem sum_pos {I : Type} [DecidableEq I] {s : Finset I} {f : I → GSem nD τ sig} {n : ℕ} {g : GSem nD τ sig} {u : Unit}
    (h : 0 < (∑ i ∈ s, (tallyAt (f i) () n : CellTallies nD τ sig Unit)) g u) : ∃ i ∈ s, g = f i := by
  induction s using Finset.induction_on with
  | empty => exact absurd h (Nat.lt_irrefl 0)
  | insert i s hi ih =>
    rw [Finset.sum_insert hi, Pi.add_apply, Finsupp.add_apply, tallyAt_apply] at h
    by_cases e : g = f i ∧ u = ()
    · exact ⟨i, Finset.mem_insert_self _ _, e.1⟩
    · rw [if_neg e, Nat.zero_add] at h
      obtain ⟨j, hj, e⟩ := ih h
      exact ⟨j, Finset.mem_insert_of_mem hj, e⟩

/-- All that `O` owes is above level `b`. -/
def Above (b : ℕ) (O : CellTallies nD τ sig Unit) : Prop := ∀ g u, 0 < O g u → g.1.2 = .tc ∧ b < lv g ()

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with e | e
  · rw [e, Nat.zero_add] at hg; exact h' g u hg
  · exact h g u e
theorem above_OX {b : ℕ} {κ : Fin 4} (h : b < if κ.val = 1 then 2 else if κ.val = 3 then 3 else 0) (c : Dev nD) (k : ℕ) : Above b (OX κ c k) := by
  intro g u hg
  obtain ⟨j, -, rfl⟩ := sum_pos hg
  exact ⟨rfl, by rw [lv_cell]; exact h⟩
theorem above_OB {b : ℕ} (h : b < 1) (c : Dev nD) (k : ℕ) : Above b (OB c k) := by
  intro g u hg
  obtain ⟨j, -, rfl⟩ := sum_pos hg
  exact ⟨rfl, by rw [lv_bar]; exact h⟩
theorem above_zero (b : ℕ) : Above b 0 := fun g u h => absurd h (Nat.lt_irrefl 0)

/-- The levels' records. -/
abbrev levs : sProp 𝕄 := levAts L lv

theorem mayWait_of (c : Dev nD) (sm : SemLoc sig) {O : CellTallies nD τ sig Unit} (b : ℕ) (hb : lv ((c : Thread nD τ), sm) () ≤ b) (hO : Above b O) :
    levs (F := F) ⊢ MayWait (c : Thread nD τ) sm () O :=
  MayOwe.of_cut (L := L) (lev := lv) b (fun p hp => by rw [Finset.mem_singleton.mp hp, L_tc rfl]; exact Finset.mem_singleton_self _)
    (fun g u hg => by rw [L_tc (hO g u hg).1]; exact Finset.mem_singleton_self _)
    (fun p hp => by rw [Finset.mem_singleton.mp hp]; exact hb)
    (fun g u hg => (hO g u hg).2)

/-! ## Records -/

/-- Every cell of device `q.1`: its barrier, and its own ones. -/
def kc (q : Dev nD × Option (Fin 4 × Dev nD)) : GSem nD τ sig :=
  match q.2 with
  | none => barCell q.1
  | some p => cell p q.1

section Recs
variable (m : (ℓ : Loc nD τ sig) → Buf (Elt F) ℓ) (K : Dev nD × Option (Fin 4 × Dev nD) → ℕ)

/-- What every step may read: all cells' invariants, that all are in their first round, and the levels. -/
def recs : sProp 𝕄 :=
  iprop(bigSep Finset.univ (fun q => iprop(cellInv ER (Rd m) (K q) (kc q) ∗ reached ER (kc q) 0)) ∗ levs (F := F))

instance recs_persistent : BI.Persistent (recs m K) := by unfold recs; infer_instance

theorem recs_at (q : Dev nD × Option (Fin 4 × Dev nD)) : recs m K ⊢ iprop(cellInv ER (Rd m) (K q) (kc q) ∗ reached ER (kc q) 0) := by
  unfold recs
  rw [show bigSep Finset.univ (fun q => iprop(cellInv ER (Rd m) (K q) (kc q) ∗ reached ER (kc q) 0))
    = iprop(iprop(cellInv ER (Rd m) (K q) (kc q) ∗ reached ER (kc q) 0)
      ∗ bigSep (Finset.univ.erase q) (fun q => iprop(cellInv ER (Rd m) (K q) (kc q) ∗ reached ER (kc q) 0))) from bigSep_erase (Finset.mem_univ q)]
  iintro ⟨⟨H, -⟩, -⟩; iexact H

theorem recs_lev : recs m K ⊢ levs (F := F) := by
  unfold recs; iintro ⟨-, H⟩; iexact H

end Recs

/-- The device owes `O`, whatever it has waited for. -/
def owesE (c : Dev nD) (O : CellTallies nD τ sig Unit) : sProp 𝕄 := iprop(∃ W, owes (c : Thread nD τ) O W)

/-- Running `p` on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.MoeProof
-- ==== Proof.Dealing.lean ====
/-
# Dealing out the launch

At launch every counter is zero and one element of the rounds' algebra is there. This module makes of them the cells'
invariants, and deals every device its places, the duties it pays, and the credits it may wait on.
-/
module

public import proofs.«01_k».proof.Proof.Owed

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

/-! ## The cells and the duties -/

theorem kc_inj : Function.Injective kc := by
  rintro ⟨c, k⟩ ⟨c', k'⟩ h
  have h1 : c = c' := by
    have := congrArg (fun g : GSem nD τ sig => g.1.1) h
    cases k <;> cases k' <;> exact this
  subst h1
  have h2 := congrArg Prod.snd h
  rcases k with _ | p <;> rcases k' with _ | p'
  · rfl
  · exact absurd h2.symm (osem_ne_bar p')
  · exact absurd h2 (osem_ne_bar p)
  · exact congrArg (fun x => (c, some x)) (osem_inj h2)

def cellSet : Finset (GSem nD τ sig) := Finset.univ.map ⟨kc, kc_inj⟩

/-- The duty of pair `(a, b)`: at `a`'s barrier by `b`, or at cell `(κ, b)` on `a` by whoever pays it. -/
def tokOf (x : Dev nD × Dev nD × Option (Fin 4)) : GSem nD τ sig × ℕ × Dev nD :=
  match x with
  | (a, b, none) => (barCell a, 0, b)
  | (a, b, some κ) => (cell (κ, b) a, 0, payer κ a b)

theorem tokOf_inj : Function.Injective tokOf := by
  rintro ⟨a, b, k⟩ ⟨a', b', k'⟩ h
  have h1 : a = a' := by
    have := congrArg (fun x : GSem nD τ sig × ℕ × Dev nD => x.1.1.1) h
    cases k <;> cases k' <;> exact this
  subst h1
  have h2 := congrArg (fun x : GSem nD τ sig × ℕ × Dev nD => x.1.2) h
  rcases k with _ | κ <;> rcases k' with _ | κ'
  · have h3 : b = b' := congrArg (fun x : GSem nD τ sig × ℕ × Dev nD => x.2.2) h
    rw [h3]
  · exact absurd h2.symm (osem_ne_bar (κ', b'))
  · exact absurd h2 (osem_ne_bar (κ, b))
  · have h3 := osem_inj (p := (κ, b)) (q := (κ', b')) h2
    cases h3; rfl

def tokSet : Finset (GSem nD τ sig × ℕ × Dev nD) := Finset.univ.map ⟨tokOf, tokOf_inj⟩

/-- The launch element: the staging cells' part and the exchange's. -/
def u₀ : UU := (initOf (Pipeline.cells cfgs cellOf_inj) (Pipeline.launchToks cfgs cellOf_inj), initOf cellSet tokSet)

section Deal
variable (m : (ℓ : Loc nD τ sig) → Buf (Elt F) ℓ)

/-- The duties at device `c`'s own cells. -/
def toks (c : Dev nD) : sProp 𝕄 :=
  bigSep Finset.univ fun x : Dev nD × Option (Fin 4) => dutyTok ER (tokOf (c, x)).1 (tokOf (c, x)).2.1 (tokOf (c, x)).2.2

/-- What the launch element deals device `c`. -/
def G (c : Dev nD) : sProp 𝕄 :=
  iprop((bigSep Finset.univ fun k => roundState ER (Rd m) (kc (c, k)) 0)
    ∗ (bigSep Finset.univ fun k => iprop(atPos ER (kc (c, k)) 0 ∅ 0 ∗ reached ER (kc (c, k)) 0)) ∗ toks c)

theorem fund_all : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k => Φ (kc (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]; rfl
  iintro HX
  imod (Rounds.fund ER (Rd m) cellSet tokSet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide +kernel)]; rfl

/-- A family over a device's cells: its barrier's and its own ones'. -/
theorem over_cells {Φ : Option (Fin 4 × Dev nD) → sProp 𝕄} :
    bigSep Finset.univ Φ = iprop(Φ none ∗ bigSep Finset.univ fun p => Φ (some p)) := by
  rw [bigSep_univ_at Φ none, show (Finset.univ : Finset (Option (Fin 4 × Dev nD))).erase none = Finset.univ.map Function.Embedding.some from by
    ext x; cases x <;> simp, bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kc (c, k)) 0 : sProp 𝕄) := by
  rw [over_cells, unscopedSems0_eq]
  unfold Pipeline.ownSems0
  iintro ⟨HS, HB⟩
  isplitl [HB]; · iexact HB
  iexact HS

/-- Every cell's counter and round state go into its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kc (c, k))))
          ∗ (bigSep Finset.univ fun k => iprop(atPos ER (kc (c, k)) 0 ∅ 0 ∗ reached ER (kc (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kc (c, k)) 0) ∗ bigSep Finset.univ fun k => roundState ER (Rd m) (kc (c, k)) 0)
      ⊢ (|={Set.univ}=> bigSep Finset.univ fun k => iprop(∃ κ : ℕ, cellInv ER (Rd m) κ (kc (c, k))) : sProp 𝕄) from by
        rw [← bigSep_sep']
        exact (bigSep_mono fun k _ => (Rounds.body_intro ER (Rd m) (kc (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays (and a few that nobody does). -/
def payToks (c : Dev nD) : sProp 𝕄 :=
  iprop((bigSep Finset.univ fun p : Dev nD => dutyTok ER (barCell p) 0 c)
    ∗ (bigSep Finset.univ fun j : Dev nD => dutyTok ER (cell (0, j) c) 0 c) ∗ (bigSep Finset.univ fun j : Dev nD => dutyTok ER (cell (1, c) j) 0 c)
    ∗ (bigSep Finset.univ fun j : Dev nD => dutyTok ER (cell (2, j) c) 0 c) ∗ (bigSep Finset.univ fun j : Dev nD => dutyTok ER (cell (3, c) j) 0 c))

theorem opt4 {Φ : Option (Fin 4) → sProp 𝕄} :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- The duties by owner are the duties by payer. -/
theorem toks_around : (bigSep Finset.univ fun c : Dev nD => (toks c : sProp 𝕄)) ⊢ bigSep Finset.univ fun c : Dev nD => payToks c := by
  have h : (fun c : Dev nD => (toks c : sProp 𝕄)) = fun c => iprop(
      (bigSep Finset.univ fun b : Dev nD => dutyTok ER (barCell c) 0 b)
      ∗ (bigSep Finset.univ fun j : Dev nD => dutyTok ER (cell (0, j) c) 0 c) ∗ (bigSep Finset.univ fun j : Dev nD => dutyTok ER (cell (1, j) c) 0 j)
      ∗ (bigSep Finset.univ fun j : Dev nD => dutyTok ER (cell (2, j) c) 0 c) ∗ (bigSep Finset.univ fun j : Dev nD => dutyTok ER (cell (3, j) c) 0 j)) := by
    funext c
    unfold toks
    rw [bigSep_univ_prod, bigSep_congr (s := Finset.univ) (fun (b : Dev nD) _ => opt4), bigSep_sep', bigSep_sep', bigSep_sep', bigSep_sep']
    rfl
  rw [h]
  unfold payToks
  simp only [bigSep_sep']
  rw [BI.bigSep_univ_comm (fun c b : Dev nD => (dutyTok ER (barCell c) 0 b : sProp 𝕄)),
    BI.bigSep_univ_comm (fun c b : Dev nD => (dutyTok ER (cell (1, b) c) 0 b : sProp 𝕄)),
    BI.bigSep_univ_comm (fun c b : Dev nD => (dutyTok ER (cell (3, b) c) 0 b : sProp 𝕄))]

/-- What stays with device `c`: its places, and the duties it pays. -/
def linear (c : Dev nD) : sProp 𝕄 := iprop((bigSep Finset.univ fun k => atPos ER (kc (c, k)) 0 ∅ 0) ∗ payToks c)

/-- All cells' invariants, and that all are in their first round. -/
def records (K : Dev nD × Option (Fin 4 × Dev nD) → ℕ) : sProp 𝕄 :=
  bigSep Finset.univ (fun q => iprop(cellInv ER (Rd m) (K q) (kc q) ∗ reached ER (kc q) 0))

instance records_persistent (K : Dev nD × Option (Fin 4 × Dev nD) → ℕ) : BI.Persistent (records m K) := by unfold records; infer_instance

/-- What a device has after the dealing. -/
def G' (c : Dev nD) : sProp 𝕄 := iprop(∃ K, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kc (c, k))))
          ∗ (bigSep Finset.univ fun k => iprop(atPos ER (kc (c, k)) 0 ∅ 0 ∗ reached ER (kc (c, k)) 0)) ∗ toks c) : sProp 𝕄)
      ⊢ bigSep Finset.univ (G' m) := by
  rw [bigSep_sep', bigSep_sep', ← bigSep_univ_prod (fun q => iprop(∃ κ : ℕ, cellInv ER (Rd m) κ (kc q))),
    bigSep_congr (s := Finset.univ) (fun (c : Dev nD) _ => bigSep_sep' Finset.univ (fun k => (atPos ER (kc (c, k)) 0 ∅ 0 : sProp 𝕄)) (fun k => reached ER (kc (c, k)) 0)),
    bigSep_sep', ← bigSep_univ_prod (fun q => (reached ER (kc q) 0 : sProp 𝕄))]
  iintro ⟨HI, ⟨Hat, #HR⟩, Htok⟩
  ihave HK := (BI.bigSep_exists_pi Finset.univ (fun (q : Dev nD × Option (Fin 4 × Dev nD)) (κ : ℕ) => (cellInv ER (Rd m) κ (kc q) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'; iintro ⟨H1, H2⟩; iexists K; isplitl [H1] <;> iassumption)
  isplitr
  · unfold records; rw [bigSep_sep']
    isplitl; · iexact HI
    iexact HR
  · unfold linear; rw [bigSep_sep']
    isplitl [Hat]; · iexact Hat
    iexact Htk

/-- The dealing, on all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Deal

/-! ## The credits -/

/-- What device `c` waits for in all. -/
def due (c : Dev nD) : CellTallies nD τ sig Unit :=
  tallyAt (barCell c) () 31
    + ((∑ j ∈ rng c 0 32, tallyAt (cell (1, j) c) () (amt 1)) + ∑ j ∈ rng c 0 32, tallyAt (cell (3, j) c) () (amt 3))

theorem swap_rows {A : Type} [AddCommMonoid A] (f : Dev nD → Dev nD → A) :
    ∑ d, ∑ j ∈ rng d 0 32, f d j = ∑ j, ∑ d ∈ rng j 0 32, f d j :=
  Finset.sum_comm' fun d j => by simp only [Finset.mem_univ, true_and, and_true, mem_rng, Nat.zero_le]; exact ⟨fun h => ⟨h.1.symm, d.isLt⟩, fun h => ⟨h.1.symm, j.isLt⟩⟩

/-- The devices a device signals, in order, are all the others. -/
theorem others (c : Dev nD) : (Finset.Ico 1 32).image (pe c) = rng c 0 32 := by
  ext j; rw [Finset.mem_image, mem_rng]
  constructor
  · rintro ⟨o, ho, rfl⟩; rw [Finset.mem_Ico] at ho; exact ⟨(pe_ne ho.1 ho.2).symm, Nat.zero_le _, (pe c o).isLt⟩
  · rintro ⟨h, -, h2⟩
    have h1 : j.val ≠ c.val := fun e => h (Fin.ext e)
    have hc : c.val < 32 := c.isLt
    refine ⟨(j.val + 32 - c.val) % 32, Finset.mem_Ico.2 ⟨by omega, by omega⟩, Fin.ext ?_⟩
    simp only [pe]; omega

theorem pe_inj (c : Dev nD) {o o' : ℕ} (h : o < 32) (h' : o' < 32) (e : pe c o = pe c o') : o = o' := by
  have := congrArg Fin.val e; simp only [pe] at this; omega

theorem OB_rows (c : Dev nD) : OB c 1 = ∑ p ∈ rng c 0 32, tallyAt (barCell p) () 1 := by
  unfold OB
  rw [← others c, Finset.sum_image]
  intro o ho o' ho' e
  simp only [Finset.coe_Ico, Set.mem_Ico] at ho ho'
  exact pe_inj c ho.2 ho'.2 e

theorem const_rows {g : GSem nD τ sig} {c : Dev nD} : ∑ d ∈ rng c 0 32, (tallyAt g () 1 : CellTallies nD τ sig Unit) = tallyAt g () 31 := by
  have h : ∀ s : Finset (Dev nD), ∑ d ∈ s, (tallyAt g () 1 : CellTallies nD τ sig Unit) = tallyAt g () s.card := by
    intro s
    induction s using Finset.induction_on with
    | empty => rw [Finset.sum_empty, Finset.card_empty, tallyAt_zero]
    | insert i s hi ih => rw [Finset.sum_insert hi, ih, tallyAt_add, Finset.card_insert_of_notMem hi, add_comm]
  rw [h, rng_full, Finset.card_erase_of_mem (Finset.mem_univ _)]; rfl

theorem due_sum : ∑ d, O₀ d = ∑ d, due d := by
  unfold O₀ due OX
  simp only [OB_rows, Finset.sum_add_distrib]
  rw [swap_rows fun d p => (tallyAt (barCell p) () 1 : CellTallies nD τ sig Unit),
    swap_rows fun d j => (tallyAt (cell (1, d) j) () (amt 1) : CellTallies nD τ sig Unit),
    swap_rows fun d j => (tallyAt (cell (3, d) j) () (amt 3) : CellTallies nD τ sig Unit)]
  simp only [const_rows]

/-- Every credit of the sum is at a cell of `c`. -/
def Mine (c : Dev nD) (T : CellTallies nD τ sig Unit) : Prop := ∀ g, T g ≠ 0 → g.1 = (c : Thread nD τ)

theorem Mine.add {c : Dev nD} {T T' : CellTallies nD τ sig Unit} (h : Mine c T) (h' : Mine c T') : Mine c (T + T') := by
  intro g hg
  by_cases e : T g = 0
  · rw [Pi.add_apply, e, zero_add] at hg; exact h' g hg
  · exact h g e

theorem mine_at {c : Dev nD} {sm : SemLoc sig} {n : ℕ} : Mine c (tallyAt ((c : Thread nD τ), sm) () n) := by
  intro g hg
  by_contra h
  exact hg (tallyAt_ne_cell (fun e => h (congrArg Prod.fst e)) () n)

theorem mine_sum {c : Dev nD} {s : Finset (Dev nD)} {f : Dev nD → CellTallies nD τ sig Unit} (h : ∀ j, Mine c (f j)) : Mine c (∑ j ∈ s, f j) := by
  induction s using Finset.induction_on with
  | empty => intro g hg; exact absurd rfl hg
  | insert i s hi ih => rw [Finset.sum_insert hi]; exact (h i).add ih

theorem due_mine (c : Dev nD) : Mine c (due c) :=
  mine_at.add ((mine_sum fun _ => mine_at).add (mine_sum fun _ => mine_at))

theorem cred_rows (s : Finset (Dev nD)) (f : Dev nD → CellTallies nD τ sig Unit) :
    (cred (∑ j ∈ s, f j) : sProp 𝕄) ⊢ bigSep s fun j => cred (f j) := by
  induction s using Finset.induction_on with
  | empty => rw [Finset.sum_empty, show bigSep ∅ (fun j => (cred (f j) : sProp 𝕄)) = iprop(emp) from bigSep_empty]; iintro H; iempintro
  | insert i s hi ih =>
    rw [Finset.sum_insert hi, show bigSep (insert i s) (fun j => (cred (f j) : sProp 𝕄)) = iprop(cred (f i) ∗ bigSep s fun j => cred (f j)) from bigSep_insert hi]
    exact (cred_add _ _).1.trans (sep_mono_right ih)

/-- The credits device `c` starts with. -/
theorem creds (c : Dev nD) :
    (Pipeline.launchCred O₀ c : sProp 𝕄) ⊢ iprop(cred (tallyAt (barCell c) () 31)
      ∗ (bigSep (rng c 0 32) fun j => cred (tallyAt (cell (1, j) c) () (amt 1))) ∗ (bigSep (rng c 0 32) fun j => cred (tallyAt (cell (3, j) c) () (amt 3)))) := by
  rw [Pipeline.launchCred_of_sum O₀ due due_sum due_mine c]
  unfold due
  exact (cred_add _ _).1.trans (sep_mono_right ((cred_add _ _).1.trans
    ((sep_mono_left (cred_rows _ _)).trans (sep_mono_right (cred_rows _ _)))))

end Cert.MoeProof
-- ==== Proof.Steps.lean ====
/-
# One lemma per step of the body

Each kind of step of the unrolled walks — a barrier signal, a guarded send of a row, a guarded wait for a row — has one
lemma. It takes what is left of the walk from device `k` on to what is left from `k + 1` on, whatever else (`Fr`) is held.
-/
module

public import proofs.«01_k».proof.Proof.Owed

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

section Steps
variable (m : (ℓ : Loc nD τ sig) → Buf (Elt F) ℓ) (K : Dev nD × Option (Fin 4 × Dev nD) → ℕ)

/-! ## The barrier -/

/-- Before the signal to the `k`-th device after `c`. -/
def stSig (c : Dev nD) (k : ℕ) (O : CellTallies nD τ sig Unit) : sProp 𝕄 :=
  iprop(owesE c (OB c k + O) ∗ bigSep (Finset.Ico k 32) fun o => iprop(dutyTok ER (barCell (pe c o)) 0 c ∗ barPay (F := F) (pe c o) c))

theorem signal_step {c : Dev nD} {k : ℕ} (hk1 : 1 ≤ k) (hk : k < 32) {n : Dev nD} (hn : n = pe c k) {O : CellTallies nD τ sig Unit}
    {α : Type} {rest : PUnit → Prog (TpuEff nD τ sig (Elt F) Λ₀ .tc) α} {Q : α → sProp 𝕄} {Fr : sProp 𝕄}
    (h : iprop(recs m K ∗ stSig c (k + 1) O ∗ Fr) ⊢ run c (rest ⟨⟩) Q) :
    iprop(recs m K ∗ stSig c k O ∗ Fr) ⊢ run c (semSignalWord n (SemArray.scalar (sig.barrier 0 rfl) : Sems sig S_).sem 1#32 >>= rest) Q := by
  subst hn
  unfold stSig owesE
  rw [bigSep_Ico hk]
  iintro ⟨#HR, ⟨⟨%W, HO⟩, ⟨Ht, Hp⟩, Hrest⟩, HF⟩
  ihave ⟨#HI, #Hr⟩ := (recs_at m K (pe c k, none)) $$ HR
  simp only [semSignalWord, Prog.bind_op, Prog.bind_ret]
  iapply (Rounds.wp_signal 𝒱₀ ER (Rd m) (c : Thread nD τ) none (dst := (pe c k : Thread nD τ)) (sem := barS) (κ := K (pe c k, none)) (r := 0)
      (d := c) (by rw [show ((pe c k : Thread nD τ), SemLoc.reg barS) = barCell (pe c k) from rfl, duties_bar]; exact Finset.mem_erase.2 ⟨pe_ne hk1 hk, Finset.mem_univ _⟩)
      ((amount_bar m (pe c k) c 0).trans (by decide)) () (OB c (k + 1) + O) (O₀ := OB c k + O) (by rw [OB_head hk, add_right_comm]; rfl)) $$ [HO Ht Hp]
  · isplitr; · iexact HI
    isplitl [HO]; · iexact HO
    isplitl [Ht]; · iexact Ht
    isplitl [Hp]
    · rw [show (Rd m).payload ((pe c k : Thread nD τ), SemLoc.reg barS) 0 c = barPay (F := F) (pe c k) c from payload_bar m (pe c k) c 0]; iexact Hp
    iexact Hr
  iintro HO
  iapply h
  isplitr; · iexact HR
  isplitr [HF]
  · unfold stSig owesE
    isplitl [HO]; · iexists W; iexact HO
    iexact Hrest
  iexact HF

/-! ## The guarded waits -/

/-- The device number the kernel computes. -/
abbrev me (c : Dev nD) : BitVec 32 := Scalar.remsi (Scalar.divsi (Dev.word c) 1#32) 32#32

/-- The kernel's test "not device `k`". -/
theorem cond_ne (c : Dev nD) {k : ℕ} (hk : k < 32) :
    Scalar.cmpi .ne (Scalar.extui (Scalar.cmpi .ne (me c) (BitVec.ofNat 32 k)) : BitVec 32) 0#32 = 1#1 ↔ c.val ≠ k :=
  (by decide +kernel : ∀ (c : Dev nD) (k : Fin 32),
    Scalar.cmpi .ne (Scalar.extui (Scalar.cmpi .ne (me c) (BitVec.ofNat 32 k.val)) : BitVec 32) 0#32 = 1#1 ↔ c.val ≠ k.val) c ⟨k, hk⟩

/-- In the walk of waits along array `κ`, before the wait for device `k`: what is still to come from `k` up, and what has come. -/
def stWait (κ : Fin 4) (c : Dev nD) (lo k : ℕ) : sProp 𝕄 :=
  iprop((bigSep (rng c k 32) fun j => iprop(cred (tallyAt (cell (κ, j) c) () (amt κ)) ∗ atPos ER (cell (κ, j) c) 0 ∅ 0))
    ∗ (bigSep (rng c lo k) fun j => xPay m κ c j) ∗ bigSep (rng c 0 k) fun j => atPos ER (cell (κ, j) c) 1 ∅ 0)

theorem mayWait_cell (κ : Fin 4) (c j : Dev nD) {O : CellTallies nD τ sig Unit}
    (hO : Above (if κ.val = 1 then 2 else if κ.val = 3 then 3 else 0) O) :
    recs m K ⊢ MayWait (c : Thread nD τ) (osem (κ, j)) () O := by
  have h0 : lv ((c : Thread nD τ), osem (κ, j)) () ≤ (if κ.val = 1 then 2 else if κ.val = 3 then 3 else 0) := by
    rw [show (((c : Thread nD τ), osem (κ, j)) : GSem nD τ sig) = cell (κ, j) c from rfl, lv_cell]
  have h2 := mayWait_of (F := F) c (osem (κ, j)) _ h0 hO
  refine BIBase.Entails.trans ?_ h2
  have h3 := recs_lev m K
  exact h3

theorem wait_step (κ : Fin 4) {c : Dev nD} {lo k : ℕ} (hk : k < 32) (hlo : lo ≤ k) {O : CellTallies nD τ sig Unit}
    (hO : Above (if κ.val = 1 then 2 else if κ.val = 3 then 3 else 0) O) {cond : BitVec 1} (hcond : cond = 1#1 ↔ c.val ≠ k) {inst : Decidable (cond = 1#1)}
    {inb : ∀ a, (![k] : Fin 1 → ℕ) a + S1.size a ≤ S32.size a} {sp sp' : Space} {s s' : Shape} {e e' : EltTy}
    {src : Memref sig .tc sp s e} {dst : Memref sig .tc sp' s' e'} {h1 : src.view.WordExact} {h2 : dst.view.WordExact} (hN : dst.view.dmaCredit = amt κ)
    {A : DmaSems sig S32} (hA : A = arr κ)
    {α : Type} {rest : Prog (TpuEff nD τ sig (Elt F) Λ₀ .tc) α} {Q : α → sProp 𝕄} {Fr : sProp 𝕄}
    (h : iprop(recs m K ∗ (owesE c O ∗ stWait m κ c lo (k + 1)) ∗ Fr) ⊢ run c rest Q) :
    iprop(recs m K ∗ (owesE c O ∗ stWait m κ c lo k) ∗ Fr) ⊢ run c (@dite _ (cond = 1#1) inst
      (fun _ => Prog.lift (.waitDma2 ((A.slice (Rect.unit (s := S32) ![k] S1.size inb)).squeeze S_ squeezes_S1_S_).sem src dst h1 h2) >>= fun _ => rest)
      (fun _ => rest)) Q := by
  subst hA
  by_cases hc : c.val = k
  · rw [dif_neg (fun e => hcond.1 e hc)]
    refine BIBase.Entails.trans (Entails.of_eq ?_) h
    unfold stWait
    rw [rng_head_own hc, rng_last_own (lo := lo) hc, rng_last_own (lo := 0) hc]
  · rw [dif_pos (hcond.2 hc)]
    have hj : (⟨k, hk⟩ : Dev nD) ≠ c := fun e => hc (by rw [← e])
    have hexp : 0 + dst.view.dmaCredit = (Rd m).expect (cell (κ, ⟨k, hk⟩) c) 0 := by
      rw [Nat.zero_add, hN]; exact (expect_cell m (p := (κ, ⟨k, hk⟩)) hj).symm
    have hmay : recs m K ⊢ MayWait (c : Thread nD τ) (osem (κ, ⟨k, hk⟩)) () O :=
      mayWait_cell m K κ c ⟨k, hk⟩ hO
    have hgot : bigSep ((Rd m).duties ((c : Thread nD τ), osem (κ, ⟨k, hk⟩)) 0 \ ∅) (fun d => (Rd m).payload ((c : Thread nD τ), osem (κ, ⟨k, hk⟩)) 0 d)
        = xPay m κ c ⟨k, hk⟩ := by
      rw [show (((c : Thread nD τ), osem (κ, ⟨k, hk⟩)) : GSem nD τ sig) = cell (κ, ⟨k, hk⟩) c from rfl, Finset.sdiff_empty,
        duties_cell m (p := (κ, ⟨k, hk⟩)) hj, bigSep_singleton, payload_cell]
    unfold stWait owesE
    rw [bigSep_head hk hk hc]
    iintro ⟨#HR, ⟨⟨%W, HO⟩, ⟨⟨Hc, Ha⟩, Hrest⟩, Hgot, Hpos⟩, HF⟩
    ihave ⟨#HI, -⟩ := (recs_at m K (c, some (κ, ⟨k, hk⟩))) $$ HR
    simp only [Prog.lift, Prog.bind_op, Prog.bind_ret]
    iapply (Rounds.wp_wait_rest_token 𝒱₀ ER (Rd m) (c : Thread nD τ) none (κ := K (c, some (κ, ⟨k, hk⟩))) (sm := osem (κ, ⟨k, hk⟩))
        (wpE_waitDma2_eq 𝒱₀ (c : Thread nD τ) none Set.univ) (Set.mem_univ _) () (O := O) (W := W) (R := 0) (m := 0) (T := ∅)
        (hexp)) $$ [Hc HO Ha]
    · isplitr; · iexact HI
      isplitl [Hc]; · rw [hN]; iexact Hc
      isplitl [HO]; · iexact HO
      isplitr
      · iapply hmay; iexact HR
      iexact Ha
    iintro ⟨HO, Ha, -, Hpay⟩
    ihave Hpay := (Entails.of_eq hgot) $$ Hpay
    iapply h
    isplitr; · iexact HR
    isplitr [HF]
    · unfold stWait owesE
      rw [bigSep_last hk hlo hc, bigSep_last (lo := 0) hk (Nat.zero_le _) hc]
      isplitl [HO]; · iexists _; iexact HO
      isplitl [Hrest]; · iexact Hrest
      isplitl [Hpay Hgot]
      · isplitl [Hpay]; · iexact Hpay
        iexact Hgot
      isplitl [Ha]; · iexact Ha
      iexact Hpos
    iexact HF

/-! ## The guarded sends -/

theorem duties_pays {κ : Fin 4} (hκ : κ.val % 2 = 0) {c j : Dev nD} (hj : j ≠ c) : c ∈ (Rd m).duties (cell (κ, j) c) 0 := by
  rw [duties_cell m (p := (κ, j)) hj]; unfold payer; dsimp only; rw [if_pos hκ]; exact Finset.mem_singleton_self _
theorem duties_lands {κ : Fin 4} (hκ : κ.val % 2 = 1) {c j : Dev nD} (hj : j ≠ c) : c ∈ (Rd m).duties (cell (κ, c) j) 0 := by
  rw [duties_cell m (p := (κ, c)) hj.symm]; unfold payer; dsimp only; rw [if_neg (by omega)]; exact Finset.mem_singleton_self _

/-- The row of device `j`'s buffer that the cells of array `κ` announce, with any contents: where `c` writes. -/
def there (κ : Fin 4) (c j : Dev nD) : sProp 𝕄 := if κ.val = 1 then iprop(∃ f, vR (F := F) j {c} f) else iprop(∃ f, tR (F := F) j {c} f)

/-- In the walk of sends that array `κ` announces here and `κ'` there, before the send to device `k`: the duties and rows
still to be used, the rows still to be sent up to `hi`, and the credits taken. -/
def stSend (κ κ' : Fin 4) (c : Dev nD) (k hi : ℕ) : sProp 𝕄 :=
  iprop((bigSep (rng c k 32) fun j => iprop(dutyTok ER (cell (κ, j) c) 0 c ∗ dutyTok ER (cell (κ', c) j) 0 c ∗ there (F := F) κ' c j))
    ∗ (bigSep (rng c k hi) fun j => xPay m κ c j) ∗ bigSep (rng c 0 k) fun j => cred (tallyAt (cell (κ, j) c) () (amt κ)))

/-- A row moved: row `j` of `fs`, written as row `c`. -/
theorem row_moved1 {c j : ℕ} (hc : c < 32) (hj : j < 32) (inb inb') (h h') (fd fs : B1 F) (i : S32x2x48x256.Idx) (hi : (rowNo i).val = c) :
    (((Memref.whole cc0_scratch1).slice (Rect.unit (s := S32x2x48x256) ![c, 0, 0, 0] S1x2x48x256.size inb) h).view.write (Elt F) fd
      (((Memref.whole cc0_scratch0).slice (Rect.unit (s := S32x2x48x256) ![j, 0, 0, 0] S1x2x48x256.size inb') h').view.read (Elt F) fs) Finset.univ) i
      = fs (ix4 (⟨j, hj⟩ : Fin 32) (i 1) (i 2) (i 3)) := by
  have e : i = ((Memref.whole cc0_scratch1).slice (Rect.unit (s := S32x2x48x256) ![c, 0, 0, 0] S1x2x48x256.size inb) h).view.emb (ix4 (0 : Fin 1) (i 1) (i 2) (i 3)) := by
    funext a; apply Fin.ext
    match a with
    | ⟨0, _⟩ => show (rowNo i).val = c + 1 * 0; rw [hi]; rfl
    | ⟨1, _⟩ => show (i 1).val = 0 + 1 * (i 1).val; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  show fs _ = fs _
  congr 1
  funext a; apply Fin.ext
  match a with
  | ⟨0, _⟩ => show j + 1 * 0 = j; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem row_moved2 {c j : ℕ} (hc : c < 32) (hj : j < 32) (inb inb') (h h') (fd fs : B2 F) (i : S32x2x48x512.Idx) (hi : (rowNo i).val = c) :
    (((Memref.whole cc0_scratch3).slice (Rect.unit (s := S32x2x48x512) ![c, 0, 0, 0] S1x2x48x512.size inb) h).view.write (Elt F) fd
      (((Memref.whole cc0_scratch2).slice (Rect.unit (s := S32x2x48x512) ![j, 0, 0, 0] S1x2x48x512.size inb') h').view.read (Elt F) fs) Finset.univ) i
      = fs (ix4 (⟨j, hj⟩ : Fin 32) (i 1) (i 2) (i 3)) := by
  have e : i = ((Memref.whole cc0_scratch3).slice (Rect.unit (s := S32x2x48x512) ![c, 0, 0, 0] S1x2x48x512.size inb) h).view.emb (ix4 (0 : Fin 1) (i 1) (i 2) (i 3)) := by
    funext a; apply Fin.ext
    match a with
    | ⟨0, _⟩ => show (rowNo i).val = c + 1 * 0; rw [hi]; rfl
    | ⟨1, _⟩ => show (i 1).val = 0 + 1 * (i 1).val; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  show fs _ = fs _
  congr 1
  funext a; apply Fin.ext
  match a with
  | ⟨0, _⟩ => show j + 1 * 0 = j; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem in_row (k : ℕ) (hk : k < 32) (j : Dev nD) : j ∈ ({(⟨k, hk⟩ : Dev nD)} : Finset (Dev nD)) ↔ k ≤ j.val ∧ j.val < k + 1 := by
  rw [Finset.mem_singleton]; exact ⟨fun h => by subst h; exact ⟨le_refl _, Nat.lt_succ_self _⟩, fun h => Fin.ext (by show j.val = k; omega)⟩

/-- The exchange of one row, at whatever views hold the two rows. -/
theorem send_core {κ κ' : Fin 4} (hκ : (κ.val = 0 ∧ κ'.val = 1) ∨ (κ.val = 2 ∧ κ'.val = 3)) {c : Dev nD} {k hi : ℕ} (hk : k < 32) (hhi : k < hi)
    (hc : c.val ≠ k) {O : CellTallies nD τ sig Unit} {s : Shape}
    {src : Memref sig .tc .vmem s .bf16} {dst : Memref sig .tc .vmem s .bf16} {h0 : dst.view.ref.isScScratch = false}
    {h1 : src.view.WordExact} {h2 : dst.view.WordExact} {h3}
    (fs : Buf (Elt F) (src.view.loc (c : Thread nD τ))) (hN : dst.view.amount (osem (κ', c)) = amt κ')
    (hsrc : (src.view.loc (c : Thread nD τ) ↦[src.view.set]{fullShare} fs : sProp 𝕄) = xPay m κ c ⟨k, hk⟩)
    (hdst : there (F := F) κ' c ⟨k, hk⟩ ⊢ iprop(∃ fd, (dst.view.loc (((⟨k, hk⟩ : Dev nD)) : Thread nD τ) ↦[dst.view.set]{fullShare} fd)))
    (hland : ∀ fd, (dst.view.loc ((⟨k, hk⟩ : Dev nD) : Thread nD τ) ↦[dst.view.set]{fullShare} (dst.view.write (Elt F) fd (src.view.read (Elt F) fs) Finset.univ) : sProp 𝕄)
      ⊢ xPay m κ' ⟨k, hk⟩ c)
    {α : Type} {rest : Prog (TpuEff nD τ sig (Elt F) Λ₀ .tc) α} {Q : α → sProp 𝕄} {Fr : sProp 𝕄}
    (h : iprop(recs m K ∗ (owesE c (OX κ' c (k + 1) + O) ∗ stSend m κ κ' c (k + 1) hi) ∗ Fr) ⊢ run c rest Q) :
    iprop(recs m K ∗ (owesE c (OX κ' c k + O) ∗ stSend m κ κ' c k hi) ∗ Fr) ⊢ run c
      (Prog.lift (.enqueueDma src (.remote (Dev.tc (⟨k, hk⟩ : Dev nD)) dst (osem (κ, ⟨k, hk⟩)) h0) (osem (κ', c)) h1 h2 h3) >>= fun _ => rest) Q := by
  have hj : (⟨k, hk⟩ : Dev nD) ≠ c := fun e => hc (by rw [← e])
  have hamt : amt κ = amt κ' := by unfold amt; rcases hκ with ⟨e, e'⟩ | ⟨e, e'⟩ <;> rw [e, e'] <;> rfl
  have hO : OX κ' c k + O = OX κ' c (k + 1) + O + tallyAt ((((⟨k, hk⟩ : Dev nD)) : Thread nD τ), osem (κ', c)) () (amt κ') := by
    rw [OX_head hk hc, add_right_comm]; rfl
  have hp1 : (src.view.loc (c : Thread nD τ) ↦[src.view.set]{fullShare} fs : sProp 𝕄) ⊢ (Rd m).payload (cell (κ, ⟨k, hk⟩) c) 0 c := by
    rw [hsrc, payload_cell]
  have hp2 : ∀ fd, (dst.view.loc ((⟨k, hk⟩ : Dev nD) : Thread nD τ) ↦[dst.view.set]{fullShare} (dst.view.write (Elt F) fd (src.view.read (Elt F) fs) Finset.univ) : sProp 𝕄)
      ⊢ (Rd m).payload (cell (κ', c) ⟨k, hk⟩) 0 c := by intro fd; rw [payload_cell]; exact hland fd
  have hd1 : c ∈ (Rd m).duties (cell (κ, ⟨k, hk⟩) c) 0 := duties_pays m (by rcases hκ with ⟨e, -⟩ | ⟨e, -⟩ <;> rw [e]) hj
  have hd2 : c ∈ (Rd m).duties (cell (κ', c) ⟨k, hk⟩) 0 := duties_lands m (by rcases hκ with ⟨-, e⟩ | ⟨-, e⟩ <;> rw [e]) hj
  unfold stSend owesE
  rw [bigSep_head hk hk hc, bigSep_head (hi := hi) hk hhi hc, ← hsrc]
  iintro ⟨#HR, ⟨⟨%W, HO⟩, ⟨⟨Ht1, Ht2, Hd⟩, Hrest⟩, ⟨Hs, Hrows⟩, Hcr⟩, HF⟩
  ihave ⟨#HI1, #Hr1⟩ := (recs_at m K (c, some (κ, ⟨k, hk⟩))) $$ HR
  ihave ⟨#HI2, #Hr2⟩ := (recs_at m K (⟨k, hk⟩, some (κ', c))) $$ HR
  ihave ⟨%fd, Hd⟩ := hdst $$ Hd
  simp only [Prog.lift, Prog.bind_op, Prog.bind_ret]
  iapply (Rounds.wp_send_pointsTo 𝒱₀ ER (Rd m) (c : Thread nD τ) none (κ₁ := K (c, some (κ, ⟨k, hk⟩))) (κ₂ := K (⟨k, hk⟩, some (κ', c)))
      (r₁ := 0) (r₂ := 0) (d₁ := c) (d₂ := c) (fd := fd) (fs := fs) (q := fullShare) hd1 hd2 () () (amt κ') hN
      ((amount_cell m (κ, ⟨k, hk⟩) c c 0).trans hamt) (amount_cell m (κ', c) ⟨k, hk⟩ c 0) (OX κ' c (k + 1) + O) hO (W := W) hp1 (hp2 fd) (by routes)) $$ [HO Ht1 Ht2 Hd Hs]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply h
  isplitr; · iexact HR
  isplitr [HF]
  · unfold stSend owesE
    rw [bigSep_last (lo := 0) hk (Nat.zero_le _) hc, hamt]
    isplitl [HO]; · iexists _; iexact HO
    isplitl [Hrest]; · iexact Hrest
    isplitl [Hrows]; · iexact Hrows
    isplitl [Hc]; · iexact Hc
    iexact Hcr
  iexact HF

theorem send_own {κ κ' : Fin 4} {c : Dev nD} {k hi : ℕ} (hc : c.val = k) (O : CellTallies nD τ sig Unit) :
    iprop(owesE c (OX κ' c k + O) ∗ stSend m κ κ' c k hi) = iprop(owesE c (OX κ' c (k + 1) + O) ∗ stSend m κ κ' c (k + 1) hi) := by
  unfold stSend; rw [OX_own hc, rng_head_own hc, rng_head_own (hi := hi) hc, rng_last_own (lo := 0) hc]

/-- Row `o` of the dispatch buffer, and of the buffer it is sent into. -/
abbrev from1 (o : Fin 4 → ℕ) (inb : ∀ a, o a + S1x2x48x256.size a ≤ S32x2x48x256.size a) : Memref sig .tc .vmem S1x2x48x256 .bf16 :=
  (Memref.whole cc0_scratch0).slice (Rect.unit (s := S32x2x48x256) o S1x2x48x256.size inb) (fun _ => rfl)
abbrev into1 (o : Fin 4 → ℕ) (inb : ∀ a, o a + S1x2x48x256.size a ≤ S32x2x48x256.size a) : Memref sig .tc .vmem S1x2x48x256 .bf16 :=
  (Memref.whole cc0_scratch1).slice (Rect.unit (s := S32x2x48x256) o S1x2x48x256.size inb) (fun _ => rfl)

theorem from1_set {o : Fin 4 → ℕ} {k : ℕ} (hk : k < 32) (ho : o = ![k, 0, 0, 0]) (inb) (c : Dev nD) (f : B1 F) :
    ((from1 o inb).view.loc (c : Thread nD τ) ↦[(from1 o inb).view.set]{fullShare} f : sProp 𝕄) = sR c {⟨k, hk⟩} f := by
  unfold sR
  rw [← set_rows (d := 256) (n := 1) ho inb {⟨k, hk⟩} (in_row k hk)]
  exact congrArg (fun S => _ ↦[S]{fullShare} _) (View.set_slice_whole _ _)
theorem into1_set {o : Fin 4 → ℕ} {k : ℕ} (hk : k < 32) (ho : o = ![k, 0, 0, 0]) (inb) (c : Dev nD) (f : B1 F) :
    ((into1 o inb).view.loc (c : Thread nD τ) ↦[(into1 o inb).view.set]{fullShare} f : sProp 𝕄) = vR c {⟨k, hk⟩} f := by
  unfold vR
  rw [← set_rows (d := 256) (n := 1) ho inb {⟨k, hk⟩} (in_row k hk)]
  exact congrArg (fun S => _ ↦[S]{fullShare} _) (View.set_slice_whole _ _)

/-- The guarded send of row `k` of the dispatch buffer to device `k`. -/
theorem send_step1 {c : Dev nD} {k hi : ℕ} (hk : k < 32) (hhi : k < hi) {O : CellTallies nD τ sig Unit}
    {cond : BitVec 1} (hcond : cond = 1#1 ↔ c.val ≠ k) {inst : Decidable (cond = 1#1)}
    {inb : ∀ a, (![k] : Fin 1 → ℕ) a + S1.size a ≤ S32.size a} {o1 : Fin 1 → ℕ} (ho1 : o1 = ![c.val]) {inb1 : cond = 1#1 → ∀ a, o1 a + S1.size a ≤ S32.size a}
    {inb2 : ∀ a, (![k, 0, 0, 0] : Fin 4 → ℕ) a + S1x2x48x256.size a ≤ S32x2x48x256.size a} {o3 : Fin 4 → ℕ} (ho3 : o3 = ![c.val, 0, 0, 0])
    {inb3 : cond = 1#1 → ∀ a, o3 a + S1x2x48x256.size a ≤ S32x2x48x256.size a} {n : ℕ} (hn : n = k) {hlt : cond = 1#1 → n < nD}
    {h0 : ∀ hh, (into1 o3 (inb3 hh)).view.ref.isScScratch = false}
    {h1 : cond = 1#1 → (from1 ![k, 0, 0, 0] inb2).view.WordExact} {h2 : ∀ hh, (into1 o3 (inb3 hh)).view.WordExact}
    {h3 : ∀ hh, DmaTarget.Typed .vmem (.dma ((cc0_scratch5.slice (Rect.unit (s := S32) o1 S1.size (inb1 hh))).squeeze S_ squeezes_S1_S_).sem)
      (.remote (Dev.tc (⟨n, hlt hh⟩ : Dev nD)) (into1 o3 (inb3 hh)) (.dma ((cc0_scratch4.slice (Rect.unit (s := S32) ![k] S1.size inb)).squeeze S_ squeezes_S1_S_).sem) (h0 hh))}
    {α : Type} {rest : Prog (TpuEff nD τ sig (Elt F) Λ₀ .tc) α} {Q : α → sProp 𝕄} {Fr : sProp 𝕄}
    (h : iprop(recs m K ∗ (owesE c (OX 1 c (k + 1) + O) ∗ stSend m 0 1 c (k + 1) hi) ∗ Fr) ⊢ run c rest Q) :
    iprop(recs m K ∗ (owesE c (OX 1 c k + O) ∗ stSend m 0 1 c k hi) ∗ Fr) ⊢ run c (@dite _ (cond = 1#1) inst
      (fun hh => Prog.lift (.enqueueDma (from1 ![k, 0, 0, 0] inb2)
          (.remote (Dev.tc (⟨n, hlt hh⟩ : Dev nD)) (into1 o3 (inb3 hh)) (.dma ((cc0_scratch4.slice (Rect.unit (s := S32) ![k] S1.size inb)).squeeze S_ squeezes_S1_S_).sem) (h0 hh))
          (.dma ((cc0_scratch5.slice (Rect.unit (s := S32) o1 S1.size (inb1 hh))).squeeze S_ squeezes_S1_S_).sem) (h1 hh) (h2 hh) (h3 hh)) >>= fun _ => rest)
      (fun _ => rest)) Q := by
  subst hn ho1 ho3
  by_cases hc : c.val = n
  · rw [dif_neg (fun e => hcond.1 e hc), send_own m hc]; exact h
  · rw [dif_pos (hcond.2 hc)]
    refine send_core m K (κ := 0) (κ' := 1) (by decide) hk hhi hc (SEND m c) ?_ ?_ ?_ ?_ h
    · rfl
    · exact from1_set hk rfl inb2 c _
    · unfold there
      rw [if_pos (by decide : (1 : Fin 4).val = 1)]
      iintro ⟨%f, H⟩
      iexists f
      iapply (Entails.of_eq (into1_set c.isLt rfl (inb3 (hcond.2 hc)) ⟨n, hk⟩ f).symm)
      iexact H
    · intro fd
      rw [into1_set c.isLt rfl (inb3 (hcond.2 hc)) ⟨n, hk⟩]
      exact Entails.of_eq (vR_congr fun i hi => by
        rw [Finset.mem_singleton] at hi
        rw [row_moved1 c.isLt hk _ _ _ _ fd (SEND m c) i (by rw [hi])]
        unfold RECV; rw [hi])

/-- Row `o` of the product buffer, and of the buffer it is sent into. -/
abbrev from2 (o : Fin 4 → ℕ) (inb : ∀ a, o a + S1x2x48x512.size a ≤ S32x2x48x512.size a) : Memref sig .tc .vmem S1x2x48x512 .bf16 :=
  (Memref.whole cc0_scratch2).slice (Rect.unit (s := S32x2x48x512) o S1x2x48x512.size inb) (fun _ => rfl)
abbrev into2 (o : Fin 4 → ℕ) (inb : ∀ a, o a + S1x2x48x512.size a ≤ S32x2x48x512.size a) : Memref sig .tc .vmem S1x2x48x512 .bf16 :=
  (Memref.whole cc0_scratch3).slice (Rect.unit (s := S32x2x48x512) o S1x2x48x512.size inb) (fun _ => rfl)

theorem from2_set {o : Fin 4 → ℕ} {k : ℕ} (hk : k < 32) (ho : o = ![k, 0, 0, 0]) (inb) (c : Dev nD) (f : B2 F) :
    ((from2 o inb).view.loc (c : Thread nD τ) ↦[(from2 o inb).view.set]{fullShare} f : sProp 𝕄) = rR c {⟨k, hk⟩} f := by
  unfold rR
  rw [← set_rows (d := 512) (n := 1) ho inb {⟨k, hk⟩} (in_row k hk)]
  exact congrArg (fun S => _ ↦[S]{fullShare} _) (View.set_slice_whole _ _)
theorem into2_set {o : Fin 4 → ℕ} {k : ℕ} (hk : k < 32) (ho : o = ![k, 0, 0, 0]) (inb) (c : Dev nD) (f : B2 F) :
    ((into2 o inb).view.loc (c : Thread nD τ) ↦[(into2 o inb).view.set]{fullShare} f : sProp 𝕄) = tR c {⟨k, hk⟩} f := by
  unfold tR
  rw [← set_rows (d := 512) (n := 1) ho inb {⟨k, hk⟩} (in_row k hk)]
  exact congrArg (fun S => _ ↦[S]{fullShare} _) (View.set_slice_whole _ _)

/-- The guarded send of row `k` of the product buffer to device `k`. -/
theorem send_step2 {c : Dev nD} {k hi : ℕ} (hk : k < 32) (hhi : k < hi) {O : CellTallies nD τ sig Unit}
    {cond : BitVec 1} (hcond : cond = 1#1 ↔ c.val ≠ k) {inst : Decidable (cond = 1#1)}
    {inb : ∀ a, (![k] : Fin 1 → ℕ) a + S1.size a ≤ S32.size a} {o1 : Fin 1 → ℕ} (ho1 : o1 = ![c.val]) {inb1 : cond = 1#1 → ∀ a, o1 a + S1.size a ≤ S32.size a}
    {inb2 : ∀ a, (![k, 0, 0, 0] : Fin 4 → ℕ) a + S1x2x48x512.size a ≤ S32x2x48x512.size a} {o3 : Fin 4 → ℕ} (ho3 : o3 = ![c.val, 0, 0, 0])
    {inb3 : cond = 1#1 → ∀ a, o3 a + S1x2x48x512.size a ≤ S32x2x48x512.size a} {n : ℕ} (hn : n = k) {hlt : cond = 1#1 → n < nD}
    {h0 : ∀ hh, (into2 o3 (inb3 hh)).view.ref.isScScratch = false}
    {h1 : cond = 1#1 → (from2 ![k, 0, 0, 0] inb2).view.WordExact} {h2 : ∀ hh, (into2 o3 (inb3 hh)).view.WordExact}
    {h3 : ∀ hh, DmaTarget.Typed .vmem (.dma ((cc0_scratch7.slice (Rect.unit (s := S32) o1 S1.size (inb1 hh))).squeeze S_ squeezes_S1_S_).sem)
      (.remote (Dev.tc (⟨n, hlt hh⟩ : Dev nD)) (into2 o3 (inb3 hh)) (.dma ((cc0_scratch6.slice (Rect.unit (s := S32) ![k] S1.size inb)).squeeze S_ squeezes_S1_S_).sem) (h0 hh))}
    {α : Type} {rest : Prog (TpuEff nD τ sig (Elt F) Λ₀ .tc) α} {Q : α → sProp 𝕄} {Fr : sProp 𝕄}
    (h : iprop(recs m K ∗ (owesE c (OX 3 c (k + 1) + O) ∗ stSend m 2 3 c (k + 1) hi) ∗ Fr) ⊢ run c rest Q) :
    iprop(recs m K ∗ (owesE c (OX 3 c k + O) ∗ stSend m 2 3 c k hi) ∗ Fr) ⊢ run c (@dite _ (cond = 1#1) inst
      (fun hh => Prog.lift (.enqueueDma (from2 ![k, 0, 0, 0] inb2)
          (.remote (Dev.tc (⟨n, hlt hh⟩ : Dev nD)) (into2 o3 (inb3 hh)) (.dma ((cc0_scratch6.slice (Rect.unit (s := S32) ![k] S1.size inb)).squeeze S_ squeezes_S1_S_).sem) (h0 hh))
          (.dma ((cc0_scratch7.slice (Rect.unit (s := S32) o1 S1.size (inb1 hh))).squeeze S_ squeezes_S1_S_).sem) (h1 hh) (h2 hh) (h3 hh)) >>= fun _ => rest)
      (fun _ => rest)) Q := by
  subst hn ho1 ho3
  by_cases hc : c.val = n
  · rw [dif_neg (fun e => hcond.1 e hc), send_own m hc]; exact h
  · rw [dif_pos (hcond.2 hc)]
    refine send_core m K (κ := 2) (κ' := 3) (by decide) hk hhi hc (RES m c) ?_ ?_ ?_ ?_ h
    · rfl
    · exact from2_set hk rfl inb2 c _
    · unfold there
      rw [if_neg (by decide : ¬ (3 : Fin 4).val = 1)]
      iintro ⟨%f, H⟩
      iexists f
      iapply (Entails.of_eq (into2_set c.isLt rfl (inb3 (hcond.2 hc)) ⟨n, hk⟩ f).symm)
      iexact H
    · intro fd
      rw [into2_set c.isLt rfl (inb3 (hcond.2 hc)) ⟨n, hk⟩]
      exact Entails.of_eq (tR_congr fun i hi => by
        rw [Finset.mem_singleton] at hi
        rw [row_moved2 c.isLt hk _ _ _ _ fd (RES m c) i (by rw [hi])]
        unfold RET; rw [hi])

end Steps

end Cert.MoeProof
-- ==== Proof.Moves.lean ====
/-
# Moves between the local buffers

Loads and stores on one device as steps of the body, and the bookkeeping of rows they need: the sixteen rows of one step out
of the rows that have come, the row a device keeps, and what a store leaves.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

/-! ## Rows -/

/-- The devices from `lo` up to `hi`. -/
def seg (lo hi : ℕ) : Finset (Dev nD) := Finset.univ.filter fun j => lo ≤ j.val ∧ j.val < hi

theorem mem_seg {j : Dev nD} {lo hi : ℕ} : j ∈ seg lo hi ↔ lo ≤ j.val ∧ j.val < hi := by simp [seg]

theorem seg_full : seg 0 32 = Finset.univ := by
  ext j; rw [mem_seg]; exact ⟨fun _ => Finset.mem_univ _, fun _ => ⟨Nat.zero_le _, j.isLt⟩⟩

theorem seg_halves : seg 0 32 = seg 0 16 ∪ seg 16 32 := by
  ext j; rw [Finset.mem_union, mem_seg, mem_seg, mem_seg]; omega

theorem seg_disj : Disjoint (seg 0 16) (seg 16 32) :=
  Finset.disjoint_left.2 fun j h h' => by rw [mem_seg] at h h'; omega

/-- Rows that have come and the own row hold any segment below. -/
theorem rows_cut {Φ : Dev nD → sProp 𝕄} {c : Dev nD} {n lo hi : ℕ} (h : hi ≤ n) :
    iprop(Φ c ∗ bigSep (rng c 0 n) Φ) = iprop(bigSep (seg lo hi) Φ ∗ bigSep (insert c (rng c 0 n) \ seg lo hi) Φ) := by
  have hc : c ∉ rng c 0 n := fun h => (mem_rng.1 h).1 rfl
  have hs : seg lo hi ⊆ insert c (rng c 0 n) := fun j hj => by
    rw [mem_seg] at hj
    rw [Finset.mem_insert, mem_rng]
    by_cases e : j = c
    · exact Or.inl e
    · exact Or.inr ⟨e, Nat.zero_le _, by omega⟩
  exact (bigSep_insert hc).symm.trans (bigSep_sdiff_split hs)

/-- The own entry, when it lies in the segment. -/
def ownIf (c : Dev nD) (lo hi : ℕ) (Φ : sProp 𝕄) : sProp 𝕄 := if lo ≤ c.val ∧ c.val < hi then Φ else iprop(emp)

theorem seg_own {Φ : Dev nD → sProp 𝕄} {c : Dev nD} {lo hi : ℕ} :
    bigSep (seg lo hi) Φ ⊢ iprop(ownIf c lo hi (Φ c) ∗ bigSep (rng c lo hi) Φ) := by
  unfold ownIf
  by_cases hc : lo ≤ c.val ∧ c.val < hi
  · rw [if_pos hc]
    have e : seg lo hi = insert c (rng c lo hi) := by
      ext j; rw [mem_seg, Finset.mem_insert, mem_rng]
      constructor
      · intro h
        by_cases e : j = c
        · exact Or.inl e
        · exact Or.inr ⟨e, h⟩
      · rintro (rfl | h)
        · exact hc
        · exact h.2
    rw [e]
    exact Entails.of_eq (bigSep_insert fun h => (mem_rng.1 h).1 rfl)
  · rw [if_neg hc]
    have e : seg lo hi = rng c lo hi := by
      ext j; rw [mem_seg, mem_rng]
      exact ⟨fun h => ⟨fun e => hc (e ▸ h), h⟩, fun h => h.2⟩
    rw [e]
    iintro H
    isplitr; · iempintro
    iexact H

theorem own_join {c : Dev nD} {Φ : sProp 𝕄} : iprop(ownIf c 0 16 Φ ∗ ownIf c 16 32 Φ) ⊢ Φ := by
  unfold ownIf
  have hc : c.val < 32 := c.isLt
  by_cases h : c.val < 16
  · rw [if_pos ⟨Nat.zero_le _, h⟩, if_neg (by omega)]
    iintro ⟨H, -⟩; iexact H
  · rw [if_neg (by omega), if_pos ⟨by omega, hc⟩]
    iintro ⟨-, H⟩; iexact H

theorem rR_halves (c : Dev nD) (f : B2 F) : rR c Finset.univ f ⊢ iprop(rR c (seg 0 16) f ∗ rR c (seg 16 32) f) := by
  rw [← seg_full, rR_split, seg_halves, bigSep_union seg_disj, ← rR_split, ← rR_split]
  exact Entails.refl _

section Steps
variable (m : (ℓ : Loc nD τ sig) → Buf (Elt F) ℓ) (K : Dev nD × Option (Fin 4 × Dev nD) → ℕ)

/-! ## Loads and stores as steps -/

theorem run_ret {c : Dev nD} {α : Type} {v : α} {Q : α → sProp 𝕄} {P : sProp 𝕄} (h : P ⊢ Q v) : P ⊢ run c (pure v) Q := by
  refine BIBase.Entails.trans h ?_
  show _ ⊢ wp _ _ _ (.ret v) Q
  rw [wp_ret]; exact fupd_intro

/-- A part of the body, then the rest of it. -/
theorem run_bind {c : Dev nD} {α β : Type} {p : Prog (TpuEff nD τ sig (Elt F) Λ₀ .tc) α} {k : α → Prog (TpuEff nD τ sig (Elt F) Λ₀ .tc) β}
    {Q : β → sProp 𝕄} {P : sProp 𝕄} (h : P ⊢ run c p fun a => run c (k a) Q) : P ⊢ run c (p >>= k) Q := by
  show _ ⊢ wp _ _ _ (p >>= k) Q
  rw [wp_bind]; exact h

/-- The second of two held assertions first. -/
theorem swap {R X A B Fr G : sProp 𝕄} (h : iprop(R ∗ X ∗ (B ∗ A ∗ Fr)) ⊢ G) : iprop(R ∗ X ∗ (A ∗ B ∗ Fr)) ⊢ G := by
  refine BIBase.Entails.trans ?_ h
  iintro ⟨HR, HX, HA, HB, HF⟩
  isplitl [HR]; · iexact HR
  isplitl [HX]; · iexact HX
  isplitl [HB]; · iexact HB
  isplitl [HA]; · iexact HA
  iexact HF

/-- The third of three held assertions first. -/
theorem rot {R X A B C Fr G : sProp 𝕄} (h : iprop(R ∗ X ∗ (C ∗ A ∗ B ∗ Fr)) ⊢ G) : iprop(R ∗ X ∗ (A ∗ B ∗ C ∗ Fr)) ⊢ G := by
  refine BIBase.Entails.trans ?_ h
  iintro ⟨HR, HX, HA, HB, HC, HF⟩
  isplitl [HR]; · iexact HR
  isplitl [HX]; · iexact HX
  isplitl [HC]; · iexact HC
  isplitl [HA]; · iexact HA
  isplitl [HB]; · iexact HB
  iexact HF

theorem load_step {c : Dev nD} {cs : CoreSpace} {s : Shape} {e : EltTy} {b : Memref sig .tc cs s e} {r : Rect s} {hl : b.view.LoadsAt r.toLoadRect}
    {S : Finset (Idx ((b.access r).loc (c : Thread nD τ)))} {f : Buf (Elt F) ((b.access r).loc (c : Thread nD τ))} {P X Fr : sProp 𝕄}
    (hP : P = ((b.access r).loc (c : Thread nD τ) ↦[S]{fullShare} f)) (hS : (b.access r).set ⊆ S)
    {v : r.shape.Idx → Elt F e} (hv : (b.access r).read (Elt F) f = v)
    {α : Type} {rest : (r.shape.Idx → Elt F e) → Prog (TpuEff nD τ sig (Elt F) Λ₀ .tc) α} {Q : α → sProp 𝕄}
    (h : iprop(recs m K ∗ X ∗ (P ∗ Fr)) ⊢ run c (rest v) Q) :
    iprop(recs m K ∗ X ∗ (P ∗ Fr)) ⊢ run c (Prog.lift (.load b r.toLoadRect hl) >>= rest) Q := by
  subst hP hv
  iintro ⟨HR, HX, HP, HF⟩
  simp only [Prog.lift, Prog.bind_op, Prog.bind_ret]
  iapply (wp_load_rect 𝒱₀ (c : Thread nD τ) none Set.univ (m := b) (r := r) hS) $$ HP
  iintro HP
  iapply h
  isplitl [HR]; · iexact HR
  isplitl [HX]; · iexact HX
  isplitl [HP]; · iexact HP
  iexact HF

/-- A load whose value is not used. -/
theorem load_any {c : Dev nD} {cs : CoreSpace} {s : Shape} {e : EltTy} {b : Memref sig .tc cs s e} {r : Rect s} {hl : b.view.LoadsAt r.toLoadRect}
    {S : Finset (Idx ((b.access r).loc (c : Thread nD τ)))} {f : Buf (Elt F) ((b.access r).loc (c : Thread nD τ))} {P X Fr : sProp 𝕄}
    (hP : P = ((b.access r).loc (c : Thread nD τ) ↦[S]{fullShare} f)) (hS : (b.access r).set ⊆ S)
    {α : Type} {rest : (r.shape.Idx → Elt F e) → Prog (TpuEff nD τ sig (Elt F) Λ₀ .tc) α} {Q : α → sProp 𝕄}
    (h : ∀ v, iprop(recs m K ∗ X ∗ (P ∗ Fr)) ⊢ run c (rest v) Q) :
    iprop(recs m K ∗ X ∗ (P ∗ Fr)) ⊢ run c (Prog.lift (.load b r.toLoadRect hl) >>= rest) Q :=
  load_step m K hP hS rfl (h _)

theorem store_step {c : Dev nD} {cs : CoreSpace} {s : Shape} {e : EltTy} {b : Memref sig .tc cs s e} {r : Rect s} {w : r.shape.Idx → Elt F e}
    {hx : (b.access r).Stores Finset.univ} {hm : (Finset.univ : Finset r.shape.Idx) = Finset.univ ∨ ∀ a, r.stride a = 1}
    {S : Finset (Idx ((b.access r).loc (c : Thread nD τ)))} {f : Buf (Elt F) ((b.access r).loc (c : Thread nD τ))} {P P' X Fr : sProp 𝕄}
    (hP : P = ((b.access r).loc (c : Thread nD τ) ↦[S]{fullShare} f)) (hS : (b.access r).set ⊆ S)
    (hP' : ((b.access r).loc (c : Thread nD τ) ↦[S]{fullShare} ((b.access r).write (Elt F) f w Finset.univ)) = P')
    {α : Type} {rest : PUnit → Prog (TpuEff nD τ sig (Elt F) Λ₀ .tc) α} {Q : α → sProp 𝕄}
    (h : iprop(recs m K ∗ X ∗ (P' ∗ Fr)) ⊢ run c (rest ⟨⟩) Q) :
    iprop(recs m K ∗ X ∗ (P ∗ Fr)) ⊢ run c (Prog.lift (.store b r w Finset.univ hx hm) >>= rest) Q := by
  subst hP hP'
  iintro ⟨HR, HX, HP, HF⟩
  simp only [Prog.lift, Prog.bind_op, Prog.bind_ret]
  iapply (wp_store 𝒱₀ (c : Thread nD τ) none Set.univ (m := b) (r := r) (Mk := Finset.univ) hS) $$ HP
  iintro HP
  iapply h
  isplitl [HR]; · iexact HR
  isplitl [HX]; · iexact HX
  isplitl [HP]; · iexact HP
  iexact HF

end Steps

end Cert.MoeProof
-- ==== Proof.Rows.lean ====
/-
# What the loads and stores of the body read and leave

The values read by the loads of rows and of sixteen rows, what the stores leave in the buffers, and the wait at the barrier.
-/
module

public import proofs.«01_k».proof.Proof.Moves
public import Idealize.ShloMosaic.Lib.Pipeline.Value

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

/-- Row `c` of a buffer, alone. -/
def rowOf {d : Nat} (c : Dev nD) (f : FVec F ⟨4, ![32, 2, 48, d]⟩ .bf16) : FVec F ⟨4, ![1, 2, 48, d]⟩ .bf16 :=
  fun i => f (ix4 c (i 1) (i 2) (i 3))

theorem in_seg (lo : ℕ) (j : Dev nD) : j ∈ seg lo (lo + 16) ↔ lo ≤ j.val ∧ j.val < lo + 16 := mem_seg

theorem read_row_0 {c : Dev nD} {o : Fin 4 → ℕ} (ho : o = ![c.val, 0, 0, 0]) (inb) (f : B1 F) :
    ((Memref.whole cc0_scratch0).access (Rect.unit (s := S32x2x48x256) o S1x2x48x256.size inb)).read (Elt F) f = rowOf (d := 256) c f := by
  subst ho
  funext i
  show f _ = f _
  congr 1
  funext a; apply Fin.ext
  have h0 : (i 0).val < 1 := (i 0).isLt
  match a with
  | ⟨0, _⟩ => show c.val + 1 * (i 0).val = c.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem read_row_2 {c : Dev nD} {o : Fin 4 → ℕ} (ho : o = ![c.val, 0, 0, 0]) (inb) (f : B2 F) :
    ((Memref.whole cc0_scratch2).access (Rect.unit (s := S32x2x48x512) o S1x2x48x512.size inb)).read (Elt F) f = rowOf (d := 512) c f := by
  subst ho
  funext i
  show f _ = f _
  congr 1
  funext a; apply Fin.ext
  have h0 : (i 0).val < 1 := (i 0).isLt
  match a with
  | ⟨0, _⟩ => show c.val + 1 * (i 0).val = c.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem write_row_1 {c : Dev nD} {o : Fin 4 → ℕ} (ho : o = ![c.val, 0, 0, 0]) (inb) (fd f : B1 F) (i : S32x2x48x256.Idx) (hi : rowNo i ∈ ({c} : Finset (Dev nD))) :
    (((Memref.whole cc0_scratch1).access (Rect.unit (s := S32x2x48x256) o S1x2x48x256.size inb)).write (Elt F) fd
      (k0_pay15 (F := F) (rowOf (d := 256) c f)) Finset.univ) i = f (ix4 c (i 1) (i 2) (i 3)) := by
  subst ho
  have hc : rowNo i = c := Finset.mem_singleton.1 hi
  have e : i = ((Memref.whole cc0_scratch1).access (Rect.unit (s := S32x2x48x256) ![c.val, 0, 0, 0] S1x2x48x256.size inb)).emb (ix4 (0 : Fin 1) (i 1) (i 2) (i 3)) := by
    funext a; apply Fin.ext
    match a with
    | ⟨0, _⟩ => show (rowNo i).val = c.val + 1 * 0; rw [hc]; rfl
    | ⟨1, _⟩ => show (i 1).val = 0 + 1 * (i 1).val; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  unfold k0_pay15
  dsimp only
  rw [shapeCast_self]
  rfl

theorem write_row_3 {c : Dev nD} {o : Fin 4 → ℕ} (ho : o = ![c.val, 0, 0, 0]) (inb) (fd f : B2 F) (i : S32x2x48x512.Idx) (hi : rowNo i ∈ ({c} : Finset (Dev nD))) :
    (((Memref.whole cc0_scratch3).access (Rect.unit (s := S32x2x48x512) o S1x2x48x512.size inb)).write (Elt F) fd
      (k0_pay19 (F := F) (rowOf (d := 512) c f)) Finset.univ) i = f (ix4 c (i 1) (i 2) (i 3)) := by
  subst ho
  have hc : rowNo i = c := Finset.mem_singleton.1 hi
  have e : i = ((Memref.whole cc0_scratch3).access (Rect.unit (s := S32x2x48x512) ![c.val, 0, 0, 0] S1x2x48x512.size inb)).emb (ix4 (0 : Fin 1) (i 1) (i 2) (i 3)) := by
    funext a; apply Fin.ext
    match a with
    | ⟨0, _⟩ => show (rowNo i).val = c.val + 1 * 0; rw [hc]; rfl
    | ⟨1, _⟩ => show (i 1).val = 0 + 1 * (i 1).val; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  unfold k0_pay19
  dsimp only
  rw [shapeCast_self]
  rfl

theorem read_chunk_1 (k : Fin 2) {o : Fin 4 → ℕ} (ho : o = ![16 * k.val, 0, 0, 0]) (inb) (f : B1 F) :
    ((Memref.whole cc0_scratch1).access (Rect.unit (s := S32x2x48x256) o S16x2x48x256.size inb)).read (Elt F) f = chunk (d := 256) k f := by
  subst ho
  funext i
  show f _ = f _
  congr 1
  funext a; apply Fin.ext
  match a with
  | ⟨0, _⟩ => show 16 * k.val + 1 * (i 0).val = 16 * k.val + (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem read_chunk_3 (k : Fin 2) {o : Fin 4 → ℕ} (ho : o = ![16 * k.val, 0, 0, 0]) (inb) (f : B2 F) :
    ((Memref.whole cc0_scratch3).access (Rect.unit (s := S32x2x48x512) o S16x2x48x512.size inb)).read (Elt F) f = chunk (d := 512) k f := by
  subst ho
  funext i
  show f _ = f _
  congr 1
  funext a; apply Fin.ext
  match a with
  | ⟨0, _⟩ => show 16 * k.val + 1 * (i 0).val = 16 * k.val + (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

section Steps
variable (m : (ℓ : Loc nD τ sig) → Buf (Elt F) ℓ) (K : Dev nD × Option (Fin 4 × Dev nD) → ℕ)

theorem write_chunk_2 (c : Dev nD) (k : Fin 2) {o : Fin 4 → ℕ} (ho : o = ![16 * k.val, 0, 0, 0]) (inb) (fd : B2 F) (i : S32x2x48x512.Idx)
    (hi : rowNo i ∈ seg (16 * k.val) (16 * k.val + 16)) :
    (((Memref.whole cc0_scratch2).access (Rect.unit (s := S32x2x48x512) o S16x2x48x512.size inb)).write (Elt F) fd
      (PROD m c k) Finset.univ) i = RES m c i := by
  subst ho
  have hc : 16 * k.val ≤ (i 0).val ∧ (i 0).val < 16 * k.val + 16 := mem_seg.1 hi
  have e : i = ((Memref.whole cc0_scratch2).access (Rect.unit (s := S32x2x48x512) ![16 * k.val, 0, 0, 0] S16x2x48x512.size inb)).emb
      (ix4 (⟨(i 0).val % 16, Nat.mod_lt _ (by decide)⟩ : Fin 16) (i 1) (i 2) (i 3)) := by
    funext a; apply Fin.ext
    match a with
    | ⟨0, _⟩ => show (i 0).val = 16 * k.val + 1 * ((i 0).val % 16); omega
    | ⟨1, _⟩ => show (i 1).val = 0 + 1 * (i 1).val; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  unfold RES
  rw [show (⟨(i 0).val / 16, by have : (i 0).val < 32 := (i 0).isLt; omega⟩ : Fin 2) = k from Fin.ext (by show (i 0).val / 16 = k.val; omega)]
  rfl

/-- The rows of an access to the buffer, as held. -/
theorem rows_pts_0 {c : Dev nD} {n lo : ℕ} {o : Fin 4 → ℕ} (ho : o = ![lo, 0, 0, 0])
    (inb : ∀ a, o a + (⟨4, ![n, 2, 48, 256]⟩ : Shape).size a ≤ S32x2x48x256.size a) (S : Finset (Dev nD)) (hS : ∀ j : Dev nD, j ∈ S ↔ lo ≤ j.val ∧ j.val < lo + n) (f : B1 F) :
    sR c S f = (((Memref.whole cc0_scratch0).access (Rect.unit (s := S32x2x48x256) o (⟨4, ![n, 2, 48, 256]⟩ : Shape).size inb)).loc (c : Thread nD τ)
      ↦[rowsD 256 S]{fullShare} f : sProp 𝕄) := rfl

theorem rows_set_0 {n lo : ℕ} {o : Fin 4 → ℕ} (ho : o = ![lo, 0, 0, 0])
    (inb : ∀ a, o a + (⟨4, ![n, 2, 48, 256]⟩ : Shape).size a ≤ S32x2x48x256.size a) (S : Finset (Dev nD)) (hS : ∀ j : Dev nD, j ∈ S ↔ lo ≤ j.val ∧ j.val < lo + n) :
    ((Memref.whole cc0_scratch0).access (Rect.unit (s := S32x2x48x256) o (⟨4, ![n, 2, 48, 256]⟩ : Shape).size inb)).set ⊆ rowsD 256 S := by
  rw [← set_rows (d := 256) (n := n) ho inb S hS]
  exact le_of_eq (View.set_slice_whole _ _)

/-- The rows of an access to the buffer, as held. -/
theorem rows_pts_1 {c : Dev nD} {n lo : ℕ} {o : Fin 4 → ℕ} (ho : o = ![lo, 0, 0, 0])
    (inb : ∀ a, o a + (⟨4, ![n, 2, 48, 256]⟩ : Shape).size a ≤ S32x2x48x256.size a) (S : Finset (Dev nD)) (hS : ∀ j : Dev nD, j ∈ S ↔ lo ≤ j.val ∧ j.val < lo + n) (f : B1 F) :
    vR c S f = (((Memref.whole cc0_scratch1).access (Rect.unit (s := S32x2x48x256) o (⟨4, ![n, 2, 48, 256]⟩ : Shape).size inb)).loc (c : Thread nD τ)
      ↦[rowsD 256 S]{fullShare} f : sProp 𝕄) := rfl

theorem rows_set_1 {n lo : ℕ} {o : Fin 4 → ℕ} (ho : o = ![lo, 0, 0, 0])
    (inb : ∀ a, o a + (⟨4, ![n, 2, 48, 256]⟩ : Shape).size a ≤ S32x2x48x256.size a) (S : Finset (Dev nD)) (hS : ∀ j : Dev nD, j ∈ S ↔ lo ≤ j.val ∧ j.val < lo + n) :
    ((Memref.whole cc0_scratch1).access (Rect.unit (s := S32x2x48x256) o (⟨4, ![n, 2, 48, 256]⟩ : Shape).size inb)).set ⊆ rowsD 256 S := by
  rw [← set_rows (d := 256) (n := n) ho inb S hS]
  exact le_of_eq (View.set_slice_whole _ _)

/-- The rows of an access to the buffer, as held. -/
theorem rows_pts_2 {c : Dev nD} {n lo : ℕ} {o : Fin 4 → ℕ} (ho : o = ![lo, 0, 0, 0])
    (inb : ∀ a, o a + (⟨4, ![n, 2, 48, 512]⟩ : Shape).size a ≤ S32x2x48x512.size a) (S : Finset (Dev nD)) (hS : ∀ j : Dev nD, j ∈ S ↔ lo ≤ j.val ∧ j.val < lo + n) (f : B2 F) :
    rR c S f = (((Memref.whole cc0_scratch2).access (Rect.unit (s := S32x2x48x512) o (⟨4, ![n, 2, 48, 512]⟩ : Shape).size inb)).loc (c : Thread nD τ)
      ↦[rowsD 512 S]{fullShare} f : sProp 𝕄) := rfl

theorem rows_set_2 {n lo : ℕ} {o : Fin 4 → ℕ} (ho : o = ![lo, 0, 0, 0])
    (inb : ∀ a, o a + (⟨4, ![n, 2, 48, 512]⟩ : Shape).size a ≤ S32x2x48x512.size a) (S : Finset (Dev nD)) (hS : ∀ j : Dev nD, j ∈ S ↔ lo ≤ j.val ∧ j.val < lo + n) :
    ((Memref.whole cc0_scratch2).access (Rect.unit (s := S32x2x48x512) o (⟨4, ![n, 2, 48, 512]⟩ : Shape).size inb)).set ⊆ rowsD 512 S := by
  rw [← set_rows (d := 512) (n := n) ho inb S hS]
  exact le_of_eq (View.set_slice_whole _ _)

/-- The rows of an access to the buffer, as held. -/
theorem rows_pts_3 {c : Dev nD} {n lo : ℕ} {o : Fin 4 → ℕ} (ho : o = ![lo, 0, 0, 0])
    (inb : ∀ a, o a + (⟨4, ![n, 2, 48, 512]⟩ : Shape).size a ≤ S32x2x48x512.size a) (S : Finset (Dev nD)) (hS : ∀ j : Dev nD, j ∈ S ↔ lo ≤ j.val ∧ j.val < lo + n) (f : B2 F) :
    tR c S f = (((Memref.whole cc0_scratch3).access (Rect.unit (s := S32x2x48x512) o (⟨4, ![n, 2, 48, 512]⟩ : Shape).size inb)).loc (c : Thread nD τ)
      ↦[rowsD 512 S]{fullShare} f : sProp 𝕄) := rfl

theorem rows_set_3 {n lo : ℕ} {o : Fin 4 → ℕ} (ho : o = ![lo, 0, 0, 0])
    (inb : ∀ a, o a + (⟨4, ![n, 2, 48, 512]⟩ : Shape).size a ≤ S32x2x48x512.size a) (S : Finset (Dev nD)) (hS : ∀ j : Dev nD, j ∈ S ↔ lo ≤ j.val ∧ j.val < lo + n) :
    ((Memref.whole cc0_scratch3).access (Rect.unit (s := S32x2x48x512) o (⟨4, ![n, 2, 48, 512]⟩ : Shape).size inb)).set ⊆ rowsD 512 S := by
  rw [← set_rows (d := 512) (n := n) ho inb S hS]
  exact le_of_eq (View.set_slice_whole _ _)

/-! ## The wait at the barrier -/

/-- What the barrier hands over: row `c` of every other device's receive and return buffers. -/
theorem bar_got (c : Dev nD) : bigSep ((Rd m).duties (barCell c) 0 \ ∅) (fun d => (Rd m).payload (barCell c) 0 d)
    = bigSep (rng c 0 32) fun q => iprop(there (F := F) 1 c q ∗ there (F := F) 3 c q) := by
  rw [Finset.sdiff_empty, duties_bar, rng_full]
  rfl

theorem barWait_step {c : Dev nD} {O : CellTallies nD τ sig Unit} (hO : Above 1 O) {α : Type}
    {rest : PUnit → Prog (TpuEff nD τ sig (Elt F) Λ₀ .tc) α} {Q : α → sProp 𝕄} {Fr : sProp 𝕄}
    (h : iprop(recs m K ∗ ((owesE c O ∗ bigSep (rng c 0 32) fun q => iprop(there (F := F) 1 c q ∗ there (F := F) 3 c q))
      ∗ atPos ER (barCell c) 1 ∅ 0) ∗ Fr) ⊢ run c (rest ⟨⟩) Q) :
    iprop(recs m K ∗ stSig c 32 O ∗ ((cred (tallyAt (barCell c) () 31) ∗ atPos ER (barCell c) 0 ∅ 0) ∗ Fr))
      ⊢ run c (semWaitWord (SemArray.scalar (sig.barrier 0 rfl) : Sems sig S_).sem 31#32 >>= rest) Q := by
  have hmay : recs m K ⊢ MayWait (c : Thread nD τ) (.reg barS) () O := by
    refine BIBase.Entails.trans (recs_lev m K) ?_
    exact mayWait_of (F := F) c (.reg barS) 1 (le_of_eq (lv_bar c)) hO
  have hgot : bigSep ((Rd m).duties ((c : Thread nD τ), SemLoc.reg barS) 0 \ ∅) (fun d => (Rd m).payload ((c : Thread nD τ), SemLoc.reg barS) 0 d) = _ := bar_got m c
  unfold stSig owesE
  rw [Finset.Ico_self, bigSep_empty, OB_end, zero_add]
  iintro ⟨#HR, ⟨⟨%W, HO⟩, -⟩, ⟨Hc, Ha⟩, HF⟩
  ihave ⟨#HI, -⟩ := (recs_at m K (c, none)) $$ HR
  simp only [semWaitWord, Prog.bind_op, Prog.bind_ret]
  iapply (Rounds.wp_wait_rest_token 𝒱₀ ER (Rd m) (c : Thread nD τ) none (κ := K (c, none)) (sm := .reg barS)
      (wpE_semWait_eq 𝒱₀ (c : Thread nD τ) none Set.univ) (Set.mem_univ _) () (O := O) (W := W) (R := 0) (m := 0) (T := ∅)
      (show 0 + (31#32 : BitVec 32).toInt.toNat = (Rd m).expect (barCell c) 0 by rw [expect_bar]; decide)) $$ [Hc HO Ha]
  · isplitr; · iexact HI
    isplitl [Hc]; · iexact Hc
    isplitl [HO]; · iexact HO
    isplitr
    · iapply hmay; iexact HR
    iexact Ha
  iintro ⟨HO, Ha, -, Hpay⟩
  ihave Hpay := (Entails.of_eq hgot) $$ Hpay
  iapply h
  isplitr; · iexact HR
  isplitr [HF]
  · isplitr [Ha]
    · isplitl [HO]; · unfold owesE; iexists _; iexact HO
      iexact Hpay
    iexact Ha
  iexact HF

/-! ## The four kinds of waits for a row -/

theorem credit_0 {o : Fin 4 → ℕ} {inb' : ∀ a, o a + S1x2x48x256.size a ≤ S32x2x48x256.size a} {hs} :
    ((Memref.whole cc0_scratch0).slice (Rect.unit (s := S32x2x48x256) o S1x2x48x256.size inb') hs).view.dmaCredit = amt 0 := by
  unfold amt; rw [if_pos (by decide)]; rfl

theorem credit_1 {o : Fin 4 → ℕ} {inb' : ∀ a, o a + S1x2x48x256.size a ≤ S32x2x48x256.size a} {hs} :
    ((Memref.whole cc0_scratch1).slice (Rect.unit (s := S32x2x48x256) o S1x2x48x256.size inb') hs).view.dmaCredit = amt 1 := by
  unfold amt; rw [if_pos (by decide)]; rfl

theorem credit_2 {o : Fin 4 → ℕ} {inb' : ∀ a, o a + S1x2x48x512.size a ≤ S32x2x48x512.size a} {hs} :
    ((Memref.whole cc0_scratch2).slice (Rect.unit (s := S32x2x48x512) o S1x2x48x512.size inb') hs).view.dmaCredit = amt 2 := by
  unfold amt; rw [if_neg (by decide)]; rfl

theorem credit_3 {o : Fin 4 → ℕ} {inb' : ∀ a, o a + S1x2x48x512.size a ≤ S32x2x48x512.size a} {hs} :
    ((Memref.whole cc0_scratch3).slice (Rect.unit (s := S32x2x48x512) o S1x2x48x512.size inb') hs).view.dmaCredit = amt 3 := by
  unfold amt; rw [if_neg (by decide)]; rfl

/-- The wait for row `k` to come in. -/
theorem wait_in {c : Dev nD} {k : ℕ} (hk : k < 32) {O : CellTallies nD τ sig Unit} (hO : Above 2 O)
    {cond : BitVec 1} (hcond : cond = 1#1 ↔ c.val ≠ k) {inst : Decidable (cond = 1#1)}
    {inb : ∀ a, (![k] : Fin 1 → ℕ) a + S1.size a ≤ S32.size a} {sp : Space} {s : Shape} {e : EltTy} {src : Memref sig .tc sp s e}
    {o : Fin 4 → ℕ} {inb' : ∀ a, o a + S1x2x48x256.size a ≤ S32x2x48x256.size a} {hs}
    {h1 : src.view.WordExact} {h2 : ((Memref.whole cc0_scratch1).slice (Rect.unit (s := S32x2x48x256) o S1x2x48x256.size inb') hs).view.WordExact}
    {α : Type} {rest : Prog (TpuEff nD τ sig (Elt F) Λ₀ .tc) α} {Q : α → sProp 𝕄} {Fr : sProp 𝕄}
    (h : iprop(recs m K ∗ (owesE c O ∗ stWait m 1 c 0 (k + 1)) ∗ Fr) ⊢ run c rest Q) :
    iprop(recs m K ∗ (owesE c O ∗ stWait m 1 c 0 k) ∗ Fr) ⊢ run c (@dite _ (cond = 1#1) inst
      (fun _ => Prog.lift (.waitDma2 ((cc0_scratch5.slice (Rect.unit (s := S32) ![k] S1.size inb)).squeeze S_ squeezes_S1_S_).sem src
        ((Memref.whole cc0_scratch1).slice (Rect.unit (s := S32x2x48x256) o S1x2x48x256.size inb') hs) h1 h2) >>= fun _ => rest)
      (fun _ => rest)) Q := by
  refine wait_step m K 1 (A := cc0_scratch5) (lo := 0) (k := k) hk (Nat.zero_le _) hO hcond ?_ rfl h
  exact credit_1

/-- The wait for row `k` to come back. -/
theorem wait_back {c : Dev nD} {k : ℕ} (hk : k < 32)
    {cond : BitVec 1} (hcond : cond = 1#1 ↔ c.val ≠ k) {inst : Decidable (cond = 1#1)}
    {inb : ∀ a, (![k] : Fin 1 → ℕ) a + S1.size a ≤ S32.size a} {sp : Space} {s : Shape} {e : EltTy} {src : Memref sig .tc sp s e}
    {o : Fin 4 → ℕ} {inb' : ∀ a, o a + S1x2x48x512.size a ≤ S32x2x48x512.size a} {hs}
    {h1 : src.view.WordExact} {h2 : ((Memref.whole cc0_scratch3).slice (Rect.unit (s := S32x2x48x512) o S1x2x48x512.size inb') hs).view.WordExact}
    {α : Type} {rest : Prog (TpuEff nD τ sig (Elt F) Λ₀ .tc) α} {Q : α → sProp 𝕄} {Fr : sProp 𝕄}
    (h : iprop(recs m K ∗ (owesE c 0 ∗ stWait m 3 c 0 (k + 1)) ∗ Fr) ⊢ run c rest Q) :
    iprop(recs m K ∗ (owesE c 0 ∗ stWait m 3 c 0 k) ∗ Fr) ⊢ run c (@dite _ (cond = 1#1) inst
      (fun _ => Prog.lift (.waitDma2 ((cc0_scratch7.slice (Rect.unit (s := S32) ![k] S1.size inb)).squeeze S_ squeezes_S1_S_).sem src
        ((Memref.whole cc0_scratch3).slice (Rect.unit (s := S32x2x48x512) o S1x2x48x512.size inb') hs) h1 h2) >>= fun _ => rest)
      (fun _ => rest)) Q := by
  refine wait_step m K 3 (A := cc0_scratch7) (lo := 0) (k := k) hk (Nat.zero_le _) (above_zero _) hcond ?_ rfl h
  exact credit_3

/-- The wait for the first send of row `k` to be done. -/
theorem wait_sent {c : Dev nD} {k k' : ℕ} (hk : k < 32)
    {cond : BitVec 1} (hcond : cond = 1#1 ↔ c.val ≠ k) {inst : Decidable (cond = 1#1)}
    {inb : ∀ a, (![k] : Fin 1 → ℕ) a + S1.size a ≤ S32.size a} {sp : Space} {s : Shape} {e : EltTy} {src : Memref sig .tc sp s e}
    {o : Fin 4 → ℕ} {inb' : ∀ a, o a + S1x2x48x256.size a ≤ S32x2x48x256.size a} {hs}
    {h1 : src.view.WordExact} {h2 : ((Memref.whole cc0_scratch0).slice (Rect.unit (s := S32x2x48x256) o S1x2x48x256.size inb') hs).view.WordExact}
    {α : Type} {rest : Prog (TpuEff nD τ sig (Elt F) Λ₀ .tc) α} {Q : α → sProp 𝕄} {Fr : sProp 𝕄}
    (h : iprop(recs m K ∗ (owesE c 0 ∗ stWait m 0 c 0 (k + 1) ∗ stWait m 2 c 0 k') ∗ Fr) ⊢ run c rest Q) :
    iprop(recs m K ∗ (owesE c 0 ∗ stWait m 0 c 0 k ∗ stWait m 2 c 0 k') ∗ Fr) ⊢ run c (@dite _ (cond = 1#1) inst
      (fun _ => Prog.lift (.waitDma2 ((cc0_scratch4.slice (Rect.unit (s := S32) ![k] S1.size inb)).squeeze S_ squeezes_S1_S_).sem src
        ((Memref.whole cc0_scratch0).slice (Rect.unit (s := S32x2x48x256) o S1x2x48x256.size inb') hs) h1 h2) >>= fun _ => rest)
      (fun _ => rest)) Q := by
  have h' : iprop(recs m K ∗ (owesE c 0 ∗ stWait m 0 c 0 (k + 1)) ∗ (stWait m 2 c 0 k' ∗ Fr)) ⊢ run c rest Q := by
    refine BIBase.Entails.trans ?_ h
    iintro ⟨HR, ⟨HO, HW⟩, HW', HF⟩
    isplitl [HR]; · iexact HR
    isplitr [HF]
    · isplitl [HO]; · iexact HO
      isplitl [HW]; · iexact HW
      iexact HW'
    iexact HF
  have h'' := wait_step m K 0 (A := cc0_scratch4) (inb := inb) (lo := 0) (k := k) hk (Nat.zero_le _) (above_zero _) hcond (inst := inst) (h1 := h1) (h2 := h2) (credit_0) rfl h'
  refine BIBase.Entails.trans ?_ h''
  iintro ⟨HR, ⟨HO, HW, HW'⟩, HF⟩
  isplitl [HR]; · iexact HR
  isplitl [HO HW]
  · isplitl [HO]; · iexact HO
    iexact HW
  isplitl [HW']; · iexact HW'
  iexact HF

/-- The wait for the second send of row `k` to be done. -/
theorem wait_returned {c : Dev nD} {k k' : ℕ} (hk : k < 32)
    {cond : BitVec 1} (hcond : cond = 1#1 ↔ c.val ≠ k) {inst : Decidable (cond = 1#1)}
    {inb : ∀ a, (![k] : Fin 1 → ℕ) a + S1.size a ≤ S32.size a} {sp : Space} {s : Shape} {e : EltTy} {src : Memref sig .tc sp s e}
    {o : Fin 4 → ℕ} {inb' : ∀ a, o a + S1x2x48x512.size a ≤ S32x2x48x512.size a} {hs}
    {h1 : src.view.WordExact} {h2 : ((Memref.whole cc0_scratch2).slice (Rect.unit (s := S32x2x48x512) o S1x2x48x512.size inb') hs).view.WordExact}
    {α : Type} {rest : Prog (TpuEff nD τ sig (Elt F) Λ₀ .tc) α} {Q : α → sProp 𝕄} {Fr : sProp 𝕄}
    (h : iprop(recs m K ∗ (owesE c 0 ∗ stWait m 0 c 0 k' ∗ stWait m 2 c 0 (k + 1)) ∗ Fr) ⊢ run c rest Q) :
    iprop(recs m K ∗ (owesE c 0 ∗ stWait m 0 c 0 k' ∗ stWait m 2 c 0 k) ∗ Fr) ⊢ run c (@dite _ (cond = 1#1) inst
      (fun _ => Prog.lift (.waitDma2 ((cc0_scratch6.slice (Rect.unit (s := S32) ![k] S1.size inb)).squeeze S_ squeezes_S1_S_).sem src
        ((Memref.whole cc0_scratch2).slice (Rect.unit (s := S32x2x48x512) o S1x2x48x512.size inb') hs) h1 h2) >>= fun _ => rest)
      (fun _ => rest)) Q := by
  have h' : iprop(recs m K ∗ (owesE c 0 ∗ stWait m 2 c 0 (k + 1)) ∗ (stWait m 0 c 0 k' ∗ Fr)) ⊢ run c rest Q := by
    refine BIBase.Entails.trans ?_ h
    iintro ⟨HR, ⟨HO, HW⟩, HW', HF⟩
    isplitl [HR]; · iexact HR
    isplitr [HF]
    · isplitl [HO]; · iexact HO
      isplitl [HW']; · iexact HW'
      iexact HW
    iexact HF
  have h'' := wait_step m K 2 (A := cc0_scratch6) (inb := inb) (lo := 0) (k := k) hk (Nat.zero_le _) (above_zero _) hcond (inst := inst) (h1 := h1) (h2 := h2) (credit_2) rfl h'
  refine BIBase.Entails.trans ?_ h''
  iintro ⟨HR, ⟨HO, HW', HW⟩, HF⟩
  isplitl [HR]; · iexact HR
  isplitl [HO HW]
  · isplitl [HO]; · iexact HO
    iexact HW
  isplitl [HW']; · iexact HW'
  iexact HF

end Steps

end Cert.MoeProof
-- ==== Proof.Access.lean ====
/-
# The accesses of the body, one lemma each

What each load of the body reads and each store leaves, as a step: the assertion holding the buffer comes first after the
walk's state.
-/
module

public import proofs.«01_k».proof.Proof.Rows

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

/-- A staging buffer, whole. -/
abbrev stP (b : Ref sig .tc) (c : Dev nD) (f : Buf (Elt F) ((c : Thread nD τ).loc b)) : sProp 𝕄 := iprop(((c : Thread nD τ).loc b) ↦{fullShare} f)

section Steps
variable (m : (ℓ : Loc nD τ sig) → Buf (Elt F) ℓ) (K : Dev nD × Option (Fin 4 × Dev nD) → ℕ)

theorem read_x (inb) (f : Vec F S512x256 .f32) :
    ((Memref.whole cc0_stg0_0).access (Rect.unit (s := S512x256) ![0, 0] S512x256.size inb)).read (Elt F) f = f :=
  Memref.readAt_unit_zero (Elt F) cc0_stg0_0 (by decide) _ f
theorem write_s (inb) (f w : B1 F) :
    ((Memref.whole cc0_scratch0).access (Rect.unit (s := S32x2x48x256) ![0, 0, 0, 0] S32x2x48x256.size inb)).write (Elt F) f w Finset.univ = w :=
  Memref.write_access_unit_zero_univ (Elt F) cc0_scratch0 (by decide) _ f w
theorem read_r (inb) (f : Vec F S256x64 .f32) :
    ((Memref.whole cc0_stg1_0).access (Rect.unit (s := S256x64) ![0, 0] S256x64.size inb)).read (Elt F) f = f :=
  Memref.readAt_unit_zero (Elt F) cc0_stg1_0 (by decide) _ f
theorem read_w (inb) (f : Vec F S2x256x512 .f32) :
    ((Memref.whole cc0_stg3_0).access (Rect.unit (s := S2x256x512) ![0, 0, 0] S2x256x512.size inb)).read (Elt F) f = f :=
  Memref.readAt_unit_zero (Elt F) cc0_stg3_0 (by decide) _ f

theorem read_col0 (c : Dev nD) (inb) :
    ((Memref.whole cc0_stg2_0).access (Rect.unit (s := S512x2) ![0, 0] S512x1.size inb)).read (Elt F) (inI m c) = ch0 m c := by
  funext i
  show inI m c _ = inI m c _
  congr 1
  funext a; apply Fin.ext
  have h1 : (i 1).val < 1 := (i 1).isLt
  match a with
  | ⟨0, _⟩ => show 0 + 1 * (i 0).val = (i 0).val; omega
  | ⟨1, _⟩ => show 0 + 1 * (i 1).val = 0; omega
theorem read_col1 (c : Dev nD) (inb) :
    ((Memref.whole cc0_stg2_0).access (Rect.unit (s := S512x2) ![0, 1] S512x1.size inb)).read (Elt F) (inI m c) = ch1 m c := by
  funext i
  show inI m c _ = inI m c _
  congr 1
  funext a; apply Fin.ext
  have h1 : (i 1).val < 1 := (i 1).isLt
  match a with
  | ⟨0, _⟩ => show 0 + 1 * (i 0).val = (i 0).val; omega
  | ⟨1, _⟩ => show 1 + 1 * (i 1).val = 1; omega
theorem write_o (inb) (f w : Vec F S512x512 .f32) :
    ((Memref.whole cc0_stg4_0).access (Rect.unit (s := S512x512) ![0, 0] S512x512.size inb)).write (Elt F) f w Finset.univ = w :=
  Memref.write_access_unit_zero_univ (Elt F) cc0_stg4_0 (by decide) _ f w

/-- The tokens. -/
theorem load_x {c : Dev nD}  {inb : ∀ a, (![0, 0] : Fin S512x256.rank → ℕ) a + S512x256.size a ≤ S512x256.size a}
    {hl : (Memref.whole cc0_stg0_0).view.LoadsAt (Rect.unit (s := S512x256) ![0, 0] S512x256.size inb).toLoadRect} {α : Type} {rest : ((Rect.unit (s := S512x256) ![0, 0] S512x256.size inb).shape.Idx → Elt F _) → Prog (TpuEff nD τ sig (Elt F) Λ₀ .tc) α} {Q : α → sProp 𝕄} {X Fr : sProp 𝕄}
    (h : iprop(recs m K ∗ X ∗ (stP cc0_stg0_0 c (inX m c) ∗ Fr)) ⊢ run c (rest (inX m c)) Q) :
    iprop(recs m K ∗ X ∗ (stP cc0_stg0_0 c (inX m c) ∗ Fr)) ⊢ run c (Prog.lift (.load (Memref.whole cc0_stg0_0) (Rect.unit (s := S512x256) ![0, 0] S512x256.size inb).toLoadRect hl) >>= rest) Q :=
  load_step m K (b := (Memref.whole cc0_stg0_0)) (r := (Rect.unit (s := S512x256) ![0, 0] S512x256.size inb)) (S := Finset.univ) (f := inX m c) (P := stP cc0_stg0_0 c (inX m c))
    rfl (Finset.subset_univ _) (read_x _ _) h

/-- The router. -/
theorem load_r {c : Dev nD}  {inb : ∀ a, (![0, 0] : Fin S256x64.rank → ℕ) a + S256x64.size a ≤ S256x64.size a}
    {hl : (Memref.whole cc0_stg1_0).view.LoadsAt (Rect.unit (s := S256x64) ![0, 0] S256x64.size inb).toLoadRect} {α : Type} {rest : ((Rect.unit (s := S256x64) ![0, 0] S256x64.size inb).shape.Idx → Elt F _) → Prog (TpuEff nD τ sig (Elt F) Λ₀ .tc) α} {Q : α → sProp 𝕄} {X Fr : sProp 𝕄}
    (h : iprop(recs m K ∗ X ∗ (stP cc0_stg1_0 c (inR m c) ∗ Fr)) ⊢ run c (rest (inR m c)) Q) :
    iprop(recs m K ∗ X ∗ (stP cc0_stg1_0 c (inR m c) ∗ Fr)) ⊢ run c (Prog.lift (.load (Memref.whole cc0_stg1_0) (Rect.unit (s := S256x64) ![0, 0] S256x64.size inb).toLoadRect hl) >>= rest) Q :=
  load_step m K (b := (Memref.whole cc0_stg1_0)) (r := (Rect.unit (s := S256x64) ![0, 0] S256x64.size inb)) (S := Finset.univ) (f := inR m c) (P := stP cc0_stg1_0 c (inR m c))
    rfl (Finset.subset_univ _) (read_r _ _) h

/-- The first choices. -/
theorem load_i0 {c : Dev nD}  {inb : ∀ a, (![0, 0] : Fin S512x2.rank → ℕ) a + S512x1.size a ≤ S512x2.size a}
    {hl : (Memref.whole cc0_stg2_0).view.LoadsAt (Rect.unit (s := S512x2) ![0, 0] S512x1.size inb).toLoadRect} {α : Type} {rest : ((Rect.unit (s := S512x2) ![0, 0] S512x1.size inb).shape.Idx → Elt F _) → Prog (TpuEff nD τ sig (Elt F) Λ₀ .tc) α} {Q : α → sProp 𝕄} {X Fr : sProp 𝕄}
    (h : iprop(recs m K ∗ X ∗ (stP cc0_stg2_0 c (inI m c) ∗ Fr)) ⊢ run c (rest (ch0 m c)) Q) :
    iprop(recs m K ∗ X ∗ (stP cc0_stg2_0 c (inI m c) ∗ Fr)) ⊢ run c (Prog.lift (.load (Memref.whole cc0_stg2_0) (Rect.unit (s := S512x2) ![0, 0] S512x1.size inb).toLoadRect hl) >>= rest) Q :=
  load_step m K (b := (Memref.whole cc0_stg2_0)) (r := (Rect.unit (s := S512x2) ![0, 0] S512x1.size inb)) (S := Finset.univ) (f := inI m c) (P := stP cc0_stg2_0 c (inI m c))
    rfl (Finset.subset_univ _) (read_col0 m c _) h

/-- The second choices. -/
theorem load_i1 {c : Dev nD}  {inb : ∀ a, (![0, 1] : Fin S512x2.rank → ℕ) a + S512x1.size a ≤ S512x2.size a}
    {hl : (Memref.whole cc0_stg2_0).view.LoadsAt (Rect.unit (s := S512x2) ![0, 1] S512x1.size inb).toLoadRect} {α : Type} {rest : ((Rect.unit (s := S512x2) ![0, 1] S512x1.size inb).shape.Idx → Elt F _) → Prog (TpuEff nD τ sig (Elt F) Λ₀ .tc) α} {Q : α → sProp 𝕄} {X Fr : sProp 𝕄}
    (h : iprop(recs m K ∗ X ∗ (stP cc0_stg2_0 c (inI m c) ∗ Fr)) ⊢ run c (rest (ch1 m c)) Q) :
    iprop(recs m K ∗ X ∗ (stP cc0_stg2_0 c (inI m c) ∗ Fr)) ⊢ run c (Prog.lift (.load (Memref.whole cc0_stg2_0) (Rect.unit (s := S512x2) ![0, 1] S512x1.size inb).toLoadRect hl) >>= rest) Q :=
  load_step m K (b := (Memref.whole cc0_stg2_0)) (r := (Rect.unit (s := S512x2) ![0, 1] S512x1.size inb)) (S := Finset.univ) (f := inI m c) (P := stP cc0_stg2_0 c (inI m c))
    rfl (Finset.subset_univ _) (read_col1 m c _) h

/-- The weights. -/
theorem load_w {c : Dev nD}  {inb : ∀ a, (![0, 0, 0] : Fin S2x256x512.rank → ℕ) a + S2x256x512.size a ≤ S2x256x512.size a}
    {hl : (Memref.whole cc0_stg3_0).view.LoadsAt (Rect.unit (s := S2x256x512) ![0, 0, 0] S2x256x512.size inb).toLoadRect} {α : Type} {rest : ((Rect.unit (s := S2x256x512) ![0, 0, 0] S2x256x512.size inb).shape.Idx → Elt F _) → Prog (TpuEff nD τ sig (Elt F) Λ₀ .tc) α} {Q : α → sProp 𝕄} {X Fr : sProp 𝕄}
    (h : iprop(recs m K ∗ X ∗ (stP cc0_stg3_0 c (inW m c) ∗ Fr)) ⊢ run c (rest (inW m c)) Q) :
    iprop(recs m K ∗ X ∗ (stP cc0_stg3_0 c (inW m c) ∗ Fr)) ⊢ run c (Prog.lift (.load (Memref.whole cc0_stg3_0) (Rect.unit (s := S2x256x512) ![0, 0, 0] S2x256x512.size inb).toLoadRect hl) >>= rest) Q :=
  load_step m K (b := (Memref.whole cc0_stg3_0)) (r := (Rect.unit (s := S2x256x512) ![0, 0, 0] S2x256x512.size inb)) (S := Finset.univ) (f := inW m c) (P := stP cc0_stg3_0 c (inW m c))
    rfl (Finset.subset_univ _) (read_w _ _) h

/-- The dispatch buffer, before it is written. -/
theorem load_s {c : Dev nD} {f : B1 F} {inb : ∀ a, (![0, 0, 0, 0] : Fin S32x2x48x256.rank → ℕ) a + S32x2x48x256.size a ≤ S32x2x48x256.size a}
    {hl : (Memref.whole cc0_scratch0).view.LoadsAt (Rect.unit (s := S32x2x48x256) ![0, 0, 0, 0] S32x2x48x256.size inb).toLoadRect} {α : Type} {rest : ((Rect.unit (s := S32x2x48x256) ![0, 0, 0, 0] S32x2x48x256.size inb).shape.Idx → Elt F _) → Prog (TpuEff nD τ sig (Elt F) Λ₀ .tc) α} {Q : α → sProp 𝕄} {X Fr : sProp 𝕄}
    (h : ∀ v, iprop(recs m K ∗ X ∗ (sR c Finset.univ f ∗ Fr)) ⊢ run c (rest v) Q) :
    iprop(recs m K ∗ X ∗ (sR c Finset.univ f ∗ Fr)) ⊢ run c (Prog.lift (.load (Memref.whole cc0_scratch0) (Rect.unit (s := S32x2x48x256) ![0, 0, 0, 0] S32x2x48x256.size inb).toLoadRect hl) >>= rest) Q :=
  load_any m K (b := (Memref.whole cc0_scratch0)) (r := (Rect.unit (s := S32x2x48x256) ![0, 0, 0, 0] S32x2x48x256.size inb)) (S := rowsD 256 Finset.univ) (f := f) (P := sR c Finset.univ f)
    rfl (by rw [rowsD_univ]; exact Finset.subset_univ _) h

/-- The dispatch buffer written. -/
theorem store_s {c : Dev nD} {f w : B1 F} {inb : ∀ a, (![0, 0, 0, 0] : Fin S32x2x48x256.rank → ℕ) a + S32x2x48x256.size a ≤ S32x2x48x256.size a}
    {hx : ((Memref.whole cc0_scratch0).access (Rect.unit (s := S32x2x48x256) ![0, 0, 0, 0] S32x2x48x256.size inb)).Stores Finset.univ} {hm} {α : Type} {rest : PUnit → Prog (TpuEff nD τ sig (Elt F) Λ₀ .tc) α} {Q : α → sProp 𝕄} {X Fr : sProp 𝕄}
    (h : iprop(recs m K ∗ X ∗ (sR c Finset.univ w ∗ Fr)) ⊢ run c (rest ⟨⟩) Q) :
    iprop(recs m K ∗ X ∗ (sR c Finset.univ f ∗ Fr)) ⊢ run c (Prog.lift (.store (Memref.whole cc0_scratch0) (Rect.unit (s := S32x2x48x256) ![0, 0, 0, 0] S32x2x48x256.size inb) (w) Finset.univ hx hm) >>= rest) Q :=
  store_step m K (b := (Memref.whole cc0_scratch0)) (r := (Rect.unit (s := S32x2x48x256) ![0, 0, 0, 0] S32x2x48x256.size inb)) (S := rowsD 256 Finset.univ) (f := f) (P := sR c Finset.univ f) (P' := sR c Finset.univ w)
    rfl (by rw [rowsD_univ]; exact Finset.subset_univ _) (congrArg (fun g => sR c Finset.univ g) (write_s _ f w)) h

/-- The own row of the buffer. -/
theorem load_row_s {c : Dev nD} {f : B1 F} {o : Fin 4 → ℕ} (ho : o = ![c.val, 0, 0, 0]) {inb : ∀ a, o a + S1x2x48x256.size a ≤ S32x2x48x256.size a}
    {hl : (Memref.whole cc0_scratch0).view.LoadsAt (Rect.unit (s := S32x2x48x256) o S1x2x48x256.size inb).toLoadRect} {α : Type} {rest : ((Rect.unit (s := S32x2x48x256) o S1x2x48x256.size inb).shape.Idx → Elt F _) → Prog (TpuEff nD τ sig (Elt F) Λ₀ .tc) α} {Q : α → sProp 𝕄} {X Fr : sProp 𝕄}
    (h : iprop(recs m K ∗ X ∗ (sR c {c} f ∗ Fr)) ⊢ run c (rest (rowOf (d := 256) c f)) Q) :
    iprop(recs m K ∗ X ∗ (sR c {c} f ∗ Fr)) ⊢ run c (Prog.lift (.load (Memref.whole cc0_scratch0) (Rect.unit (s := S32x2x48x256) o S1x2x48x256.size inb).toLoadRect hl) >>= rest) Q :=
  load_step m K (b := (Memref.whole cc0_scratch0)) (r := (Rect.unit (s := S32x2x48x256) o S1x2x48x256.size inb)) (S := rowsD 256 {c}) (f := f) (P := sR c {c} f)
    rfl (rows_set_0 (n := 1) ho inb {c} (in_row c.val c.isLt)) (read_row_0 ho inb f) h

/-- The own row of the buffer. -/
theorem load_row_r {c : Dev nD} {f : B2 F} {o : Fin 4 → ℕ} (ho : o = ![c.val, 0, 0, 0]) {inb : ∀ a, o a + S1x2x48x512.size a ≤ S32x2x48x512.size a}
    {hl : (Memref.whole cc0_scratch2).view.LoadsAt (Rect.unit (s := S32x2x48x512) o S1x2x48x512.size inb).toLoadRect} {α : Type} {rest : ((Rect.unit (s := S32x2x48x512) o S1x2x48x512.size inb).shape.Idx → Elt F _) → Prog (TpuEff nD τ sig (Elt F) Λ₀ .tc) α} {Q : α → sProp 𝕄} {X Fr : sProp 𝕄}
    (h : iprop(recs m K ∗ X ∗ (rR c {c} f ∗ Fr)) ⊢ run c (rest (rowOf (d := 512) c f)) Q) :
    iprop(recs m K ∗ X ∗ (rR c {c} f ∗ Fr)) ⊢ run c (Prog.lift (.load (Memref.whole cc0_scratch2) (Rect.unit (s := S32x2x48x512) o S1x2x48x512.size inb).toLoadRect hl) >>= rest) Q :=
  load_step m K (b := (Memref.whole cc0_scratch2)) (r := (Rect.unit (s := S32x2x48x512) o S1x2x48x512.size inb)) (S := rowsD 512 {c}) (f := f) (P := rR c {c} f)
    rfl (rows_set_2 (n := 1) ho inb {c} (in_row c.val c.isLt)) (read_row_2 ho inb f) h

/-- The own row of the buffer, before it is written. -/
theorem load_row_v {c : Dev nD} {f : B1 F} {o : Fin 4 → ℕ} (ho : o = ![c.val, 0, 0, 0]) {inb : ∀ a, o a + S1x2x48x256.size a ≤ S32x2x48x256.size a}
    {hl : (Memref.whole cc0_scratch1).view.LoadsAt (Rect.unit (s := S32x2x48x256) o S1x2x48x256.size inb).toLoadRect} {α : Type} {rest : ((Rect.unit (s := S32x2x48x256) o S1x2x48x256.size inb).shape.Idx → Elt F _) → Prog (TpuEff nD τ sig (Elt F) Λ₀ .tc) α} {Q : α → sProp 𝕄} {X Fr : sProp 𝕄}
    (h : ∀ v, iprop(recs m K ∗ X ∗ (vR c {c} f ∗ Fr)) ⊢ run c (rest v) Q) :
    iprop(recs m K ∗ X ∗ (vR c {c} f ∗ Fr)) ⊢ run c (Prog.lift (.load (Memref.whole cc0_scratch1) (Rect.unit (s := S32x2x48x256) o S1x2x48x256.size inb).toLoadRect hl) >>= rest) Q :=
  load_any m K (b := (Memref.whole cc0_scratch1)) (r := (Rect.unit (s := S32x2x48x256) o S1x2x48x256.size inb)) (S := rowsD 256 {c}) (f := f) (P := vR c {c} f)
    rfl (rows_set_1 (n := 1) ho inb {c} (in_row c.val c.isLt)) h

/-- The own row kept. -/
theorem store_row_v {c : Dev nD} {f : B1 F} {o : Fin 4 → ℕ} (ho : o = ![c.val, 0, 0, 0]) {inb : ∀ a, o a + S1x2x48x256.size a ≤ S32x2x48x256.size a}
    {hx : ((Memref.whole cc0_scratch1).access (Rect.unit (s := S32x2x48x256) o S1x2x48x256.size inb)).Stores Finset.univ} {hm} {α : Type} {rest : PUnit → Prog (TpuEff nD τ sig (Elt F) Λ₀ .tc) α} {Q : α → sProp 𝕄} {X Fr : sProp 𝕄}
    (h : iprop(recs m K ∗ X ∗ (vR c {c} (RECV m c) ∗ Fr)) ⊢ run c (rest ⟨⟩) Q) :
    iprop(recs m K ∗ X ∗ (vR c {c} f ∗ Fr)) ⊢ run c (Prog.lift (.store (Memref.whole cc0_scratch1) (Rect.unit (s := S32x2x48x256) o S1x2x48x256.size inb) (k0_pay15 (F := F) (rowOf (d := 256) c (SEND m c))) Finset.univ hx hm) >>= rest) Q :=
  store_step m K (b := (Memref.whole cc0_scratch1)) (r := (Rect.unit (s := S32x2x48x256) o S1x2x48x256.size inb)) (S := rowsD 256 {c}) (f := f) (P := vR c {c} f) (P' := vR c {c} (RECV m c))
    rfl (rows_set_1 (n := 1) ho inb {c} (in_row c.val c.isLt)) (vR_congr (c := c) (S := {c}) fun i hi => (write_row_1 ho inb f (SEND m c) i hi).trans (by unfold RECV; rw [Finset.mem_singleton.1 hi])) h

/-- The own row of the buffer, before it is written. -/
theorem load_row_t {c : Dev nD} {f : B2 F} {o : Fin 4 → ℕ} (ho : o = ![c.val, 0, 0, 0]) {inb : ∀ a, o a + S1x2x48x512.size a ≤ S32x2x48x512.size a}
    {hl : (Memref.whole cc0_scratch3).view.LoadsAt (Rect.unit (s := S32x2x48x512) o S1x2x48x512.size inb).toLoadRect} {α : Type} {rest : ((Rect.unit (s := S32x2x48x512) o S1x2x48x512.size inb).shape.Idx → Elt F _) → Prog (TpuEff nD τ sig (Elt F) Λ₀ .tc) α} {Q : α → sProp 𝕄} {X Fr : sProp 𝕄}
    (h : ∀ v, iprop(recs m K ∗ X ∗ (tR c {c} f ∗ Fr)) ⊢ run c (rest v) Q) :
    iprop(recs m K ∗ X ∗ (tR c {c} f ∗ Fr)) ⊢ run c (Prog.lift (.load (Memref.whole cc0_scratch3) (Rect.unit (s := S32x2x48x512) o S1x2x48x512.size inb).toLoadRect hl) >>= rest) Q :=
  load_any m K (b := (Memref.whole cc0_scratch3)) (r := (Rect.unit (s := S32x2x48x512) o S1x2x48x512.size inb)) (S := rowsD 512 {c}) (f := f) (P := tR c {c} f)
    rfl (rows_set_3 (n := 1) ho inb {c} (in_row c.val c.isLt)) h

/-- The own row kept. -/
theorem store_row_t {c : Dev nD} {f : B2 F} {o : Fin 4 → ℕ} (ho : o = ![c.val, 0, 0, 0]) {inb : ∀ a, o a + S1x2x48x512.size a ≤ S32x2x48x512.size a}
    {hx : ((Memref.whole cc0_scratch3).access (Rect.unit (s := S32x2x48x512) o S1x2x48x512.size inb)).Stores Finset.univ} {hm} {α : Type} {rest : PUnit → Prog (TpuEff nD τ sig (Elt F) Λ₀ .tc) α} {Q : α → sProp 𝕄} {X Fr : sProp 𝕄}
    (h : iprop(recs m K ∗ X ∗ (tR c {c} (RET m c) ∗ Fr)) ⊢ run c (rest ⟨⟩) Q) :
    iprop(recs m K ∗ X ∗ (tR c {c} f ∗ Fr)) ⊢ run c (Prog.lift (.store (Memref.whole cc0_scratch3) (Rect.unit (s := S32x2x48x512) o S1x2x48x512.size inb) (k0_pay19 (F := F) (rowOf (d := 512) c (RES m c))) Finset.univ hx hm) >>= rest) Q :=
  store_step m K (b := (Memref.whole cc0_scratch3)) (r := (Rect.unit (s := S32x2x48x512) o S1x2x48x512.size inb)) (S := rowsD 512 {c}) (f := f) (P := tR c {c} f) (P' := tR c {c} (RET m c))
    rfl (rows_set_3 (n := 1) ho inb {c} (in_row c.val c.isLt)) (tR_congr (c := c) (S := {c}) fun i hi => (write_row_3 ho inb f (RES m c) i hi).trans (by unfold RET; rw [Finset.mem_singleton.1 hi])) h

/-- Sixteen rows of the buffer. -/
theorem load_chunk_v {c : Dev nD} {f : B1 F} (k : Fin 2) {o : Fin 4 → ℕ} (ho : o = ![16 * k.val, 0, 0, 0]) {inb : ∀ a, o a + S16x2x48x256.size a ≤ S32x2x48x256.size a}
    {hl : (Memref.whole cc0_scratch1).view.LoadsAt (Rect.unit (s := S32x2x48x256) o S16x2x48x256.size inb).toLoadRect} {α : Type} {rest : ((Rect.unit (s := S32x2x48x256) o S16x2x48x256.size inb).shape.Idx → Elt F _) → Prog (TpuEff nD τ sig (Elt F) Λ₀ .tc) α} {Q : α → sProp 𝕄} {X Fr : sProp 𝕄}
    (h : iprop(recs m K ∗ X ∗ (vR c (seg (16 * k.val) (16 * k.val + 16)) f ∗ Fr)) ⊢ run c (rest (chunk (d := 256) k f)) Q) :
    iprop(recs m K ∗ X ∗ (vR c (seg (16 * k.val) (16 * k.val + 16)) f ∗ Fr)) ⊢ run c (Prog.lift (.load (Memref.whole cc0_scratch1) (Rect.unit (s := S32x2x48x256) o S16x2x48x256.size inb).toLoadRect hl) >>= rest) Q :=
  load_step m K (b := (Memref.whole cc0_scratch1)) (r := (Rect.unit (s := S32x2x48x256) o S16x2x48x256.size inb)) (S := rowsD 256 (seg (16 * k.val) (16 * k.val + 16))) (f := f) (P := vR c (seg (16 * k.val) (16 * k.val + 16)) f)
    rfl (rows_set_1 (n := 16) ho inb _ (in_seg _)) (read_chunk_1 k ho inb f) h

/-- Sixteen rows of the buffer. -/
theorem load_chunk_t {c : Dev nD} {f : B2 F} (k : Fin 2) {o : Fin 4 → ℕ} (ho : o = ![16 * k.val, 0, 0, 0]) {inb : ∀ a, o a + S16x2x48x512.size a ≤ S32x2x48x512.size a}
    {hl : (Memref.whole cc0_scratch3).view.LoadsAt (Rect.unit (s := S32x2x48x512) o S16x2x48x512.size inb).toLoadRect} {α : Type} {rest : ((Rect.unit (s := S32x2x48x512) o S16x2x48x512.size inb).shape.Idx → Elt F _) → Prog (TpuEff nD τ sig (Elt F) Λ₀ .tc) α} {Q : α → sProp 𝕄} {X Fr : sProp 𝕄}
    (h : iprop(recs m K ∗ X ∗ (tR c (seg (16 * k.val) (16 * k.val + 16)) f ∗ Fr)) ⊢ run c (rest (chunk (d := 512) k f)) Q) :
    iprop(recs m K ∗ X ∗ (tR c (seg (16 * k.val) (16 * k.val + 16)) f ∗ Fr)) ⊢ run c (Prog.lift (.load (Memref.whole cc0_scratch3) (Rect.unit (s := S32x2x48x512) o S16x2x48x512.size inb).toLoadRect hl) >>= rest) Q :=
  load_step m K (b := (Memref.whole cc0_scratch3)) (r := (Rect.unit (s := S32x2x48x512) o S16x2x48x512.size inb)) (S := rowsD 512 (seg (16 * k.val) (16 * k.val + 16))) (f := f) (P := tR c (seg (16 * k.val) (16 * k.val + 16)) f)
    rfl (rows_set_3 (n := 16) ho inb _ (in_seg _)) (read_chunk_3 k ho inb f) h

/-- Rows of the product buffer, before they are written. -/
theorem load_half_r {c : Dev nD} {f : B2 F} (k : Fin 2) {o : Fin 4 → ℕ} (ho : o = ![16 * k.val, 0, 0, 0]) {inb : ∀ a, o a + S16x2x48x512.size a ≤ S32x2x48x512.size a}
    {hl : (Memref.whole cc0_scratch2).view.LoadsAt (Rect.unit (s := S32x2x48x512) o S16x2x48x512.size inb).toLoadRect} {α : Type} {rest : ((Rect.unit (s := S32x2x48x512) o S16x2x48x512.size inb).shape.Idx → Elt F _) → Prog (TpuEff nD τ sig (Elt F) Λ₀ .tc) α} {Q : α → sProp 𝕄} {X Fr : sProp 𝕄}
    (h : ∀ v, iprop(recs m K ∗ X ∗ (rR c (seg (16 * k.val) (16 * k.val + 16)) f ∗ Fr)) ⊢ run c (rest v) Q) :
    iprop(recs m K ∗ X ∗ (rR c (seg (16 * k.val) (16 * k.val + 16)) f ∗ Fr)) ⊢ run c (Prog.lift (.load (Memref.whole cc0_scratch2) (Rect.unit (s := S32x2x48x512) o S16x2x48x512.size inb).toLoadRect hl) >>= rest) Q :=
  load_any m K (b := (Memref.whole cc0_scratch2)) (r := (Rect.unit (s := S32x2x48x512) o S16x2x48x512.size inb)) (S := rowsD 512 (seg (16 * k.val) (16 * k.val + 16))) (f := f) (P := rR c (seg (16 * k.val) (16 * k.val + 16)) f)
    rfl (rows_set_2 (n := 16) ho inb _ (in_seg _)) h

/-- The products of sixteen rows written. -/
theorem store_half_r {c : Dev nD} {f : B2 F} (k : Fin 2) {o : Fin 4 → ℕ} (ho : o = ![16 * k.val, 0, 0, 0]) {inb : ∀ a, o a + S16x2x48x512.size a ≤ S32x2x48x512.size a}
    {hx : ((Memref.whole cc0_scratch2).access (Rect.unit (s := S32x2x48x512) o S16x2x48x512.size inb)).Stores Finset.univ} {hm} {α : Type} {rest : PUnit → Prog (TpuEff nD τ sig (Elt F) Λ₀ .tc) α} {Q : α → sProp 𝕄} {X Fr : sProp 𝕄}
    (h : iprop(recs m K ∗ X ∗ (rR c (seg (16 * k.val) (16 * k.val + 16)) (RES m c) ∗ Fr)) ⊢ run c (rest ⟨⟩) Q) :
    iprop(recs m K ∗ X ∗ (rR c (seg (16 * k.val) (16 * k.val + 16)) f ∗ Fr)) ⊢ run c (Prog.lift (.store (Memref.whole cc0_scratch2) (Rect.unit (s := S32x2x48x512) o S16x2x48x512.size inb) (PROD m c k) Finset.univ hx hm) >>= rest) Q :=
  store_step m K (b := (Memref.whole cc0_scratch2)) (r := (Rect.unit (s := S32x2x48x512) o S16x2x48x512.size inb)) (S := rowsD 512 (seg (16 * k.val) (16 * k.val + 16))) (f := f) (P := rR c (seg (16 * k.val) (16 * k.val + 16)) f) (P' := rR c (seg (16 * k.val) (16 * k.val + 16)) (RES m c))
    rfl (rows_set_2 (n := 16) ho inb _ (in_seg _)) (rR_congr (c := c) (S := seg (16 * k.val) (16 * k.val + 16)) fun i hi => write_chunk_2 m c k ho inb f i hi) h

/-- The result block, before it is written. -/
theorem load_o {c : Dev nD} {f : Vec F S512x512 .f32} {inb : ∀ a, (![0, 0] : Fin S512x512.rank → ℕ) a + S512x512.size a ≤ S512x512.size a}
    {hl : (Memref.whole cc0_stg4_0).view.LoadsAt (Rect.unit (s := S512x512) ![0, 0] S512x512.size inb).toLoadRect} {α : Type} {rest : ((Rect.unit (s := S512x512) ![0, 0] S512x512.size inb).shape.Idx → Elt F _) → Prog (TpuEff nD τ sig (Elt F) Λ₀ .tc) α} {Q : α → sProp 𝕄} {X Fr : sProp 𝕄}
    (h : ∀ v, iprop(recs m K ∗ X ∗ (stP cc0_stg4_0 c f ∗ Fr)) ⊢ run c (rest v) Q) :
    iprop(recs m K ∗ X ∗ (stP cc0_stg4_0 c f ∗ Fr)) ⊢ run c (Prog.lift (.load (Memref.whole cc0_stg4_0) (Rect.unit (s := S512x512) ![0, 0] S512x512.size inb).toLoadRect hl) >>= rest) Q :=
  load_any m K (b := (Memref.whole cc0_stg4_0)) (r := (Rect.unit (s := S512x512) ![0, 0] S512x512.size inb)) (S := Finset.univ) (f := f) (P := stP cc0_stg4_0 c f)
    rfl (Finset.subset_univ _) h

/-- The result block written. -/
theorem store_o {c : Dev nD} {f w : Vec F S512x512 .f32} {inb : ∀ a, (![0, 0] : Fin S512x512.rank → ℕ) a + S512x512.size a ≤ S512x512.size a}
    {hx : ((Memref.whole cc0_stg4_0).access (Rect.unit (s := S512x512) ![0, 0] S512x512.size inb)).Stores Finset.univ} {hm} {α : Type} {rest : PUnit → Prog (TpuEff nD τ sig (Elt F) Λ₀ .tc) α} {Q : α → sProp 𝕄} {X Fr : sProp 𝕄}
    (h : iprop(recs m K ∗ X ∗ (stP cc0_stg4_0 c w ∗ Fr)) ⊢ run c (rest ⟨⟩) Q) :
    iprop(recs m K ∗ X ∗ (stP cc0_stg4_0 c f ∗ Fr)) ⊢ run c (Prog.lift (.store (Memref.whole cc0_stg4_0) (Rect.unit (s := S512x512) ![0, 0] S512x512.size inb) (w) Finset.univ hx hm) >>= rest) Q :=
  store_step m K (b := (Memref.whole cc0_stg4_0)) (r := (Rect.unit (s := S512x512) ![0, 0] S512x512.size inb)) (S := Finset.univ) (f := f) (P := stP cc0_stg4_0 c f) (P' := stP cc0_stg4_0 c w)
    rfl (Finset.subset_univ _) (congrArg (fun g => stP cc0_stg4_0 c g) (write_o _ f w)) h

/-- Sixteen rows that have come, with the own row among them or not. -/
theorem chunk_in {c : Dev nD} (k : Fin 2) {n : ℕ} (hn : 16 * k.val + 16 ≤ n) {O : CellTallies nD τ sig Unit} {o : Fin 4 → ℕ} (ho : o = ![16 * k.val, 0, 0, 0])
    {inb : ∀ a, o a + S16x2x48x256.size a ≤ S32x2x48x256.size a} {hl : (Memref.whole cc0_scratch1).view.LoadsAt (Rect.unit (s := S32x2x48x256) o S16x2x48x256.size inb).toLoadRect}
    {α : Type} {rest : ((Rect.unit (s := S32x2x48x256) o S16x2x48x256.size inb).shape.Idx → Elt F _) → Prog (TpuEff nD τ sig (Elt F) Λ₀ .tc) α} {Q : α → sProp 𝕄} {Fr : sProp 𝕄}
    (h : iprop(recs m K ∗ (owesE c O ∗ stWait m 1 c 0 n) ∗ (vR c {c} (RECV m c) ∗ Fr)) ⊢ run c (rest (chunk (d := 256) k (RECV m c))) Q) :
    iprop(recs m K ∗ (owesE c O ∗ stWait m 1 c 0 n) ∗ (vR c {c} (RECV m c) ∗ Fr)) ⊢ run c (Prog.lift (.load (Memref.whole cc0_scratch1)
      (Rect.unit (s := S32x2x48x256) o S16x2x48x256.size inb).toLoadRect hl) >>= rest) Q := by
  have hcut : iprop(vR c {c} (RECV m c) ∗ bigSep (rng c 0 n) fun j => xPay m 1 c j)
      = iprop(vR c (seg (16 * k.val) (16 * k.val + 16)) (RECV m c) ∗ bigSep (insert c (rng c 0 n) \ seg (16 * k.val) (16 * k.val + 16)) fun j => xPay m 1 c j) := by
    rw [vR_split c (seg _ _)]
    exact rows_cut (Φ := fun j => xPay m 1 c j) hn
  have h1 : iprop(recs m K ∗ (owesE c O ∗ (bigSep (rng c n 32) fun j => iprop(cred (tallyAt (cell (1, j) c) () (amt 1)) ∗ atPos ER (cell (1, j) c) 0 ∅ 0))
      ∗ bigSep (rng c 0 n) fun j => atPos ER (cell (1, j) c) 1 ∅ 0)
      ∗ (vR c (seg (16 * k.val) (16 * k.val + 16)) (RECV m c) ∗ (bigSep (insert c (rng c 0 n) \ seg (16 * k.val) (16 * k.val + 16)) fun j => xPay m 1 c j) ∗ Fr))
      ⊢ run c (rest (chunk (d := 256) k (RECV m c))) Q := by
    refine BIBase.Entails.trans ?_ h
    unfold stWait
    iintro ⟨HR, ⟨HO, Ha, Hp⟩, Hs, Ho, HF⟩
    ihave ⟨Hc, Hx⟩ := (Entails.of_eq hcut.symm) $$ [Hs Ho]
    · isplitl [Hs]; · iexact Hs
      iexact Ho
    isplitl [HR]; · iexact HR
    isplitr [Hc HF]
    · isplitl [HO]; · iexact HO
      isplitl [Ha]; · iexact Ha
      isplitl [Hx]; · iexact Hx
      iexact Hp
    isplitl [Hc]; · iexact Hc
    iexact HF
  refine BIBase.Entails.trans ?_ (load_chunk_v m K k ho h1)
  unfold stWait
  iintro ⟨HR, ⟨HO, Ha, Hx, Hp⟩, Hc, HF⟩
  ihave ⟨Hs, Ho⟩ := (Entails.of_eq hcut) $$ [Hc Hx]
  · isplitl [Hc]; · iexact Hc
    iexact Hx
  isplitl [HR]; · iexact HR
  isplitr [Hs Ho HF]
  · isplitl [HO]; · iexact HO
    isplitl [Ha]; · iexact Ha
    iexact Hp
  isplitl [Hs]; · iexact Hs
  isplitl [Ho]; · iexact Ho
  iexact HF

/-- Sixteen rows that have come, with the own row among them or not. -/
theorem chunk_back {c : Dev nD} (k : Fin 2) {n : ℕ} (hn : 16 * k.val + 16 ≤ n) {O : CellTallies nD τ sig Unit} {o : Fin 4 → ℕ} (ho : o = ![16 * k.val, 0, 0, 0])
    {inb : ∀ a, o a + S16x2x48x512.size a ≤ S32x2x48x512.size a} {hl : (Memref.whole cc0_scratch3).view.LoadsAt (Rect.unit (s := S32x2x48x512) o S16x2x48x512.size inb).toLoadRect}
    {α : Type} {rest : ((Rect.unit (s := S32x2x48x512) o S16x2x48x512.size inb).shape.Idx → Elt F _) → Prog (TpuEff nD τ sig (Elt F) Λ₀ .tc) α} {Q : α → sProp 𝕄} {Fr : sProp 𝕄}
    (h : iprop(recs m K ∗ (owesE c O ∗ stWait m 3 c 0 n) ∗ (tR c {c} (RET m c) ∗ Fr)) ⊢ run c (rest (chunk (d := 512) k (RET m c))) Q) :
    iprop(recs m K ∗ (owesE c O ∗ stWait m 3 c 0 n) ∗ (tR c {c} (RET m c) ∗ Fr)) ⊢ run c (Prog.lift (.load (Memref.whole cc0_scratch3)
      (Rect.unit (s := S32x2x48x512) o S16x2x48x512.size inb).toLoadRect hl) >>= rest) Q := by
  have hcut : iprop(tR c {c} (RET m c) ∗ bigSep (rng c 0 n) fun j => xPay m 3 c j)
      = iprop(tR c (seg (16 * k.val) (16 * k.val + 16)) (RET m c) ∗ bigSep (insert c (rng c 0 n) \ seg (16 * k.val) (16 * k.val + 16)) fun j => xPay m 3 c j) := by
    rw [tR_split c (seg _ _)]
    exact rows_cut (Φ := fun j => xPay m 3 c j) hn
  have h1 : iprop(recs m K ∗ (owesE c O ∗ (bigSep (rng c n 32) fun j => iprop(cred (tallyAt (cell (3, j) c) () (amt 3)) ∗ atPos ER (cell (3, j) c) 0 ∅ 0))
      ∗ bigSep (rng c 0 n) fun j => atPos ER (cell (3, j) c) 1 ∅ 0)
      ∗ (tR c (seg (16 * k.val) (16 * k.val + 16)) (RET m c) ∗ (bigSep (insert c (rng c 0 n) \ seg (16 * k.val) (16 * k.val + 16)) fun j => xPay m 3 c j) ∗ Fr))
      ⊢ run c (rest (chunk (d := 512) k (RET m c))) Q := by
    refine BIBase.Entails.trans ?_ h
    unfold stWait
    iintro ⟨HR, ⟨HO, Ha, Hp⟩, Hs, Ho, HF⟩
    ihave ⟨Hc, Hx⟩ := (Entails.of_eq hcut.symm) $$ [Hs Ho]
    · isplitl [Hs]; · iexact Hs
      iexact Ho
    isplitl [HR]; · iexact HR
    isplitr [Hc HF]
    · isplitl [HO]; · iexact HO
      isplitl [Ha]; · iexact Ha
      isplitl [Hx]; · iexact Hx
      iexact Hp
    isplitl [Hc]; · iexact Hc
    iexact HF
  refine BIBase.Entails.trans ?_ (load_chunk_t m K k ho h1)
  unfold stWait
  iintro ⟨HR, ⟨HO, Ha, Hx, Hp⟩, Hc, HF⟩
  ihave ⟨Hs, Ho⟩ := (Entails.of_eq hcut) $$ [Hc Hx]
  · isplitl [Hc]; · iexact Hc
    iexact Hx
  isplitl [HR]; · iexact HR
  isplitr [Hs Ho HF]
  · isplitl [HO]; · iexact HO
    isplitl [Ha]; · iexact Ha
    iexact Hp
  isplitl [Hs]; · iexact Hs
  isplitl [Ho]; · iexact Ho
  iexact HF

end Steps

end Cert.MoeProof
-- ==== Proof.Phases.lean ====
/-
What a device holds between the phases of the exchange, and how one phase hands over to the next.
-/
module

public import proofs.«01_k».proof.Proof.Access

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

section Start
variable (m : (ℓ : Loc nD τ sig) → Buf (Elt F) ℓ) (K : Dev nD × Option (Fin 4 × Dev nD) → ℕ)

/-! ## What a device holds between the phases -/

/-- The places of the cells of array `κ` on `c`, none waited for yet. -/
def AT (κ : Fin 4) (c : Dev nD) : sProp 𝕄 := bigSep (rng c 0 32) fun j => atPos ER (cell (κ, j) c) 0 ∅ 0
/-- The credits of those cells. -/
def CR (κ : Fin 4) (c : Dev nD) : sProp 𝕄 := bigSep (rng c 0 32) fun j => cred (tallyAt (cell (κ, j) c) () (amt κ))
/-- The duties of `c` at its own sending cells and at the receiving cells elsewhere. -/
def TOK (κ κ' : Fin 4) (c : Dev nD) : sProp 𝕄 :=
  bigSep (rng c 0 32) fun j => iprop(dutyTok ER (cell (κ, j) c) 0 c ∗ dutyTok ER (cell (κ', c) j) 0 c)
/-- The rows it writes elsewhere. -/
def TH (κ : Fin 4) (c : Dev nD) : sProp 𝕄 := bigSep (rng c 0 32) fun j => there (F := F) κ c j
/-- The places of the four cells no transfer uses. -/
def OWN (c : Dev nD) : sProp 𝕄 := bigSep Finset.univ fun κ : Fin 4 => atPos ER (cell (κ, c) c) 0 ∅ 0

theorem all_rows {Φ : Dev nD → sProp 𝕄} (c : Dev nD) : bigSep Finset.univ Φ = iprop(Φ c ∗ bigSep (rng c 0 32) Φ) := by
  rw [rng_full]; exact bigSep_erase (Finset.mem_univ c)

theorem none_left {Φ : Dev nD → sProp 𝕄} (c : Dev nD) {lo hi : ℕ} (h : hi ≤ lo) : bigSep (rng c lo hi) Φ = iprop(emp) := by
  rw [rng_empty c lo h]; exact bigSep_empty

theorem both {S : Finset (Dev nD)} {Φ Ψ : Dev nD → sProp 𝕄} :
    bigSep S (fun j => iprop(Φ j ∗ Ψ j)) = iprop(bigSep S Φ ∗ bigSep S Ψ) := bigSep_sep _ _ _

theorem wait_start (κ : Fin 4) (c : Dev nD) : iprop(CR κ c ∗ AT κ c) ⊢ stWait m κ c 0 0 := by
  unfold stWait CR AT
  rw [both, none_left c (le_refl 0), none_left c (le_refl 0)]
  iintro ⟨H1, H2⟩
  isplitl [H1 H2]
  · isplitl [H1] <;> iassumption
  isplitl <;> iempintro

theorem wait_end (κ : Fin 4) (c : Dev nD) :
    stWait m κ c 0 32 ⊢ iprop((bigSep (rng c 0 32) fun j => xPay m κ c j) ∗ bigSep (rng c 0 32) fun j => atPos ER (cell (κ, j) c) 1 ∅ 0) := by
  unfold stWait
  iintro ⟨-, H⟩; iexact H

theorem send_start (κ κ' : Fin 4) (c : Dev nD) (hi : ℕ) :
    iprop(TOK κ κ' c ∗ TH κ' c ∗ bigSep (rng c 0 hi) fun j => xPay m κ c j) ⊢ stSend m κ κ' c 0 hi := by
  unfold stSend TOK TH
  rw [none_left (Φ := fun j => cred (tallyAt (cell (κ, j) c) () (amt κ))) c (le_refl 0)]
  have e : bigSep (rng c 0 32) (fun j => iprop(dutyTok ER (cell (κ, j) c) 0 c ∗ dutyTok ER (cell (κ', c) j) 0 c ∗ there (F := F) κ' c j))
      = iprop(bigSep (rng c 0 32) (fun j => dutyTok ER (cell (κ, j) c) 0 c) ∗ bigSep (rng c 0 32) (fun j => dutyTok ER (cell (κ', c) j) 0 c)
        ∗ bigSep (rng c 0 32) (fun j => there (F := F) κ' c j)) := by
    rw [both, both]
  rw [e, both]
  iintro ⟨⟨H1, H2⟩, H3, H4⟩
  isplitl [H1 H2 H3]
  · isplitl [H1]; · iexact H1
    isplitl [H2] <;> iassumption
  isplitl [H4]; · iexact H4
  iempintro

theorem send_end (κ κ' : Fin 4) (c : Dev nD) : stSend m κ κ' c 32 32 ⊢ CR κ c := by
  unfold stSend CR
  rw [none_left c (le_refl 32), none_left c (le_refl 32)]
  iintro ⟨-, -, H⟩; iexact H

theorem send_more (κ κ' : Fin 4) (c : Dev nD) :
    iprop(stSend m κ κ' c 16 16 ∗ bigSep (rng c 16 32) fun j => xPay m κ c j) ⊢ stSend m κ κ' c 16 32 := by
  unfold stSend
  iintro ⟨⟨H1, -, H3⟩, H2⟩
  isplitl [H1]; · iexact H1
  isplitl [H2] <;> iassumption

/-- The inputs of `c`, its barrier's place and the unused cells. -/
def GZ (c : Dev nD) : sProp 𝕄 :=
  iprop(atPos ER (barCell c) 1 ∅ 0 ∗ OWN c ∗ stP cc0_stg2_0 c (inI m c) ∗ stP cc0_stg1_0 c (inR m c) ∗ stP cc0_stg0_0 c (inX m c))

variable (c : Dev nD) (fs fv : B1 F) (fr ft : B2 F) (fo : FVec F S512x512 .f32)

/-- Beside the barrier: everything else of `c`. -/
def G0 : sProp 𝕄 :=
  iprop(stP cc0_stg3_0 c (inW m c) ∗ stP cc0_stg4_0 c fo ∗ sR c Finset.univ fs ∗ rR c Finset.univ fr ∗ vR c {c} fv ∗ tR c {c} ft
    ∗ TOK 0 1 c ∗ TOK 2 3 c ∗ CR 1 c ∗ AT 1 c ∗ CR 3 c ∗ AT 3 c ∗ AT 0 c ∗ AT 2 c ∗ OWN c)
/-- Beside the dispatch's rows. -/
def G8 : sProp 𝕄 :=
  iprop(stP cc0_stg2_0 c (inI m c) ∗ stP cc0_stg1_0 c (inR m c) ∗ stP cc0_stg0_0 c (inX m c)
    ∗ stP cc0_stg3_0 c (inW m c) ∗ stP cc0_stg4_0 c fo ∗ rR c Finset.univ fr ∗ vR c {c} fv ∗ tR c {c} ft
    ∗ TOK 0 1 c ∗ TOK 2 3 c ∗ CR 1 c ∗ AT 1 c ∗ CR 3 c ∗ AT 3 c ∗ AT 0 c ∗ AT 2 c ∗ OWN c)
/-- While the dispatch runs. -/
def G12 : sProp 𝕄 :=
  iprop(rR c Finset.univ fr ∗ TH 3 c ∗ TOK 2 3 c ∗ CR 1 c ∗ AT 1 c ∗ CR 3 c ∗ AT 3 c ∗ AT 0 c ∗ AT 2 c
    ∗ tR c {c} ft ∗ stP cc0_stg4_0 c fo ∗ GZ m c)
/-- While the first sixteen rows come. -/
def G14 : sProp 𝕄 :=
  iprop(rR c (seg 16 32) fr ∗ CR 0 c ∗ TH 3 c ∗ TOK 2 3 c ∗ CR 3 c ∗ AT 3 c ∗ AT 0 c ∗ AT 2 c ∗ tR c {c} ft ∗ stP cc0_stg4_0 c fo
    ∗ sR c {c} (SEND m c) ∗ stP cc0_stg3_0 c (inW m c) ∗ GZ m c)
/-- While the first sixteen products go. -/
def G16 : sProp 𝕄 :=
  iprop(stWait m 1 c 0 16 ∗ ownIf c 0 16 (rR c {c} (RES m c)) ∗ vR c {c} (RECV m c)
    ∗ rR c (seg 16 32) fr ∗ CR 0 c ∗ CR 3 c ∗ AT 3 c ∗ AT 0 c ∗ AT 2 c ∗ tR c {c} ft ∗ stP cc0_stg4_0 c fo
    ∗ sR c {c} (SEND m c) ∗ stP cc0_stg3_0 c (inW m c) ∗ GZ m c)
/-- While the other sixteen rows come. -/
def G19 : sProp 𝕄 :=
  iprop(stSend m 2 3 c 16 16 ∗ ownIf c 0 16 (rR c {c} (RES m c))
    ∗ CR 0 c ∗ CR 3 c ∗ AT 3 c ∗ AT 0 c ∗ AT 2 c ∗ tR c {c} ft ∗ stP cc0_stg4_0 c fo
    ∗ sR c {c} (SEND m c) ∗ stP cc0_stg3_0 c (inW m c) ∗ GZ m c)
/-- While the other sixteen products go. -/
def G21 : sProp 𝕄 :=
  iprop(stWait m 1 c 0 32 ∗ vR c {c} (RECV m c) ∗ CR 0 c ∗ CR 3 c ∗ AT 3 c ∗ AT 0 c ∗ AT 2 c ∗ stP cc0_stg4_0 c fo
    ∗ sR c {c} (SEND m c) ∗ stP cc0_stg3_0 c (inW m c) ∗ GZ m c)
/-- While the products come back. -/
def G26 : sProp 𝕄 :=
  iprop(rR c {c} (RES m c) ∗ stWait m 1 c 0 32 ∗ vR c {c} (RECV m c) ∗ CR 0 c ∗ CR 2 c ∗ AT 0 c ∗ AT 2 c
    ∗ sR c {c} (SEND m c) ∗ stP cc0_stg3_0 c (inW m c) ∗ GZ m c)
/-- While the sends are waited for. -/
def G34 : sProp 𝕄 :=
  iprop(stP cc0_stg4_0 c (OUT m c) ∗ stWait m 3 c 0 32 ∗ tR c {c} (RET m c) ∗ rR c {c} (RES m c) ∗ stWait m 1 c 0 32 ∗ vR c {c} (RECV m c)
    ∗ sR c {c} (SEND m c) ∗ stP cc0_stg3_0 c (inW m c) ∗ GZ m c)

/-- Before the dispatch's rows are written. -/
theorem to8 {X : sProp 𝕄} : iprop(recs m K ∗ X ∗ (stP cc0_stg2_0 c (inI m c) ∗ stP cc0_stg1_0 c (inR m c) ∗ stP cc0_stg0_0 c (inX m c) ∗ G0 m c fs fv fr ft fo))
    ⊢ iprop(recs m K ∗ X ∗ (sR c Finset.univ fs ∗ G8 m c fv fr ft fo)) := by
  unfold G0 G8
  iintro ⟨HR, HX, H2, H1, H0, H3, H4, Hs, HF⟩
  isplitl [HR]; · iexact HR
  isplitl [HX]; · iexact HX
  isplitl [Hs]; · iexact Hs
  isplitl [H2]; · iexact H2
  isplitl [H1]; · iexact H1
  isplitl [H0]; · iexact H0
  isplitl [H3]; · iexact H3
  isplitl [H4]; · iexact H4
  iexact HF

/-- The dispatch starts. -/
theorem mid8 : iprop(recs m K ∗ ((owesE c (OX 1 c 0 + OX 3 c 0) ∗ bigSep (rng c 0 32) fun q => iprop(there (F := F) 1 c q ∗ there (F := F) 3 c q)) ∗ atPos ER (barCell c) 1 ∅ 0)
      ∗ (sR c Finset.univ (SEND m c) ∗ G8 m c fv fr ft fo))
    ⊢ iprop(recs m K ∗ (owesE c (OX 1 c 0 + OX 3 c 0) ∗ stSend m 0 1 c 0 32)
      ∗ (sR c {c} (SEND m c) ∗ vR c {c} fv ∗ stP cc0_stg3_0 c (inW m c) ∗ G12 m c fr ft fo)) := by
  unfold G8 G12 GZ
  rw [sR_split c Finset.univ, all_rows c, both]
  iintro ⟨HR, ⟨⟨HO, Ht1, Ht3⟩, Hb⟩, ⟨Hs, Hss⟩, H2, H1, H0, H3, H4, Hr, Hv, Ht, HT1, HT3, HC1, HA1, HC3, HA3, HA0, HA2, HOWN⟩
  isplitl [HR]; · iexact HR
  isplitl [HO Ht1 Hss HT1]
  · isplitl [HO]; · iexact HO
    iapply (send_start m 0 1 c 32)
    isplitl [HT1]; · iexact HT1
    isplitl [Ht1]; · unfold TH; iexact Ht1
    iexact Hss
  isplitl [Hs]; · iexact Hs
  isplitl [Hv]; · iexact Hv
  isplitl [H3]; · iexact H3
  isplitl [Hr]; · iexact Hr
  isplitl [Ht3]; · unfold TH; iexact Ht3
  isplitl [HT3]; · iexact HT3
  isplitl [HC1]; · iexact HC1
  isplitl [HA1]; · iexact HA1
  isplitl [HC3]; · iexact HC3
  isplitl [HA3]; · iexact HA3
  isplitl [HA0]; · iexact HA0
  isplitl [HA2]; · iexact HA2
  isplitl [Ht]; · iexact Ht
  isplitl [H4]; · iexact H4
  isplitl [Hb]; · iexact Hb
  isplitl [HOWN]; · iexact HOWN
  isplitl [H2]; · iexact H2
  isplitl [H1] <;> iassumption

/-- All rows are dispatched. -/
theorem mid12 : iprop(recs m K ∗ (owesE c (OX 1 c 32 + OX 3 c 0) ∗ stSend m 0 1 c 32 32)
      ∗ (stP cc0_stg3_0 c (inW m c) ∗ vR c {c} (RECV m c) ∗ sR c {c} (SEND m c) ∗ G12 m c fr ft fo))
    ⊢ iprop(recs m K ∗ (owesE c (OX 3 c 0 + 0) ∗ stWait m 1 c 0 0)
      ∗ (vR c {c} (RECV m c) ∗ rR c (seg 0 16) fr ∗ G14 m c fr ft fo)) := by
  unfold G12 G14
  rw [OX_end, zero_add, add_zero]
  iintro ⟨HR, ⟨HO, HS⟩, H3, Hv, Hs, Hr, Ht3, HT3, HC1, HA1, HC3, HA3, HA0, HA2, Ht, H4, HZ⟩
  ihave ⟨Hr1, Hr2⟩ := (rR_halves c fr) $$ Hr
  isplitl [HR]; · iexact HR
  isplitl [HO HC1 HA1]
  · isplitl [HO]; · iexact HO
    iapply (wait_start m 1 c)
    isplitl [HC1] <;> iassumption
  isplitl [Hv]; · iexact Hv
  isplitl [Hr1]; · iexact Hr1
  isplitl [Hr2]; · iexact Hr2
  isplitl [HS]; · iapply (send_end m 0 1 c) $$ HS
  isplitl [Ht3]; · iexact Ht3
  isplitl [HT3]; · iexact HT3
  isplitl [HC3]; · iexact HC3
  isplitl [HA3]; · iexact HA3
  isplitl [HA0]; · iexact HA0
  isplitl [HA2]; · iexact HA2
  isplitl [Ht]; · iexact Ht
  isplitl [H4]; · iexact H4
  isplitl [Hs]; · iexact Hs
  isplitl [H3] <;> iassumption

theorem rows_of (lo hi : ℕ) : rR c (seg lo hi) (RES m c)
    ⊢ iprop(ownIf c lo hi (rR c {c} (RES m c)) ∗ bigSep (rng c lo hi) fun j => xPay m 2 c j) := by
  rw [rR_split]; exact seg_own (Φ := fun j => rR c {j} (RES m c))

/-- The first sixteen products start going. -/
theorem mid15 : iprop(recs m K ∗ (owesE c (OX 3 c 0 + 0) ∗ stWait m 1 c 0 16)
      ∗ (rR c (seg 0 16) (RES m c) ∗ vR c {c} (RECV m c) ∗ G14 m c fr ft fo))
    ⊢ iprop(recs m K ∗ (owesE c (OX 3 c 0 + 0) ∗ stSend m 2 3 c 0 16) ∗ G16 m c fr ft fo) := by
  unfold G14 G16
  iintro ⟨HR, ⟨HO, HW⟩, Hr, Hv, Hr2, HC0, Ht3, HT3, HF⟩
  ihave ⟨Hown, Hrows⟩ := (rows_of m c 0 16) $$ Hr
  isplitl [HR]; · iexact HR
  isplitl [HO HT3 Ht3 Hrows]
  · isplitl [HO]; · iexact HO
    iapply (send_start m 2 3 c 16)
    isplitl [HT3]; · iexact HT3
    isplitl [Ht3] <;> iassumption
  isplitl [HW]; · iexact HW
  isplitl [Hown]; · iexact Hown
  isplitl [Hv]; · iexact Hv
  isplitl [Hr2]; · iexact Hr2
  isplitl [HC0] <;> iassumption

/-- Back to the rows. -/
theorem to17 {O : CellTallies nD τ sig Unit} : iprop(recs m K ∗ (owesE c O ∗ stSend m 2 3 c 16 16) ∗ G16 m c fr ft fo)
    ⊢ iprop(recs m K ∗ (owesE c O ∗ stWait m 1 c 0 16) ∗ (vR c {c} (RECV m c) ∗ rR c (seg 16 32) fr ∗ G19 m c ft fo)) := by
  unfold G16 G19
  iintro ⟨HR, ⟨HO, HS⟩, HW, Hown, Hv, Hr, HF⟩
  isplitl [HR]; · iexact HR
  isplitl [HO HW]; · isplitl [HO] <;> iassumption
  isplitl [Hv]; · iexact Hv
  isplitl [Hr]; · iexact Hr
  isplitl [HS]; · iexact HS
  isplitl [Hown] <;> iassumption

/-- The other sixteen products start going. -/
theorem mid19 {O : CellTallies nD τ sig Unit} : iprop(recs m K ∗ (owesE c O ∗ stWait m 1 c 0 32)
      ∗ (rR c (seg 16 32) (RES m c) ∗ vR c {c} (RECV m c) ∗ G19 m c ft fo))
    ⊢ iprop(recs m K ∗ (owesE c O ∗ stSend m 2 3 c 16 32) ∗ (rR c {c} (RES m c) ∗ tR c {c} ft ∗ G21 m c fo)) := by
  unfold G19 G21
  iintro ⟨HR, ⟨HO, HW⟩, Hr, Hv, HS, Hown, HC0, HC3, HA3, HA0, HA2, Ht, HF⟩
  ihave ⟨Hown', Hrows⟩ := (rows_of m c 16 32) $$ Hr
  isplitl [HR]; · iexact HR
  isplitl [HO HS Hrows]
  · isplitl [HO]; · iexact HO
    iapply (send_more m 2 3 c)
    isplitl [HS] <;> iassumption
  isplitl [Hown Hown']
  · iapply own_join
    isplitl [Hown] <;> iassumption
  isplitl [Ht]; · iexact Ht
  isplitl [HW]; · iexact HW
  isplitl [Hv]; · iexact Hv
  isplitl [HC0]; · iexact HC0
  isplitl [HC3]; · iexact HC3
  isplitl [HA3]; · iexact HA3
  isplitl [HA0]; · iexact HA0
  isplitl [HA2] <;> iassumption

/-- All products have gone. -/
theorem mid21 : iprop(recs m K ∗ (owesE c (OX 3 c 32 + 0) ∗ stSend m 2 3 c 32 32)
      ∗ (tR c {c} (RET m c) ∗ rR c {c} (RES m c) ∗ G21 m c fo))
    ⊢ iprop(recs m K ∗ (owesE c 0 ∗ stWait m 3 c 0 0) ∗ (tR c {c} (RET m c) ∗ stP cc0_stg4_0 c fo ∗ G26 m c)) := by
  unfold G21 G26
  rw [OX_end, zero_add]
  iintro ⟨HR, ⟨HO, HS⟩, Ht, Hr, HW, Hv, HC0, HC3, HA3, HA0, HA2, H4, HF⟩
  isplitl [HR]; · iexact HR
  isplitl [HO HC3 HA3]
  · isplitl [HO]; · iexact HO
    iapply (wait_start m 3 c)
    isplitl [HC3] <;> iassumption
  isplitl [Ht]; · iexact Ht
  isplitl [H4]; · iexact H4
  isplitl [Hr]; · iexact Hr
  isplitl [HW]; · iexact HW
  isplitl [Hv]; · iexact Hv
  isplitl [HC0]; · iexact HC0
  isplitl [HS]; · iapply (send_end m 2 3 c) $$ HS
  isplitl [HA0]; · iexact HA0
  isplitl [HA2] <;> iassumption

/-- The result is written; the sends are left to wait for. -/
theorem mid26 : iprop(recs m K ∗ (owesE c 0 ∗ stWait m 3 c 0 32)
      ∗ (stP cc0_stg4_0 c (OUT m c) ∗ tR c {c} (RET m c) ∗ G26 m c))
    ⊢ iprop(recs m K ∗ (owesE c 0 ∗ stWait m 0 c 0 0 ∗ stWait m 2 c 0 0) ∗ G34 m c) := by
  unfold G26 G34
  iintro ⟨HR, ⟨HO, HB⟩, H4, Ht, Hr, HW, Hv, HC0, HC2, HA0, HA2, HF⟩
  isplitl [HR]; · iexact HR
  isplitl [HO HC0 HA0 HC2 HA2]
  · isplitl [HO]; · iexact HO
    isplitl [HC0 HA0]
    · iapply (wait_start m 0 c)
      isplitl [HC0] <;> iassumption
    iapply (wait_start m 2 c)
    isplitl [HC2] <;> iassumption
  isplitl [H4]; · iexact H4
  isplitl [HB]; · iexact HB
  isplitl [Ht]; · iexact Ht
  isplitl [Hr]; · iexact Hr
  isplitl [HW]; · iexact HW
  isplitl [Hv] <;> iassumption

/-! ## The end -/

/-- One update at every index. -/
theorem each {ι : Type} [DecidableEq ι] (S : Finset ι) {R : sProp 𝕄} [BI.Persistent R] {Φ Ψ : ι → sProp 𝕄}
    (h : ∀ i ∈ S, iprop(R ∗ Φ i) ⊢ iprop(|={Set.univ}=> Ψ i)) : iprop(R ∗ bigSep S Φ) ⊢ iprop(|={Set.univ}=> bigSep S Ψ) := by
  induction S using Finset.induction_on with
  | empty =>
    rw [bigSep_empty, bigSep_empty]
    iintro ⟨-, H⟩; imodintro; iexact H
  | insert i S hi ih =>
    rw [show bigSep (insert i S) Φ = iprop(Φ i ∗ bigSep S Φ) from bigSep_insert hi,
      show bigSep (insert i S) Ψ = iprop(Ψ i ∗ bigSep S Ψ) from bigSep_insert hi]
    have h1 := h i (Finset.mem_insert_self _ _)
    have h2 := ih fun j hj => h j (Finset.mem_insert_of_mem hj)
    iintro ⟨#HR, Hi, HS⟩
    imod h1 $$ [Hi] with Hi
    · isplitr; · iexact HR
      iexact Hi
    imod h2 $$ [HS] with HS
    · isplitr; · iexact HR
      iexact HS
    imodintro
    isplitl [Hi] <;> iassumption

theorem close_cell (q : Dev nD × Option (Fin 4 × Dev nD)) {R : ℕ} (hR : ∀ r, R ≤ r → (Rd m).duties (kc q) r = ∅) :
    iprop(recs m K ∗ atPos ER (kc q) R ∅ 0) ⊢ iprop(|={Set.univ}=> semVal (kc q) 0) := by
  iintro ⟨#HR, Hat⟩
  ihave ⟨#HI, -⟩ := (recs_at m K q) $$ HR
  imod (Rounds.cell_close ER (Rd m) (Set.mem_univ (K q)) (fun h => h) hR) $$ [Hat] with HS
  · isplitr; · iexact HI
    iexact Hat
  imodintro; iexact HS

/-- The cells of one array close. -/
theorem close_array (κ : Fin 4) :
    iprop(recs m K ∗ (atPos ER (cell (κ, c) c) 0 ∅ 0 ∗ bigSep (rng c 0 32) fun j => atPos ER (cell (κ, j) c) 1 ∅ 0))
      ⊢ iprop(|={Set.univ}=> bigSep Finset.univ fun j => semVal (cell (κ, j) c) 0) := by
  rw [all_rows c]
  have h1 := close_cell m K (c, some (κ, c)) (R := 0) fun r _ => duties_own m κ c r
  have h2 := each (R := recs m K) (rng c 0 32) (Φ := fun j => atPos ER (cell (κ, j) c) 1 ∅ 0) (Ψ := fun j => semVal (cell (κ, j) c) 0)
    fun j _ => close_cell m K (c, some (κ, j)) (R := 1) (duties_later m _)
  iintro ⟨#HR, Ho, HS⟩
  imod h1 $$ [Ho] with Ho
  · isplitr; · iexact HR
    iexact Ho
  imod h2 $$ [HS] with HS
  · isplitr; · iexact HR
    iexact HS
  imodintro
  isplitl [Ho]; · iexact Ho
  iexact HS

/-- All cells of the device close. -/
theorem close_all :
    iprop(recs m K ∗ (OWN c ∗ bigSep Finset.univ fun κ : Fin 4 => bigSep (rng c 0 32) fun j => atPos ER (cell (κ, j) c) 1 ∅ 0))
      ⊢ iprop(|={Set.univ}=> bigSep Finset.univ fun p : Fin 4 × Dev nD => semVal (cell p c) 0) := by
  rw [show (bigSep Finset.univ fun p : Fin 4 × Dev nD => semVal (cell p c) 0 : sProp 𝕄)
    = bigSep Finset.univ fun κ : Fin 4 => bigSep Finset.univ fun j => semVal (cell (κ, j) c) 0 from bigSep_univ_prod _]
  unfold OWN
  rw [← show bigSep Finset.univ (fun κ : Fin 4 => iprop(atPos ER (cell (κ, c) c) 0 ∅ 0 ∗ bigSep (rng c 0 32) fun j => atPos ER (cell (κ, j) c) 1 ∅ 0))
    = iprop((bigSep Finset.univ fun κ : Fin 4 => atPos ER (cell (κ, c) c) 0 ∅ 0) ∗ bigSep Finset.univ fun κ : Fin 4 => bigSep (rng c 0 32) fun j => (atPos ER (cell (κ, j) c) 1 ∅ 0 : sProp 𝕄)) from bigSep_sep _ _ _]
  exact each Finset.univ fun κ _ => close_array m K c κ

/-- The four exchange buffers, with any contents. -/
def bufs : sProp 𝕄 :=
  iprop((∃ f : B1 F, sR c Finset.univ f) ∗ (∃ f : B1 F, vR c Finset.univ f) ∗ (∃ f : B2 F, rR c Finset.univ f) ∗ ∃ f : B2 F, tR c Finset.univ f)

/-- What the body leaves. -/
def bodyEnd : sProp 𝕄 :=
  iprop(owesE c 0 ∗ bufs (F := F) c ∗ (bigSep Finset.univ fun p : Fin 4 × Dev nD => semVal (cell p c) 0) ∗ semVal (barCell c) 0
    ∗ stP cc0_stg0_0 c (inX m c) ∗ stP cc0_stg1_0 c (inR m c) ∗ stP cc0_stg2_0 c (inI m c) ∗ stP cc0_stg3_0 c (inW m c) ∗ stP cc0_stg4_0 c (OUT m c))

theorem four {Φ : Fin 4 → sProp 𝕄} : bigSep Finset.univ Φ = iprop(Φ 0 ∗ Φ 1 ∗ Φ 2 ∗ Φ 3) :=
  bigSep_univ_eq_bigSepL [0, 1, 2, 3] (by decide) (by decide) Φ

theorem body_ends : iprop(recs m K ∗ (owesE c 0 ∗ stWait m 0 c 0 32 ∗ stWait m 2 c 0 32) ∗ G34 m c) ⊢ iprop(|={Set.univ}=> bodyEnd m c) := by
  have hs : iprop(sR c {c} (SEND m c) ∗ bigSep (rng c 0 32) fun j => xPay m 0 c j) ⊢ sR c Finset.univ (SEND m c) := by
    rw [sR_split c Finset.univ, all_rows c]; exact Entails.refl _
  have hv : iprop(vR c {c} (RECV m c) ∗ bigSep (rng c 0 32) fun j => xPay m 1 c j) ⊢ vR c Finset.univ (RECV m c) := by
    rw [vR_split c Finset.univ, all_rows c]; exact Entails.refl _
  have hr : iprop(rR c {c} (RES m c) ∗ bigSep (rng c 0 32) fun j => xPay m 2 c j) ⊢ rR c Finset.univ (RES m c) := by
    rw [rR_split c Finset.univ, all_rows c]; exact Entails.refl _
  have ht : iprop(tR c {c} (RET m c) ∗ bigSep (rng c 0 32) fun j => xPay m 3 c j) ⊢ tR c Finset.univ (RET m c) := by
    rw [tR_split c Finset.univ, all_rows c]; exact Entails.refl _
  have hb := close_cell m K (c, none) (R := 1) (duties_later m _)
  have ha := close_all m K c
  rw [four (Φ := fun κ : Fin 4 => bigSep (rng c 0 32) fun j => atPos ER (cell (κ, j) c) 1 ∅ 0)] at ha
  unfold G34 GZ bodyEnd bufs
  iintro ⟨#HR, ⟨HO, HW0, HW2⟩, H4, HW3, Ht, Hr, HW1, Hv, Hs, H3, Hb, HOWN, H2, H1, H0⟩
  ihave ⟨Hss, HP0⟩ := (wait_end m 0 c) $$ HW0
  ihave ⟨Hvs, HP1⟩ := (wait_end m 1 c) $$ HW1
  ihave ⟨Hrs, HP2⟩ := (wait_end m 2 c) $$ HW2
  ihave ⟨Hts, HP3⟩ := (wait_end m 3 c) $$ HW3
  imod hb $$ [Hb] with Hb
  · isplitr; · iexact HR
    iexact Hb
  imod ha $$ [HOWN HP0 HP1 HP2 HP3] with HA
  · isplitr; · iexact HR
    isplitl [HOWN]; · iexact HOWN
    isplitl [HP0]; · iexact HP0
    isplitl [HP1]; · iexact HP1
    isplitl [HP2] <;> iassumption
  imodintro
  isplitl [HO]; · iexact HO
  isplitl [Hs Hss Hv Hvs Hr Hrs Ht Hts]
  · isplitl [Hs Hss]
    · iexists (SEND m c); iapply hs; isplitl [Hs] <;> iassumption
    isplitl [Hv Hvs]
    · iexists (RECV m c); iapply hv; isplitl [Hv] <;> iassumption
    isplitl [Hr Hrs]
    · iexists (RES m c); iapply hr; isplitl [Hr] <;> iassumption
    iexists (RET m c); iapply ht; isplitl [Ht] <;> iassumption
  isplitl [HA]; · iexact HA
  isplitl [Hb]; · iexact Hb
  isplitl [H0]; · iexact H0
  isplitl [H1]; · iexact H1
  isplitl [H2]; · iexact H2
  isplitl [H3]; · iexact H3
  iexact H4

/-- An update after the run. -/
theorem run_fin {α : Type} {v : α} {Q : α → sProp 𝕄} {P : sProp 𝕄} (h : P ⊢ iprop(|={Set.univ}=> Q v)) : P ⊢ run c (pure v) Q := by
  refine BIBase.Entails.trans h ?_
  show _ ⊢ wp _ _ _ (.ret v) Q
  rw [wp_ret]

end Start

end Cert.MoeProof
-- ==== Proof.Setup.lean ====
/-
# The launch's data, and how the body's start is put together

What each window holds before and after the one point, what a device has at its start and at its end, and the step from
that to what the body's run starts from.
-/
module

public import proofs.«01_k».proof.Proof.Dealing
public import proofs.«01_k».proof.Proof.Phases

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

section Setup
variable (m : (ℓ : Loc nD τ sig) → Buf (Elt F) ℓ) (ρ : Dev nD → PrngReg)

/-- The state at launch. -/
def s₀ : MemSt nD τ sig (Elt F) := ⟨m, fun _ => 0, ρ⟩

/-- What the exchange gives device `c` at launch. -/
def start (c : Dev nD) : sProp 𝕄 :=
  iprop((∃ K, recs m K) ∗ linear c ∗ cred (tallyAt (barCell c) () 31) ∗ CR 1 c ∗ CR 3 c)

def Φ₀ (c : Dev nD) : sProp 𝕄 := iprop(start m c ∗ bufs (F := F) c)
def Φ₁ (c : Dev nD) : sProp 𝕄 :=
  iprop(bufs (F := F) c ∗ (bigSep Finset.univ fun p : Fin 4 × Dev nD => semVal (cell p c) 0) ∗ semVal (barCell c) 0)

/-- The windows' and the region's data on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inR m c
    | ⟨2, _⟩ => inI m c
    | ⟨3, _⟩ => inW m c
    | ⟨4, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem ownSemFacts : Pipeline.OwnSemFacts cfg0.spec osem := by decide +kernel

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's start -/

theorem some_rows {Φ : Dev nD → sProp 𝕄} (c : Dev nD) : bigSep Finset.univ Φ ⊢ bigSep (rng c 0 32) Φ := bigSep_subset (Finset.subset_univ _)

theorem places (c : Dev nD) : (bigSep Finset.univ fun k => (atPos ER (kc (c, k)) 0 ∅ 0 : sProp 𝕄))
    ⊢ iprop(atPos ER (barCell c) 0 ∅ 0 ∗ OWN c ∗ AT 0 c ∗ AT 1 c ∗ AT 2 c ∗ AT 3 c) := by
  have e : (bigSep Finset.univ fun p : Fin 4 × Dev nD => (atPos ER (kc (c, some p)) 0 ∅ 0 : sProp 𝕄))
      = iprop(OWN c ∗ bigSep Finset.univ fun κ => AT κ c) := by
    rw [bigSep_univ_prod, bigSep_congr (s := Finset.univ) (fun (κ : Fin 4) _ => all_rows c), bigSep_sep']; rfl
  rw [over_cells, e, four (Φ := fun κ => AT (F := F) κ c)]
  exact Entails.refl _

theorem bigSep_on_image {T : Finset ℕ} {f : ℕ → Dev nD} {Φ : Dev nD → sProp 𝕄} (h : Set.InjOn f T) :
    bigSep (T.image f) Φ = bigSep T fun o => Φ (f o) := by
  induction T using Finset.induction_on with
  | empty => rw [Finset.image_empty, show bigSep ∅ Φ = iprop(emp) from bigSep_empty]; exact (show bigSep ∅ _ = iprop(emp) from bigSep_empty).symm
  | insert i s hi ih =>
    rw [Finset.image_insert, show bigSep (insert (f i) (s.image f)) Φ = iprop(Φ (f i) ∗ bigSep (s.image f) Φ) from bigSep_insert (by
      intro hm; obtain ⟨j, hj, e⟩ := Finset.mem_image.1 hm
      have := h (Finset.mem_coe.2 (Finset.mem_insert_of_mem hj)) (Finset.mem_coe.2 (Finset.mem_insert_self _ _)) e
      exact hi (this ▸ hj)), ih (fun a ha b hb => h (Finset.mem_coe.2 (Finset.mem_insert_of_mem (Finset.mem_coe.1 ha))) (Finset.mem_coe.2 (Finset.mem_insert_of_mem (Finset.mem_coe.1 hb))))]
    exact (show bigSep (insert i s) (fun o => Φ (f o)) = iprop(Φ (f i) ∗ bigSep s fun o => Φ (f o)) from bigSep_insert hi).symm

theorem to_signals {Φ : Dev nD → sProp 𝕄} (c : Dev nD) : bigSep (rng c 0 32) Φ = bigSep (Finset.Ico 1 32) fun o => Φ (pe c o) := by
  rw [← others c]
  refine bigSep_on_image fun o ho o' ho' e => ?_
  simp only [Finset.coe_Ico, Set.mem_Ico] at ho ho'
  exact pe_inj c ho.2 ho'.2 e

/-- The signals' duties, each with the two rows that go along. -/
theorem signal_rows (c : Dev nD) (fv : B1 F) (ft : B2 F) :
    iprop((bigSep (rng c 0 32) fun p => dutyTok ER (barCell p) 0 c) ∗ (bigSep (rng c 0 32) fun p => vR c {p} fv) ∗ bigSep (rng c 0 32) fun p => tR c {p} ft)
      ⊢ bigSep (Finset.Ico 1 32) fun o => iprop(dutyTok ER (barCell (pe c o)) 0 c ∗ barPay (F := F) (pe c o) c) := by
  rw [← to_signals (Φ := fun p => iprop(dutyTok ER (barCell p) 0 c ∗ barPay (F := F) p c)) c, ← both, ← both]
  refine bigSep_mono fun p _ => ?_
  show iprop(dutyTok ER (barCell p) 0 c ∗ vR c {p} fv ∗ tR c {p} ft) ⊢ iprop(dutyTok ER (barCell p) 0 c ∗ (∃ f, vR (F := F) c {p} f) ∗ ∃ f, tR (F := F) c {p} f)
  iintro ⟨H1, H2, H3⟩
  isplitl [H1]; · iexact H1
  isplitl [H2]; · iexists fv; iexact H2
  iexists ft; iexact H3

/-- From what device `c` has to what its body's run starts from. -/
theorem body_starts (c : Dev nD) :
    iprop(Φ₀ m c ∗ owesE c (O₀ c) ∗ stP cc0_stg0_0 c (inX m c) ∗ stP cc0_stg1_0 c (inR m c) ∗ stP cc0_stg2_0 c (inI m c) ∗ stP cc0_stg3_0 c (inW m c)
        ∗ ∃ fo : FVec F S512x512 .f32, stP cc0_stg4_0 c fo)
      ⊢ iprop(∃ K fs fv fr ft fo, recs m K ∗ stSig c 1 (OX 1 c 0 + OX 3 c 0) ∗ ((cred (tallyAt (barCell c) () 31) ∗ atPos ER (barCell c) 0 ∅ 0)
        ∗ (stP cc0_stg0_0 c (inX m c) ∗ stP cc0_stg1_0 c (inR m c) ∗ stP cc0_stg2_0 c (inI m c) ∗ G0 m c fs fv fr ft fo))) := by
  unfold Φ₀ start bufs linear payToks
  iintro ⟨⟨⟨⟨%K, HR⟩, ⟨Hat, HtB, Ht0, Ht1, Ht2, Ht3⟩, HcB, Hc1, Hc3⟩, ⟨%fs, Hs⟩, ⟨%fv, Hv⟩, ⟨%fr, Hr⟩, %ft, Ht⟩, HO, HX, HRo, HI, HW, %fo, Hfo⟩
  iexists K; iexists fs; iexists fv; iexists fr; iexists ft; iexists fo
  ihave ⟨HaB, Hown, Ha0, Ha1, Ha2, Ha3⟩ := (places c) $$ Hat
  ihave HtB := (some_rows c) $$ HtB
  ihave Ht0 := (some_rows c) $$ Ht0
  ihave Ht1 := (some_rows c) $$ Ht1
  ihave Ht2 := (some_rows c) $$ Ht2
  ihave Ht3 := (some_rows c) $$ Ht3
  ihave ⟨Hvo, Hv⟩ := (Entails.of_eq ((vR_split c Finset.univ fv).trans (all_rows c))) $$ Hv
  ihave ⟨Hto, Ht⟩ := (Entails.of_eq ((tR_split c Finset.univ ft).trans (all_rows c))) $$ Ht
  isplitl [HR]; · iexact HR
  isplitl [HO HtB Hv Ht]
  · unfold stSig
    isplitl [HO]; · iexact HO
    iapply (signal_rows c fv ft)
    isplitl [HtB]; · iexact HtB
    isplitl [Hv] <;> iassumption
  isplitl [HcB HaB]
  · isplitl [HcB] <;> iassumption
  isplitl [HX]; · iexact HX
  isplitl [HRo]; · iexact HRo
  isplitl [HI]; · iexact HI
  unfold G0 TOK
  rw [both, both]
  isplitl [HW]; · iexact HW
  isplitl [Hfo]; · iexact Hfo
  isplitl [Hs]; · iexact Hs
  isplitl [Hr]; · iexact Hr
  isplitl [Hvo]; · iexact Hvo
  isplitl [Hto]; · iexact Hto
  isplitl [Ht0 Ht1]
  · isplitl [Ht0] <;> iassumption
  isplitl [Ht2 Ht3]
  · isplitl [Ht2] <;> iassumption
  isplitl [Hc1]; · iexact Hc1
  isplitl [Ha1]; · iexact Ha1
  isplitl [Hc3]; · iexact Hc3
  isplitl [Ha3]; · iexact Ha3
  isplitl [Ha0]; · iexact Ha0
  isplitl [Ha2]; · iexact Ha2
  iexact Hown

/-! ## Before and after the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' CR
  iintro ⟨-, Hlev, Hcr, -, %K, HR, HL⟩
  ihave Hc := (creds (F := F) c) $$ Hcr
  icases Hc with ⟨H1, H2, H3⟩
  imodintro
  isplitl
  · isplitl [HR Hlev]
    · iexists K; unfold recs
      isplitl [HR]; · unfold records; iexact HR
      iexact Hlev
    isplitl [HL]; · iexact HL
    isplitl [H1]; · iexact H1
    isplitl [H2] <;> iassumption
  · iempintro

theorem bufs_eq (c : Dev nD) : (bufs c : sProp 𝕄) = Pipeline.scopedRest cfg0.spec c := by
  refine Eq.trans ?_ (scopedRest0_eq c).symm
  unfold bufs sR vR rR tR
  simp only [rowsD_univ]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [bufs_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ Pipeline.ownSems0
  rw [bufs_eq]
  iintro ⟨Hr, Hc, HzB⟩
  isplitl [HzB]; · iexact HzB
  isplitl [Hc]; · iexact Hc
  iexact Hr

theorem lv_stage {c : Dev nD} {sm : SemLoc sig} (h : slotOf sm = none) (hb : sm ≠ .reg barS) : lv ((c : Thread nD τ), sm) () ≤ 0 := by
  unfold lv; dsimp only; rw [if_neg hb, h]

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (lv_stage (by fin_cases w <;> fin_cases s <;> decide +kernel) (by fin_cases w <;> fin_cases s <;> exact nofun)) (by
      rcases t with ⟨_ | _, ht⟩
      · exact (above_OB (b := 0) (by decide) c 1).add ((above_OX (b := 0) (κ := 1) (by decide) c 0).add (above_OX (b := 0) (κ := 3) (by decide) c 0))
      · exact above_zero 0)

end Setup

end Cert.MoeProof
-- ==== Proof.PartsA.lean ====
/-
# The parts of the body: up to the sends of the dispatched rows
-/
module

public import proofs.«01_k».proof.Proof.Access

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

theorem dev_step {c : Dev nD} {α : Type} {rest : Dev nD → Prog (TpuEff nD τ sig (Elt F) Λ₀ .tc) α} {Q : α → sProp 𝕄} {P : sProp 𝕄}
    (h : P ⊢ run c (rest c) Q) : P ⊢ run c (Prog.lift .deviceId >>= rest) Q := by
  unfold run
  simp only [Prog.lift, Prog.bind_op, Prog.bind_ret]
  rw [wp_deviceId]
  exact h

set_option maxRecDepth 65536

section Parts
variable (m : (ℓ : Loc nD τ sig) → Buf (Elt F) ℓ) (K : Dev nD × Option (Fin 4 × Dev nD) → ℕ)

/-- The signals to the five devices after `c`. -/
theorem part1_run {c : Dev nD} {O : CellTallies nD τ sig Unit} {Fr : sProp 𝕄} {Q}
    (h : ∀ a b, iprop(recs m K ∗ stSig c 6 O ∗ Fr) ⊢ Q ⟨c, me c, (SemArray.scalar (sig.barrier 0 rfl)), a, b⟩) :
    iprop(recs m K ∗ stSig c 1 O ∗ Fr) ⊢ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  rw [k0_part1_eq_skeleton]; unfold k0_part1_skel
  refine dev_step ?_
  iterate 5
    (refine signal_step m K (by decide) (by decide) ?_ ?_; · exact Fin.ext (by clear h; revert c; decide +kernel))
  exact run_ret (h _ _)

/-- The signals to the devices from the 6th after `c` on. -/
theorem part2_run {c : Dev nD} {O : CellTallies nD τ sig Unit} {a b} {Fr : sProp 𝕄} {Q}
    (h : ∀ v, iprop(recs m K ∗ stSig c 12 O ∗ Fr) ⊢ Q v) :
    iprop(recs m K ∗ stSig c 6 O ∗ Fr) ⊢ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl)) a b) Q := by
  rw [k0_part2_eq_skeleton]; unfold k0_part2_skel
  iterate 6
    (refine signal_step m K (by decide) (by decide) ?_ ?_; · exact Fin.ext (by clear h; revert c; decide +kernel))
  exact run_ret (h _)

/-- The signals to the devices from the 12th after `c` on. -/
theorem part3_run {c : Dev nD} {O : CellTallies nD τ sig Unit} {a b} {Fr : sProp 𝕄} {Q}
    (h : ∀ v, iprop(recs m K ∗ stSig c 18 O ∗ Fr) ⊢ Q v) :
    iprop(recs m K ∗ stSig c 12 O ∗ Fr) ⊢ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl)) a b) Q := by
  rw [k0_part3_eq_skeleton]; unfold k0_part3_skel
  iterate 6
    (refine signal_step m K (by decide) (by decide) ?_ ?_; · exact Fin.ext (by clear h; revert c; decide +kernel))
  exact run_ret (h _)

/-- The signals to the devices from the 18th after `c` on. -/
theorem part4_run {c : Dev nD} {O : CellTallies nD τ sig Unit} {a b} {Fr : sProp 𝕄} {Q}
    (h : ∀ v, iprop(recs m K ∗ stSig c 24 O ∗ Fr) ⊢ Q v) :
    iprop(recs m K ∗ stSig c 18 O ∗ Fr) ⊢ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl)) a b) Q := by
  rw [k0_part4_eq_skeleton]; unfold k0_part4_skel
  iterate 6
    (refine signal_step m K (by decide) (by decide) ?_ ?_; · exact Fin.ext (by clear h; revert c; decide +kernel))
  exact run_ret (h _)

/-- The signals to the devices from the 24th after `c` on. -/
theorem part5_run {c : Dev nD} {O : CellTallies nD τ sig Unit} {a b} {Fr : sProp 𝕄} {Q}
    (h : ∀ v, iprop(recs m K ∗ stSig c 30 O ∗ Fr) ⊢ Q v) :
    iprop(recs m K ∗ stSig c 24 O ∗ Fr) ⊢ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl)) a b) Q := by
  rw [k0_part5_eq_skeleton]; unfold k0_part5_skel
  iterate 6
    (refine signal_step m K (by decide) (by decide) ?_ ?_; · exact Fin.ext (by clear h; revert c; decide +kernel))
  exact run_ret (h _)

/-- The last two signals, the wait at the barrier, and the loads of tokens, router and choices. -/
theorem part6_run {c : Dev nD} {O : CellTallies nD τ sig Unit} (hO : Above 1 O) {a b} {Fr : sProp 𝕄} {Q}
    (h : iprop(recs m K ∗ ((owesE c O ∗ bigSep (rng c 0 32) fun q => iprop(there (F := F) 1 c q ∗ there (F := F) 3 c q)) ∗ atPos ER (barCell c) 1 ∅ 0)
      ∗ (stP cc0_stg2_0 c (inI m c) ∗ stP cc0_stg1_0 c (inR m c) ∗ stP cc0_stg0_0 c (inX m c) ∗ Fr)) ⊢ Q ⟨k0_pay2 (inX m c), k0_pay3 (inX m c) (inR m c), k0_pay4 (ch0 m c), k0_pay5 (ch1 m c), k0_pay6 (ch1 m c),
      k0_pay7 (inX m c) (inR m c) (ch0 m c)⟩) :
    iprop(recs m K ∗ stSig c 30 O ∗ ((cred (tallyAt (barCell c) () 31) ∗ atPos ER (barCell c) 0 ∅ 0) ∗ (stP cc0_stg0_0 c (inX m c) ∗ stP cc0_stg1_0 c (inR m c) ∗ stP cc0_stg2_0 c (inI m c) ∗ Fr))) ⊢ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (SemArray.scalar (sig.barrier 0 rfl)) a b) Q := by
  rw [k0_part6_eq_skeleton]; unfold k0_part6_skel
  iterate 2
    (refine signal_step m K (by decide) (by decide) ?_ ?_; · exact Fin.ext (by clear h; revert c; decide +kernel))
  refine barWait_step m K hO ?_
  refine load_x m K ?_
  refine swap ?_
  refine load_r m K ?_
  refine rot ?_
  refine load_i0 m K ?_
  refine load_i1 m K ?_
  exact run_ret h

/-- The two selection matrices. -/
theorem part7_run {c : Dev nD} {v142 v144 v146 v151 v155} {P : sProp 𝕄} {Q}
    (h : P ⊢ Q ⟨k0_pay10 (F := F) v144 v146, k0_pay11 (F := F) v144 v146, k0_pay12 v142 v144 v146 v151 v155, Scalar.ofBits .f32 0x00000000#32⟩) :
    P ⊢ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v142 v144 v146 v151 v155) Q := by
  rw [k0_part7_eq_skeleton]; unfold k0_part7_skel
  exact run_ret h

/-- The dispatch: the rows for every device, and the first six sends. -/
theorem part8_run {c : Dev nD} {v130 v203 v207 v210 cst} (hv : k0_pay14 v130 v207 = SEND m c) {fs : B1 F} {X Fr0 : sProp 𝕄} {Fr : sProp 𝕄} {Q}
    (hmid : iprop(recs m K ∗ X ∗ (sR c Finset.univ (SEND m c) ∗ Fr0)) ⊢ iprop(recs m K ∗ (owesE c (OX 1 c 0 + OX 3 c 0) ∗ stSend m 0 1 c 0 32) ∗ Fr))
    (h : ∀ b, iprop(recs m K ∗ (owesE c (OX 1 c 6 + OX 3 c 0) ∗ stSend m 0 1 c 6 32) ∗ Fr) ⊢ Q ⟨k0_pay13 v203 v210 cst, b⟩) :
    iprop(recs m K ∗ X ∗ (sR c Finset.univ fs ∗ Fr0)) ⊢ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) v130 v203 v207 v210 cst) Q := by
  rw [k0_part8_eq_skeleton]; unfold k0_part8_skel
  refine load_s m K (fun _ => ?_)
  refine store_s m K ?_
  rw [hv]
  refine BIBase.Entails.trans hmid ?_
  clear hmid hv
  iterate 6
    (refine send_step1 m K (by decide) (by decide) ?_ ?_ ?_ ?_ ?_
     · clear h; revert c; decide +kernel
     · clear h; revert c; decide +kernel
     · clear h; revert c; decide +kernel
     · clear h; revert c; decide +kernel)
  exact run_ret (h _)

/-- The sends to the devices from 6 on. -/
theorem part9_run {c : Dev nD} {a} {Fr : sProp 𝕄} {Q}
    (h : iprop(recs m K ∗ (owesE c (OX 1 c 14 + OX 3 c 0) ∗ stSend m 0 1 c 14 32) ∗ Fr) ⊢ Q ⟨⟩) :
    iprop(recs m K ∗ (owesE c (OX 1 c 6 + OX 3 c 0) ∗ stSend m 0 1 c 6 32) ∗ Fr) ⊢ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) a) Q := by
  rw [k0_part9_eq_skeleton]; unfold k0_part9_skel
  iterate 8
    (refine send_step1 m K (by decide) (by decide) ?_ ?_ ?_ ?_ ?_
     · clear h; revert c; decide +kernel
     · clear h; revert c; decide +kernel
     · clear h; revert c; decide +kernel
     · clear h; revert c; decide +kernel)
  exact run_ret h

/-- The sends to the devices from 14 on. -/
theorem part10_run {c : Dev nD}  {Fr : sProp 𝕄} {Q}
    (h : ∀ v, iprop(recs m K ∗ (owesE c (OX 1 c 23 + OX 3 c 0) ∗ stSend m 0 1 c 23 32) ∗ Fr) ⊢ Q v) :
    iprop(recs m K ∗ (owesE c (OX 1 c 14 + OX 3 c 0) ∗ stSend m 0 1 c 14 32) ∗ Fr) ⊢ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Q := by
  rw [k0_part10_eq_skeleton]; unfold k0_part10_skel
  iterate 9
    (refine send_step1 m K (by decide) (by decide) ?_ ?_ ?_ ?_ ?_
     · clear h; revert c; decide +kernel
     · clear h; revert c; decide +kernel
     · clear h; revert c; decide +kernel
     · clear h; revert c; decide +kernel)
  exact run_ret (h _)

/-- The sends to the devices from 23 on. -/
theorem part11_run {c : Dev nD} {a} {Fr : sProp 𝕄} {Q}
    (h : iprop(recs m K ∗ (owesE c (OX 1 c 32 + OX 3 c 0) ∗ stSend m 0 1 c 32 32) ∗ Fr) ⊢ Q ⟨⟩) :
    iprop(recs m K ∗ (owesE c (OX 1 c 23 + OX 3 c 0) ∗ stSend m 0 1 c 23 32) ∗ Fr) ⊢ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) a) Q := by
  rw [k0_part11_eq_skeleton]; unfold k0_part11_skel
  iterate 9
    (refine send_step1 m K (by decide) (by decide) ?_ ?_ ?_ ?_ ?_
     · clear h; revert c; decide +kernel
     · clear h; revert c; decide +kernel
     · clear h; revert c; decide +kernel
     · clear h; revert c; decide +kernel)
  exact run_ret h

end Parts

end Cert.MoeProof
-- ==== Proof.PartsB.lean ====
/-
# The parts of the body: the rows in, the products, and their sends
-/
module

public import proofs.«01_k».proof.Proof.Access

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

theorem off65 (c : Dev nD) : k0_off65 c = ![c.val, 0, 0, 0] := by revert c; decide
theorem off130 (c : Dev nD) : k0_off130 c = ![c.val, 0, 0, 0] := by revert c; decide

section Parts
variable (m : (ℓ : Loc nD τ sig) → Buf (Elt F) ℓ) (K : Dev nD × Option (Fin 4 × Dev nD) → ℕ)

/-- The own row, the weights, and the first five waits for rows. -/
theorem part12_run {c : Dev nD} {fv : B1 F} {X Fr0 : sProp 𝕄} {Fr : sProp 𝕄} {Q}
    (hmid : iprop(recs m K ∗ X ∗ (stP cc0_stg3_0 c (inW m c) ∗ vR c {c} (RECV m c) ∗ sR c {c} (SEND m c) ∗ Fr0)) ⊢ iprop(recs m K ∗ (owesE c (OX 3 c 0 + 0) ∗ stWait m 1 c 0 0) ∗ Fr))
    (h : iprop(recs m K ∗ (owesE c (OX 3 c 0 + 0) ∗ stWait m 1 c 0 5) ∗ Fr) ⊢ Q ⟨k0_pay16 (inW m c), 5#32⟩) :
    iprop(recs m K ∗ X ∗ (sR c {c} (SEND m c) ∗ vR c {c} fv ∗ stP cc0_stg3_0 c (inW m c) ∗ Fr0)) ⊢ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c)) Q := by
  rw [k0_part12_eq_skeleton]; unfold k0_part12_skel
  refine load_row_s m K (off65 c) ?_
  refine swap ?_
  refine load_row_v m K (off65 c) (fun _ => ?_)
  refine store_row_v m K (off65 c) ?_
  refine rot ?_
  refine load_w m K ?_
  refine BIBase.Entails.trans hmid ?_
  clear hmid
  iterate 5
    (refine wait_in m K (by decide) ((above_OX (by decide) _ _).add (above_zero _)) (cond_ne c (by decide)) ?_)
  exact run_ret h

/-- The waits for rows 5 to 11. -/
theorem part13_run {c : Dev nD}  {Fr : sProp 𝕄} {Q}
    (h : iprop(recs m K ∗ (owesE c (OX 3 c 0 + 0) ∗ stWait m 1 c 0 12) ∗ Fr) ⊢ Q (Scalar.extui (Scalar.cmpi .ne (me c) 12#32))) :
    iprop(recs m K ∗ (owesE c (OX 3 c 0 + 0) ∗ stWait m 1 c 0 5) ∗ Fr) ⊢ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) 5#32) Q := by
  rw [k0_part13_eq_skeleton]; unfold k0_part13_skel
  iterate 7
    (refine wait_in m K (by decide) ((above_OX (by decide) _ _).add (above_zero _)) (cond_ne c (by decide)) ?_)
  exact run_ret h

/-- The waits for rows 12 to 15, and the products of the first sixteen rows. -/
theorem part14_run {c : Dev nD} {fr : B2 F} {w : FVec F S2x256x512 .bf16} {Fr : sProp 𝕄} {Q}
    (h : iprop(recs m K ∗ (owesE c (OX 3 c 0 + 0) ∗ stWait m 1 c 0 16) ∗ (rR c (seg 0 16) fr ∗ vR c {c} (RECV m c) ∗ Fr)) ⊢ Q (k0_pay17 w (chunk 0 (RECV m c)))) :
    iprop(recs m K ∗ (owesE c (OX 3 c 0 + 0) ∗ stWait m 1 c 0 12) ∗ (vR c {c} (RECV m c) ∗ rR c (seg 0 16) fr ∗ Fr)) ⊢ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) w (Scalar.extui (Scalar.cmpi .ne (me c) 12#32))) Q := by
  rw [k0_part14_eq_skeleton]; unfold k0_part14_skel
  iterate 4
    (refine wait_in m K (by decide) ((above_OX (by decide) _ _).add (above_zero _)) (cond_ne c (by decide)) ?_)
  refine chunk_in m K 0 (by decide) rfl ?_
  refine swap ?_
  refine load_half_r m K 0 rfl (fun _ => ?_)
  exact run_ret h

/-- The first products written and eight of them sent. -/
theorem part15_run {c : Dev nD} {fr : B2 F} {X Fr0 : sProp 𝕄} {Fr : sProp 𝕄} {Q}
    (hmid : iprop(recs m K ∗ X ∗ (rR c (seg 0 16) (RES m c) ∗ Fr0)) ⊢ iprop(recs m K ∗ (owesE c (OX 3 c 0 + 0) ∗ stSend m 2 3 c 0 16) ∗ Fr))
    (h : ∀ v, iprop(recs m K ∗ (owesE c (OX 3 c 8 + 0) ∗ stSend m 2 3 c 8 16) ∗ Fr) ⊢ Q v) :
    iprop(recs m K ∗ X ∗ (rR c (seg 0 16) fr ∗ Fr0)) ⊢ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (PROD m c 0)) Q := by
  rw [k0_part15_eq_skeleton]; unfold k0_part15_skel
  refine store_half_r m K 0 rfl ?_
  refine BIBase.Entails.trans hmid ?_
  clear hmid
  iterate 8
    (refine send_step2 m K (by decide) (by decide) ?_ ?_ ?_ ?_ ?_
     · clear h; revert c; decide +kernel
     · clear h; revert c; decide +kernel
     · clear h; revert c; decide +kernel
     · clear h; revert c; decide +kernel)
  exact run_ret (h _)

/-- The sends back to devices 8 to 15. -/
theorem part16_run {c : Dev nD} {a} {Fr : sProp 𝕄} {Q}
    (h : iprop(recs m K ∗ (owesE c (OX 3 c 16 + 0) ∗ stSend m 2 3 c 16 16) ∗ Fr) ⊢ Q (Scalar.cmpi .ne (Scalar.extui (Scalar.cmpi .ne (me c) 16#32)) 0#32)) :
    iprop(recs m K ∗ (owesE c (OX 3 c 8 + 0) ∗ stSend m 2 3 c 8 16) ∗ Fr) ⊢ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) a) Q := by
  rw [k0_part16_eq_skeleton]; unfold k0_part16_skel
  iterate 8
    (refine send_step2 m K (by decide) (by decide) ?_ ?_ ?_ ?_ ?_
     · clear h; revert c; decide +kernel
     · clear h; revert c; decide +kernel
     · clear h; revert c; decide +kernel
     · clear h; revert c; decide +kernel)
  exact run_ret h

/-- The waits for rows 16 to 23. -/
theorem part17_run {c : Dev nD}  {Fr : sProp 𝕄} {Q}
    (h : iprop(recs m K ∗ (owesE c (OX 3 c 16 + 0) ∗ stWait m 1 c 0 24) ∗ Fr) ⊢ Q (Scalar.extui (Scalar.cmpi .ne (me c) 24#32))) :
    iprop(recs m K ∗ (owesE c (OX 3 c 16 + 0) ∗ stWait m 1 c 0 16) ∗ Fr) ⊢ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.cmpi .ne (Scalar.extui (Scalar.cmpi .ne (me c) 16#32)) 0#32)) Q := by
  rw [k0_part17_eq_skeleton]; unfold k0_part17_skel
  iterate 8
    (refine wait_in m K (by decide) ((above_OX (by decide) _ _).add (above_zero _)) (cond_ne c (by decide)) ?_)
  exact run_ret h

/-- The waits for rows 24 to 30. -/
theorem part18_run {c : Dev nD}  {Fr : sProp 𝕄} {Q}
    (h : iprop(recs m K ∗ (owesE c (OX 3 c 16 + 0) ∗ stWait m 1 c 0 31) ∗ Fr) ⊢ Q (Scalar.cmpi .ne (Scalar.extui (Scalar.cmpi .ne (me c) 31#32)) 0#32)) :
    iprop(recs m K ∗ (owesE c (OX 3 c 16 + 0) ∗ stWait m 1 c 0 24) ∗ Fr) ⊢ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 24#32))) Q := by
  rw [k0_part18_eq_skeleton]; unfold k0_part18_skel
  iterate 7
    (refine wait_in m K (by decide) ((above_OX (by decide) _ _).add (above_zero _)) (cond_ne c (by decide)) ?_)
  exact run_ret h

/-- The last row, the products of the last sixteen rows, and three of them sent. -/
theorem part19_run {c : Dev nD} {fr : B2 F} {Fr0 : sProp 𝕄} {Fr : sProp 𝕄} {Q}
    (hmid : iprop(recs m K ∗ (owesE c (OX 3 c 16 + 0) ∗ stWait m 1 c 0 32) ∗ (rR c (seg 16 32) (RES m c) ∗ vR c {c} (RECV m c) ∗ Fr0)) ⊢ iprop(recs m K ∗ (owesE c (OX 3 c 16 + 0) ∗ stSend m 2 3 c 16 32) ∗ Fr))
    (h : ∀ v, iprop(recs m K ∗ (owesE c (OX 3 c 19 + 0) ∗ stSend m 2 3 c 19 32) ∗ Fr) ⊢ Q v) :
    iprop(recs m K ∗ (owesE c (OX 3 c 16 + 0) ∗ stWait m 1 c 0 31) ∗ (vR c {c} (RECV m c) ∗ rR c (seg 16 32) fr ∗ Fr0)) ⊢ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) (k0_pay16 (inW m c)) (Scalar.cmpi .ne (Scalar.extui (Scalar.cmpi .ne (me c) 31#32)) 0#32)) Q := by
  rw [k0_part19_eq_skeleton]; unfold k0_part19_skel
  refine wait_in m K (by decide) ((above_OX (by decide) _ _).add (above_zero _)) (cond_ne c (by decide)) ?_
  refine chunk_in m K 1 (by decide) rfl ?_
  refine swap ?_
  refine load_half_r m K 1 rfl (fun _ => ?_)
  refine store_half_r m K 1 rfl ?_
  refine BIBase.Entails.trans hmid ?_
  clear hmid
  iterate 3
    (refine send_step2 m K (by decide) (by decide) ?_ ?_ ?_ ?_ ?_
     · clear h; revert c; decide +kernel
     · clear h; revert c; decide +kernel
     · clear h; revert c; decide +kernel
     · clear h; revert c; decide +kernel)
  exact run_ret (h _)

/-- The sends back to devices 19 to 27. -/
theorem part20_run {c : Dev nD} {a} {Fr : sProp 𝕄} {Q}
    (h : iprop(recs m K ∗ (owesE c (OX 3 c 28 + 0) ∗ stSend m 2 3 c 28 32) ∗ Fr) ⊢ Q 28#32) :
    iprop(recs m K ∗ (owesE c (OX 3 c 19 + 0) ∗ stSend m 2 3 c 19 32) ∗ Fr) ⊢ run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) a) Q := by
  rw [k0_part20_eq_skeleton]; unfold k0_part20_skel
  iterate 9
    (refine send_step2 m K (by decide) (by decide) ?_ ?_ ?_ ?_ ?_
     · clear h; revert c; decide +kernel
     · clear h; revert c; decide +kernel
     · clear h; revert c; decide +kernel
     · clear h; revert c; decide +kernel)
  exact run_ret h

/-- The last sends back, the own row, and the first two waits for what comes back. -/
theorem part21_run {c : Dev nD} {ft : B2 F} {a} {X Fr0 Fr1 : sProp 𝕄} {Fr : sProp 𝕄} {Q}
    (hmid0 : iprop(recs m K ∗ (owesE c (OX 3 c 32 + 0) ∗ stSend m 2 3 c 32 32) ∗ Fr1) ⊢ iprop(recs m K ∗ X ∗ (rR c {c} (RES m c) ∗ tR c {c} ft ∗ Fr0)))
    (hmid : iprop(recs m K ∗ X ∗ (tR c {c} (RET m c) ∗ rR c {c} (RES m c) ∗ Fr0)) ⊢ iprop(recs m K ∗ (owesE c 0 ∗ stWait m 3 c 0 0) ∗ Fr))
    (h : iprop(recs m K ∗ (owesE c 0 ∗ stWait m 3 c 0 2) ∗ Fr) ⊢ Q ⟨k0_pay20 (F := F), (Scalar.cmpi .ne (me c) 2#32)⟩) :
    iprop(recs m K ∗ (owesE c (OX 3 c 28 + 0) ∗ stSend m 2 3 c 28 32) ∗ Fr1) ⊢ run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (me c) a) Q := by
  rw [k0_part21_eq_skeleton]; unfold k0_part21_skel
  iterate 4
    (refine send_step2 m K (by decide) (by decide) ?_ ?_ ?_ ?_ ?_
     · clear h hmid hmid0; revert c; decide +kernel
     · clear h hmid hmid0; revert c; decide +kernel
     · clear h hmid hmid0; revert c; decide +kernel
     · clear h hmid hmid0; revert c; decide +kernel)
  refine BIBase.Entails.trans hmid0 ?_
  refine load_row_r m K (off130 c) ?_
  refine swap ?_
  refine load_row_t m K (off130 c) (fun _ => ?_)
  refine store_row_t m K (off130 c) ?_
  refine BIBase.Entails.trans hmid ?_
  clear hmid
  iterate 2
    (refine wait_back m K (by decide) (cond_ne c (by decide)) ?_)
  exact run_ret h

end Parts

end Cert.MoeProof
-- ==== Proof.PartsC.lean ====
/-
# The parts of the body: the rows back, the result, and the waits for the sends
-/
module

public import proofs.«01_k».proof.Proof.Access

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 65536
set_option maxHeartbeats 2000000

section Parts
variable (m : (ℓ : Loc nD τ sig) → Buf (Elt F) ℓ) (K : Dev nD × Option (Fin 4 × Dev nD) → ℕ)

/-- The waits for rows 2 to 8 coming back. -/
theorem part22_run {c : Dev nD}  {Fr : sProp 𝕄} {Q}
    (h : iprop(recs m K ∗ (owesE c 0 ∗ stWait m 3 c 0 9) ∗ Fr) ⊢ Q ⟨(Scalar.extui (Scalar.cmpi .ne (me c) 9#32)), 0#32⟩) :
    iprop(recs m K ∗ (owesE c 0 ∗ stWait m 3 c 0 2) ∗ Fr) ⊢ run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.cmpi .ne (me c) 2#32)) Q := by
  rw [k0_part22_eq_skeleton]; unfold k0_part22_skel
  iterate 7
    (refine wait_back m K (by decide) (cond_ne c (by decide)) ?_)
  exact run_ret h

/-- The waits for rows 9 to 15, and the first half of the combination. -/
theorem part23_run {c : Dev nD} {w : FVec F S3072x512 .bf16} {z : FVec F S512x512 .f32} {Fr : sProp 𝕄} {Q}
    (h : iprop(recs m K ∗ (owesE c 0 ∗ stWait m 3 c 0 16) ∗ (tR c {c} (RET m c) ∗ Fr)) ⊢ Q (k0_pay21 w z (chunk 0 (RET m c)))) :
    iprop(recs m K ∗ (owesE c 0 ∗ stWait m 3 c 0 9) ∗ (tR c {c} (RET m c) ∗ Fr)) ⊢ run c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) w z (Scalar.extui (Scalar.cmpi .ne (me c) 9#32)) 0#32) Q := by
  rw [k0_part23_eq_skeleton]; unfold k0_part23_skel
  iterate 7
    (refine wait_back m K (by decide) (cond_ne c (by decide)) ?_)
  refine chunk_back m K 0 (by decide) rfl ?_
  exact run_ret h

/-- The waits for rows 16 to 22 coming back. -/
theorem part24_run {c : Dev nD}  {Fr : sProp 𝕄} {Q}
    (h : iprop(recs m K ∗ (owesE c 0 ∗ stWait m 3 c 0 23) ∗ Fr) ⊢ Q (Scalar.extui (Scalar.cmpi .ne (me c) 23#32))) :
    iprop(recs m K ∗ (owesE c 0 ∗ stWait m 3 c 0 16) ∗ Fr) ⊢ run c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c)) Q := by
  rw [k0_part24_eq_skeleton]; unfold k0_part24_skel
  iterate 7
    (refine wait_back m K (by decide) (cond_ne c (by decide)) ?_)
  exact run_ret h

/-- The waits for rows 23 to 30 coming back. -/
theorem part25_run {c : Dev nD}  {Fr : sProp 𝕄} {Q}
    (h : iprop(recs m K ∗ (owesE c 0 ∗ stWait m 3 c 0 31) ∗ Fr) ⊢ Q ⟨⟩) :
    iprop(recs m K ∗ (owesE c 0 ∗ stWait m 3 c 0 23) ∗ Fr) ⊢ run c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 23#32))) Q := by
  rw [k0_part25_eq_skeleton]; unfold k0_part25_skel
  iterate 8
    (refine wait_back m K (by decide) (cond_ne c (by decide)) ?_)
  exact run_ret h

/-- The last row, the result written, and the first waits for the sends. -/
theorem part26_run {c : Dev nD} {w : FVec F S3072x512 .bf16} {z fo : FVec F S512x512 .f32} {Fr0 : sProp 𝕄} {Fr : sProp 𝕄} {Q}
    (hmid : iprop(recs m K ∗ (owesE c 0 ∗ stWait m 3 c 0 32) ∗ (stP cc0_stg4_0 c (k0_pay22 w z (chunk 1 (RET m c))) ∗ tR c {c} (RET m c) ∗ Fr0)) ⊢ iprop(recs m K ∗ (owesE c 0 ∗ stWait m 0 c 0 0 ∗ stWait m 2 c 0 0) ∗ Fr))
    (h : iprop(recs m K ∗ (owesE c 0 ∗ stWait m 0 c 0 2 ∗ stWait m 2 c 0 2) ∗ Fr) ⊢ Q ⟨(Scalar.extui (Scalar.cmpi .ne (me c) 2#32)), 0#32⟩) :
    iprop(recs m K ∗ (owesE c 0 ∗ stWait m 3 c 0 31) ∗ (tR c {c} (RET m c) ∗ stP cc0_stg4_0 c fo ∗ Fr0)) ⊢ run c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) w z) Q := by
  rw [k0_part26_eq_skeleton]; unfold k0_part26_skel
  refine wait_back m K (by decide) (cond_ne c (by decide)) ?_
  refine chunk_back m K 1 (by decide) rfl ?_
  refine swap ?_
  refine load_o m K (fun _ => ?_)
  refine store_o m K ?_
  refine BIBase.Entails.trans hmid ?_
  clear hmid
  iterate 2
    (refine wait_sent m K (by decide) (cond_ne c (by decide)) ?_
     refine wait_returned m K (by decide) (cond_ne c (by decide)) ?_)
  exact run_ret h

/-- The waits for the sends from row 2 on. -/
theorem part27_run {c : Dev nD}  {Fr : sProp 𝕄} {Q}
    (h : iprop(recs m K ∗ (owesE c 0 ∗ stWait m 0 c 0 6 ∗ stWait m 2 c 0 6) ∗ Fr) ⊢ Q (Scalar.cmpi .ne (me c) 6#32)) :
    iprop(recs m K ∗ (owesE c 0 ∗ stWait m 0 c 0 2 ∗ stWait m 2 c 0 2) ∗ Fr) ⊢ run c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 2#32)) 0#32) Q := by
  rw [k0_part27_eq_skeleton]; unfold k0_part27_skel
  iterate 4
    (refine wait_sent m K (by decide) (cond_ne c (by decide)) ?_
     refine wait_returned m K (by decide) (cond_ne c (by decide)) ?_)
  exact run_ret h

/-- The waits for the sends from row 6 on. -/
theorem part28_run {c : Dev nD}  {Fr : sProp 𝕄} {Q}
    (h : iprop(recs m K ∗ (owesE c 0 ∗ stWait m 0 c 0 10 ∗ stWait m 2 c 0 9) ∗ Fr) ⊢ Q ⟨(Scalar.extui (Scalar.cmpi .ne (me c) 9#32)), 0#32⟩) :
    iprop(recs m K ∗ (owesE c 0 ∗ stWait m 0 c 0 6 ∗ stWait m 2 c 0 6) ∗ Fr) ⊢ run c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.cmpi .ne (me c) 6#32)) Q := by
  rw [k0_part28_eq_skeleton]; unfold k0_part28_skel
  iterate 3
    (refine wait_sent m K (by decide) (cond_ne c (by decide)) ?_
     refine wait_returned m K (by decide) (cond_ne c (by decide)) ?_)
  refine wait_sent m K (by decide) (cond_ne c (by decide)) ?_
  exact run_ret h

/-- The waits for the sends from row 10 on. -/
theorem part29_run {c : Dev nD}  {Fr : sProp 𝕄} {Q}
    (h : iprop(recs m K ∗ (owesE c 0 ∗ stWait m 0 c 0 14 ∗ stWait m 2 c 0 13) ∗ Fr) ⊢ Q (Scalar.cmpi .ne (me c) 13#32)) :
    iprop(recs m K ∗ (owesE c 0 ∗ stWait m 0 c 0 10 ∗ stWait m 2 c 0 9) ∗ Fr) ⊢ run c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 9#32)) 0#32) Q := by
  rw [k0_part29_eq_skeleton]; unfold k0_part29_skel
  refine wait_returned m K (by decide) (cond_ne c (by decide)) ?_
  iterate 3
    (refine wait_sent m K (by decide) (cond_ne c (by decide)) ?_
     refine wait_returned m K (by decide) (cond_ne c (by decide)) ?_)
  refine wait_sent m K (by decide) (cond_ne c (by decide)) ?_
  exact run_ret h

/-- The waits for the sends from row 14 on. -/
theorem part30_run {c : Dev nD}  {Fr : sProp 𝕄} {Q}
    (h : iprop(recs m K ∗ (owesE c 0 ∗ stWait m 0 c 0 17 ∗ stWait m 2 c 0 17) ∗ Fr) ⊢ Q ⟨(Scalar.extui (Scalar.cmpi .ne (me c) 17#32)), 0#32⟩) :
    iprop(recs m K ∗ (owesE c 0 ∗ stWait m 0 c 0 14 ∗ stWait m 2 c 0 13) ∗ Fr) ⊢ run c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.cmpi .ne (me c) 13#32)) Q := by
  rw [k0_part30_eq_skeleton]; unfold k0_part30_skel
  refine wait_returned m K (by decide) (cond_ne c (by decide)) ?_
  iterate 3
    (refine wait_sent m K (by decide) (cond_ne c (by decide)) ?_
     refine wait_returned m K (by decide) (cond_ne c (by decide)) ?_)
  exact run_ret h

/-- The waits for the sends from row 17 on. -/
theorem part31_run {c : Dev nD}  {Fr : sProp 𝕄} {Q}
    (h : iprop(recs m K ∗ (owesE c 0 ∗ stWait m 0 c 0 21 ∗ stWait m 2 c 0 21) ∗ Fr) ⊢ Q (Scalar.cmpi .ne (me c) 21#32)) :
    iprop(recs m K ∗ (owesE c 0 ∗ stWait m 0 c 0 17 ∗ stWait m 2 c 0 17) ∗ Fr) ⊢ run c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 17#32)) 0#32) Q := by
  rw [k0_part31_eq_skeleton]; unfold k0_part31_skel
  iterate 4
    (refine wait_sent m K (by decide) (cond_ne c (by decide)) ?_
     refine wait_returned m K (by decide) (cond_ne c (by decide)) ?_)
  exact run_ret h

/-- The waits for the sends from row 21 on. -/
theorem part32_run {c : Dev nD}  {Fr : sProp 𝕄} {Q}
    (h : iprop(recs m K ∗ (owesE c 0 ∗ stWait m 0 c 0 25 ∗ stWait m 2 c 0 24) ∗ Fr) ⊢ Q ⟨(Scalar.extui (Scalar.cmpi .ne (me c) 24#32)), 0#32⟩) :
    iprop(recs m K ∗ (owesE c 0 ∗ stWait m 0 c 0 21 ∗ stWait m 2 c 0 21) ∗ Fr) ⊢ run c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.cmpi .ne (me c) 21#32)) Q := by
  rw [k0_part32_eq_skeleton]; unfold k0_part32_skel
  iterate 3
    (refine wait_sent m K (by decide) (cond_ne c (by decide)) ?_
     refine wait_returned m K (by decide) (cond_ne c (by decide)) ?_)
  refine wait_sent m K (by decide) (cond_ne c (by decide)) ?_
  exact run_ret h

/-- The waits for the sends from row 25 on. -/
theorem part33_run {c : Dev nD}  {Fr : sProp 𝕄} {Q}
    (h : iprop(recs m K ∗ (owesE c 0 ∗ stWait m 0 c 0 29 ∗ stWait m 2 c 0 28) ∗ Fr) ⊢ Q (Scalar.cmpi .ne (me c) 28#32)) :
    iprop(recs m K ∗ (owesE c 0 ∗ stWait m 0 c 0 25 ∗ stWait m 2 c 0 24) ∗ Fr) ⊢ run c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (me c) (Scalar.extui (Scalar.cmpi .ne (me c) 24#32)) 0#32) Q := by
  rw [k0_part33_eq_skeleton]; unfold k0_part33_skel
  refine wait_returned m K (by decide) (cond_ne c (by decide)) ?_
  iterate 3
    (refine wait_sent m K (by decide) (cond_ne c (by decide)) ?_
     refine wait_returned m K (by decide) (cond_ne c (by decide)) ?_)
  refine wait_sent m K (by decide) (cond_ne c (by decide)) ?_
  exact run_ret h

end Parts

end Cert.MoeProof
-- ==== Proof.Body.lean ====
/-
The body of the kernel on one device: its parts, one after the other.
-/
module

public import proofs.«01_k».proof.Proof.PartsA
public import proofs.«01_k».proof.Proof.PartsB
public import proofs.«01_k».proof.Proof.PartsC
public import proofs.«01_k».proof.Proof.Phases

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 65536

section Body
variable (m : (ℓ : Loc nD τ sig) → Buf (Elt F) ℓ) (K : Dev nD × Option (Fin 4 × Dev nD) → ℕ)
variable (c : Dev nD) (fs fv : B1 F) (fr ft : B2 F) (fo : FVec F S512x512 .f32)

/-- What the body starts from. -/
def bodyStart : sProp 𝕄 :=
  iprop(recs m K ∗ stSig c 1 (OX 1 c 0 + OX 3 c 0) ∗ ((cred (tallyAt (barCell c) () 31) ∗ atPos ER (barCell c) 0 ∅ 0)
    ∗ (stP cc0_stg0_0 c (inX m c) ∗ stP cc0_stg1_0 c (inR m c) ∗ stP cc0_stg2_0 c (inI m c) ∗ G0 m c fs fv fr ft fo)))

set_option maxHeartbeats 2000000 in
/-- All but the last four waits. -/
theorem part34_run {Q} (h : iprop(recs m K ∗ (owesE c 0 ∗ stWait m 0 c 0 30 ∗ stWait m 2 c 0 30) ∗ G34 m c) ⊢ Q ⟨me c, Scalar.extui (Scalar.cmpi .ne (me c) 30#32)⟩) :
    bodyStart m K c fs fv fr ft fo ⊢ run c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  unfold bodyStart
  rw [k0_part34_eq_skeleton]; unfold k0_part34_skel
  refine run_bind (part1_run m K fun a b => ?_)
  refine run_bind (part2_run m K fun ⟨_, _⟩ => ?_)
  refine run_bind (part3_run m K fun ⟨_, _⟩ => ?_)
  refine run_bind (part4_run m K fun ⟨_, _⟩ => ?_)
  refine run_bind (part5_run m K fun ⟨_, _⟩ => ?_)
  refine run_bind (part6_run m K ((above_OX (by decide) c 0).add (above_OX (by decide) c 0)) ?_)
  refine run_bind (part7_run ?_)
  refine BIBase.Entails.trans (to8 m K c fs fv fr ft fo) ?_
  refine run_bind (part8_run m K rfl (mid8 m K c fv fr ft fo) fun b => ?_)
  refine run_bind (part9_run m K ?_)
  refine run_bind (part10_run m K fun v => ?_)
  refine run_bind (part11_run m K ?_)
  refine run_bind (part12_run m K (mid12 m K c fr ft fo) ?_)
  refine run_bind (part13_run m K ?_)
  refine run_bind (part14_run m K ?_)
  refine run_bind (part15_run m K (mid15 m K c fr ft fo) fun v => ?_)
  refine run_bind (part16_run m K ?_)
  refine BIBase.Entails.trans (to17 m K c fr ft fo) ?_
  refine run_bind (part17_run m K ?_)
  refine run_bind (part18_run m K ?_)
  refine run_bind (part19_run m K (mid19 m K c ft fo) fun v => ?_)
  refine run_bind (part20_run m K ?_)
  refine run_bind (part21_run m K (Entails.refl _) (mid21 m K c fo) ?_)
  refine run_bind (part22_run m K ?_)
  refine run_bind (part23_run m K ?_)
  refine run_bind (part24_run m K ?_)
  refine run_bind (part25_run m K ?_)
  refine run_bind (part26_run m K (mid26 m K c) ?_)
  refine run_bind (part27_run m K ?_)
  refine run_bind (part28_run m K ?_)
  refine run_bind (part29_run m K ?_)
  refine run_bind (part30_run m K ?_)
  refine run_bind (part31_run m K ?_)
  refine run_bind (part32_run m K ?_)
  refine run_bind (part33_run m K ?_)
  refine wait_returned m K (by decide) (cond_ne c (by decide)) ?_
  refine wait_sent m K (by decide) (cond_ne c (by decide)) ?_
  refine wait_returned m K (by decide) (cond_ne c (by decide)) ?_
  exact run_ret h

set_option maxHeartbeats 2000000 in
/-- The body, from its start to its end. -/
theorem body_run : bodyStart m K c fs fv fr ft fo ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyEnd m c) := by
  rw [cc0_body_eq_skeleton]; unfold cc0_body_skel
  refine run_bind (part34_run m K c fs fv fr ft fo ?_)
  refine wait_sent m K (by decide) (cond_ne c (by decide)) ?_
  refine wait_returned m K (by decide) (cond_ne c (by decide)) ?_
  refine wait_sent m K (by decide) (cond_ne c (by decide)) ?_
  refine wait_returned m K (by decide) (cond_ne c (by decide)) ?_
  exact run_fin c (body_ends m K c)

end Body

end Cert.MoeProof
-- ==== Proof.Launch.lean ====
/-
# The launch of the whole mesh

The region's body obligation from the body's run, and the run of the program on all 32 devices, for any float values:
it ends, every semaphore is back at zero, and every window's array holds what the region's data says.
-/
module

public import proofs.«01_k».proof.Proof.Setup
public import proofs.«01_k».proof.Proof.Body
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

local notation "𝕄" => MT nD τ sig Unit (Elt F) ℕ UU ℕ

set_option maxRecDepth 20000

section Launch
variable (m : (ℓ : Loc nD τ sig) → Buf (Elt F) ℓ) (ρ : Dev nD → PrngReg)

/-- A staging buffer at contents known up to an equation. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (inX m c) ∗ stg c cc0_stg1_0 (inR m c)
    ∗ stg c cc0_stg2_0 (inI m c) ∗ stg c cc0_stg3_0 (inW m c) ∗ stg c cc0_stg4_0 (OUT m c))

theorem before_0 (c : Dev nD) (d) : (dats m ρ 0 c).before (0 : Fin 5) t0_0 d = inX m c := by unfold Dat.before; rw [if_pos (fetch0_0 t0_0)]; rfl
theorem before_1 (c : Dev nD) (d) : (dats m ρ 0 c).before (1 : Fin 5) t0_0 d = inR m c := by unfold Dat.before; rw [if_pos (fetch0_1 t0_0)]; rfl
theorem before_2 (c : Dev nD) (d) : (dats m ρ 0 c).before (2 : Fin 5) t0_0 d = inI m c := by unfold Dat.before; rw [if_pos (fetch0_2 t0_0)]; rfl
theorem before_3 (c : Dev nD) (d) : (dats m ρ 0 c).before (3 : Fin 5) t0_0 d = inW m c := by unfold Dat.before; rw [if_pos (fetch0_3 t0_0)]; rfl

theorem pre_starts (c : Dev nD) : bodyPre m ρ c ⊢ iprop(Φ₀ m c ∗ owesE c (O₀ c) ∗ stP cc0_stg0_0 c (inX m c) ∗ stP cc0_stg1_0 c (inR m c)
    ∗ stP cc0_stg2_0 c (inI m c) ∗ stP cc0_stg3_0 c (inW m c) ∗ ∃ fo : FVec F S512x512 .f32, stP cc0_stg4_0 c fo) := by
  unfold bodyPre owesE Dat.owesAt Pipeline.owesWithin
  rw [show (dats m ρ 0 c).owed t0_0.castSucc = O₀ c from rfl]
  iintro ⟨HΦ, ⟨%W, -, HO⟩, ⟨%d0, %g0, %h0, H0⟩, ⟨%d1, %g1, %h1, H1⟩, ⟨%d2, %g2, %h2, H2⟩, ⟨%d3, %g3, %h3, H3⟩, ⟨%d4, %g4, -, H4⟩⟩
  rw [before_0] at h0; rw [before_1] at h1; rw [before_2] at h2; rw [before_3] at h3
  subst h0; subst h1; subst h2; subst h3
  isplitl [HΦ]; · iexact HΦ
  isplitl [HO]; · iexists W; iexact HO
  isplitl [H0]; · iexact H0
  isplitl [H1]; · iexact H1
  isplitl [H2]; · iexact H2
  isplitl [H3]; · iexact H3
  iexists g4; iexact H4

theorem end_post (c : Dev nD) : bodyEnd m c ⊢ bodyPost m ρ c := by
  unfold bodyEnd bodyPost Φ₁ owesE Dat.owesAt Pipeline.owesWithin
  rw [show (dats m ρ 0 c).owed t0_0.succ = 0 from rfl]
  iintro ⟨⟨%W, HO⟩, Hb, Hc, HB, H0, H1, H2, H3, H4⟩
  isplitl [Hb Hc HB]
  · isplitl [Hb]; · iexact Hb
    isplitl [Hc] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_sound (c : Dev nD) : bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c) := by
  refine BIBase.Entails.trans (pre_starts m ρ c) (BIBase.Entails.trans (body_starts m c) ?_)
  iintro ⟨%K, %fs, %fv, %fr, %ft, %fo, H⟩
  iapply (BIBase.Entails.trans (body_run m K c fs fv fr ft fo) (wp_mono _ _ _ fun _ => end_post m ρ c))
  unfold bodyStart
  iexact H

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every weakly fair execution on the 32 devices ends, with every window's array at
its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

end Launch

end Cert.MoeProof
-- ==== Proof.Frames.lean ====
/-
# The frames

The run of the kernel on the mesh, read at its argument arrays and its counters: for the kernel as printed, for its
idealization, and for the reference.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.MoeProof

open Idealize.ShloMosaic Idealize.ShloMosaic.TcCoe Idealize.SL.Sem

set_option maxRecDepth 20000

/-- For any float values: every run ends with the arguments as they were and every counter at zero. -/
theorem run_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (finalA_0 m ρ c), (h.1 c (1 : Fin 5)).trans (finalA_1 m ρ c),
      (h.1 c (2 : Fin 5)).trans (finalA_2 m ρ c), (h.1 c (3 : Fin 5)).trans (finalA_3 m ρ c)⟩, h.2⟩) (run_main m ρ)

/-- The label's body is the same program under the two names. -/
theorem defs₀_same : Cert.Kernel.defs₀ (F := Bits) = Cert.KernelIdeal.defs₀ (F := Bits) := by
  unfold Cert.Kernel.defs₀ Cert.KernelIdeal.defs₀
  refine congrArg _ ?_
  funext ℓ x
  match ℓ, x with
  | ⟨0, _⟩, (t, s) => rfl
  | ⟨n + 1, h⟩, _ => exact absurd h (by omega)

/-- So are the definitions of the pipeline around it. -/
theorem defs_same : Cert.Kernel.defs (F := Bits) = Cert.KernelIdeal.defs (F := Bits) := by
  show Pipeline.defs Cert.Kernel.pcfgs (Cert.Kernel.defs₀ (F := Bits))
    = Pipeline.defs Cert.KernelIdeal.pcfgs (Cert.KernelIdeal.defs₀ (F := Bits))
  rw [defs₀_same]
  rfl

theorem frame_kernel : Cert.quiescent_Kernel (hKernel := Cert.Kernel.Gen.facts) := by
  intro m ρ _
  have h := run_frame (F := Bits) m ρ
  rw [← defs_same] at h
  exact h

theorem frame_ideal : Cert.quiescent_KernelIdeal (hKernelIdeal := Cert.KernelIdeal.Gen.facts) :=
  fun m ρ _ => run_frame (F := Ideal) m ρ

theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

end Cert.MoeProof
-- ==== Proof.Tokens.lean ====
/-
# One token's answer, and the sum over experts and places

The value both programs compute for one token, over plain functions: the router's probabilities, the two weights, and
the weighted sum of two experts' products. Beside it the facts that carry the kernel's form of it here. The kernel
gives every token that chose an expert a place, the number of earlier tokens that chose it too, and sums over all
experts and places; at most one place of an expert is a token's.
-/
module

public import Idealize.ShloMosaic.PureOps.Ideal
public import Idealize.ShloMosaic.Lib.WordCmp

@[expose] public section

noncomputable section

namespace Cert.MoeProof

open Idealize.ShloMosaic

/-! ## The answer -/

/-- The router's score of expert `e`. -/
def score (x : Fin 256 → EReal) (R : Fin 256 → Fin 64 → EReal) (e : Fin 64) : EReal := ∑ k, x k * R k e

/-- The greatest of a token's scores. -/
def top (s : Fin 64 → EReal) : EReal := Finset.fold max (Ideal.ofBits .f32 0xFF800000#32) s Finset.univ

/-- The probability of expert `e`. -/
def prob (x : Fin 256 → EReal) (R : Fin 256 → Fin 64 → EReal) (e : Fin 64) : EReal :=
  Ideal.div (Ideal.exp (score x R e - top (score x R))) (∑ e', Ideal.exp (score x R e' - top (score x R)))

/-- The weight of expert `e` beside the choices `e0` and `e1`. -/
def weight (x : Fin 256 → EReal) (R : Fin 256 → Fin 64 → EReal) (e0 e1 e : Fin 64) : EReal :=
  Ideal.div (prob x R e) (prob x R e0 + prob x R e1)

/-- The token's product with expert `e`. -/
def product (x : Fin 256 → EReal) (W : Fin 64 → Fin 256 → Fin 512 → EReal) (h : Fin 512) (e : Fin 64) : EReal :=
  ∑ k, x k * W e k h

/-- The token's answer. -/
def answer (x : Fin 256 → EReal) (R : Fin 256 → Fin 64 → EReal) (W : Fin 64 → Fin 256 → Fin 512 → EReal)
    (e0 e1 : Fin 64) (h : Fin 512) : EReal :=
  weight x R e0 e1 e0 * product x W h e0 + weight x R e0 e1 e1 * product x W h e1

/-! ## Bits -/

/-- A widened bit read as a number. -/
theorem bit_value (b : BitVec 1) : (FloatOps.sitofp (F := Ideal) .f32 (b.setWidth 32) : EReal) = if b = 1#1 then 1 else 0 := by
  show (((b.setWidth 32).toInt : ℝ) : EReal) = _
  have hb : b = 0#1 ∨ b = 1#1 := by
    have := b.isLt
    rcases (show b.toNat = 0 ∨ b.toNat = 1 by omega) with h | h
    · exact .inl (BitVec.eq_of_toNat_eq h)
    · exact .inr (BitVec.eq_of_toNat_eq h)
  rcases hb with rfl | rfl <;> simp

theorem andi_one (a b : BitVec 1) : IntOp.andi a b = 1#1 ↔ a = 1#1 ∧ b = 1#1 := by
  revert a b; decide
theorem ori_one (a b : BitVec 1) : IntOp.ori a b = 1#1 ↔ a = 1#1 ∨ b = 1#1 := by
  revert a b; decide

/-- A word that names one of the 64 experts is compared with an expert's number. -/
theorem names_iff (e : Fin 64) (w : BitVec 32) (i : Fin 64) (hw : w.toNat = i.val) :
    IntOp.cmpi .eq (BitVec.ofNat 32 e.val) w = 1#1 ↔ e = i := by
  have hwi : w = BitVec.ofNat 32 i.val := BitVec.eq_of_toNat_eq (by rw [hw, BitVec.toNat_ofNat]; have := i.isLt; omega)
  rw [hwi]
  show BitVec.ofBool (BitVec.ofNat 32 e.val == BitVec.ofNat 32 i.val) = 1#1 ↔ _
  constructor
  · intro h
    by_contra hne
    rw [beq_false_of_ne (fun h' => hne (Fin.ext (by
      have h2 := congrArg BitVec.toNat h'
      rw [BitVec.toNat_ofNat, BitVec.toNat_ofNat] at h2
      have := e.isLt; have := i.isLt; omega)))] at h
    exact absurd h (by decide)
  · rintro rfl; rw [beq_self_eq_true]; rfl

/-! ## Places -/

section Places
variable (i0 i1 : Fin 512 → Fin 64)

/-- Token `t` chose expert `e`. -/
abbrev chose (e : Fin 64) (t : Fin 512) : Prop := e = i0 t ∨ e = i1 t

/-- How many earlier tokens chose `e`. -/
def place (e : Fin 64) (t : Fin 512) : ℕ := (Finset.univ.filter fun t' => chose i0 i1 e t' ∧ t' < t).card

/-- Token `t` is at place `s` of expert `e`. -/
abbrev placed (e : Fin 64) (s : Fin 48) (t : Fin 512) : Prop := place i0 i1 e t = s.val ∧ chose i0 i1 e t

theorem place_lt {e : Fin 64} {t t' : Fin 512} (ht : chose i0 i1 e t) (h : t < t') : place i0 i1 e t < place i0 i1 e t' := by
  refine Finset.card_lt_card ⟨fun u hu => ?_, fun hs => ?_⟩
  · have := (Finset.mem_filter.1 hu).2
    exact Finset.mem_filter.2 ⟨Finset.mem_univ _, this.1, this.2.trans h⟩
  · exact lt_irrefl t (Finset.mem_filter.1 (hs (Finset.mem_filter.2 ⟨Finset.mem_univ _, ht, h⟩))).2.2

/-- Two tokens at one place are one. -/
theorem place_inj {e : Fin 64} {t t' : Fin 512} (ht : chose i0 i1 e t) (ht' : chose i0 i1 e t')
    (h : place i0 i1 e t = place i0 i1 e t') : t = t' := by
  rcases lt_trichotomy t t' with hl | he | hg
  · exact absurd (place_lt i0 i1 ht hl) (by omega)
  · exact he
  · exact absurd (place_lt i0 i1 ht' hg) (by omega)

/-- Where at most 48 tokens chose `e`, each of them has one of the 48 places. -/
theorem place_fits {e : Fin 64} (hc : (Finset.univ.filter fun t => chose i0 i1 e t).card ≤ 48) {t : Fin 512}
    (ht : chose i0 i1 e t) : place i0 i1 e t < 48 := by
  refine lt_of_lt_of_le (Finset.card_lt_card ⟨fun u hu => ?_, fun hs => ?_⟩) hc
  · exact Finset.mem_filter.2 ⟨Finset.mem_univ _, (Finset.mem_filter.1 hu).2.1⟩
  · exact lt_irrefl t (Finset.mem_filter.1 (hs (Finset.mem_filter.2 ⟨Finset.mem_univ _, ht⟩))).2.2

theorem place_le (e : Fin 64) (t : Fin 512) : place i0 i1 e t ≤ 512 :=
  (Finset.card_le_univ _).trans (by rw [Fintype.card_fin])

/-- The kernel's sum of indicators is the place. -/
theorem place_sum (e : Fin 64) (t : Fin 512) :
    (∑ t' : Fin 512, (if chose i0 i1 e t' then (1 : EReal) else 0) * (if t' < t then 1 else 0)) = ((place i0 i1 e t : ℝ) : EReal) := by
  have h : ∀ t' : Fin 512, (if chose i0 i1 e t' then (1 : EReal) else 0) * (if t' < t then 1 else 0)
      = if chose i0 i1 e t' ∧ t' < t then 1 else 0 := fun t' => by
    by_cases h1 : chose i0 i1 e t' <;> by_cases h2 : t' < t <;> simp [h1, h2]
  rw [Finset.sum_congr rfl fun t' _ => h t', Finset.sum_boole]
  rfl

/-- Its word. -/
theorem place_word (n : ℕ) (hn : n ≤ 512) : Ideal.fptosi 32 ((n : ℝ) : EReal) = BitVec.ofNat 32 n := by
  unfold Ideal.fptosi
  rw [Ideal.toIntClamped_coe, if_pos (Nat.cast_nonneg n), Int.floor_natCast, min_eq_right (by norm_num; omega),
    max_eq_right (by norm_num)]
  rfl

/-- The row an expert's owner receives for a place is the row of the token at that place. -/
theorem placed_sum {e : Fin 64} {t : Fin 512} {s : Fin 48} (h : placed i0 i1 e s t) (X : Fin 512 → EReal) :
    (∑ t', (if placed i0 i1 e s t' then (1 : EReal) else 0) * X t') = X t := by
  rw [Finset.sum_eq_single t]
  · rw [if_pos h, one_mul]
  · intro t' _ hne
    rw [if_neg fun h' => hne (place_inj i0 i1 h'.2 h.2 (h'.1.trans h.1.symm)), zero_mul]
  · exact fun hn => absurd (Finset.mem_univ t) hn

end Places

/-! ## Two experts out of 64 -/

theorem neg_twice (v : EReal) : -(v + v) = -v + -v := by
  induction v <;> first | rfl | (norm_cast; ring)

/-- A weight applied twice, whatever its sign. -/
theorem twice_mul (w a : EReal) : (w + w) * a = w * a + w * a := by
  rcases le_total 0 w with h | h
  · exact EReal.right_distrib_of_nonneg h h
  · have hn : 0 ≤ -w := EReal.neg_nonneg.2 h
    have ht := EReal.right_distrib_of_nonneg (c := a) hn hn
    rw [← neg_twice, EReal.neg_mul, EReal.neg_mul, ← neg_twice] at ht
    exact neg_injective ht

/-- The sum over the experts a token chose, each with the weights of its choices, is the two weighted terms. -/
theorem two_of_all (e0 e1 : Fin 64) (w0 w1 : EReal) (hw : e0 = e1 → w0 = w1) (A : Fin 64 → EReal) :
    (∑ e, if e = e0 ∨ e = e1 then ((if e = e0 then w0 else 0) + (if e = e1 then w1 else 0)) * A e else 0)
      = w0 * A e0 + w1 * A e1 := by
  by_cases h : e0 = e1
  · subst h
    rw [← hw rfl, Finset.sum_eq_single e0]
    · rw [if_pos (.inl rfl), if_pos rfl, twice_mul]
    · intro e _ hne; rw [if_neg (by rintro (h | h) <;> exact hne h)]
    · exact fun hn => absurd (Finset.mem_univ e0) hn
  · have hs : ∀ e : Fin 64, (if e = e0 ∨ e = e1 then ((if e = e0 then w0 else 0) + (if e = e1 then w1 else 0)) * A e else 0)
        = (if e = e0 then w0 * A e else 0) + (if e = e1 then w1 * A e else 0) := fun e => by
      by_cases h0 : e = e0
      · rw [if_pos (.inl h0), if_pos h0, if_pos h0, if_neg (fun h1 => h (h0.symm.trans h1)),
          if_neg (fun h1 => h (h0.symm.trans h1)), add_zero, add_zero]
      · by_cases h1 : e = e1
        · rw [if_pos (.inr h1), if_neg h0, if_neg h0, if_pos h1, if_pos h1, zero_add, zero_add]
        · rw [if_neg (by rintro (h | h) <;> contradiction), if_neg h0, if_neg h1, add_zero]
    rw [Finset.sum_congr rfl fun e _ => hs e, Finset.sum_add_distrib, Finset.sum_ite_eq' Finset.univ e0,
      Finset.sum_ite_eq' Finset.univ e1, if_pos (Finset.mem_univ _), if_pos (Finset.mem_univ _)]

end Cert.MoeProof
-- ==== Proof.Routed.lean ====
/-
# What the precondition says of a device's choices

The precondition holds of a device's choices when every choice names one of the 64 experts and at most 48 of the device's
tokens choose any one expert.
-/
module

public import proofs.«01_k».proof.Pre_routed_within_capacity_KernelIdeal
public import proofs.«01_k».proof.Pre_routed_within_capacity_ReferenceIdeal
public import proofs.«01_k».proof.Proof.Tokens
public import Idealize.ShloMosaic.Lib.IndicatorCount
public import Idealize.ShloMosaic.Lib.ReduceAll
public import Idealize.ShloMosaic.Lib.Pointwise

@[expose] public section

noncomputable section

namespace Cert.MoeProof

open Idealize.ShloMosaic

set_option maxRecDepth 16384

instance factsPreKernel : Cert.Pre_routed_within_capacity_KernelIdeal.Facts where
  bcast_S_S512x2 := by decide
  slices_S512x2_S512x1_0_0 := by decide
  bcast_S512x1_S512x64_0_1 := by decide
  slices_S512x2_S512x1_0_1 := by decide
  natLt_1_32 := by decide
  reducesTo_S512x64_S64_d0 := by decide
  h_S_ := by decide
  reducesTo_S512x2_S_d0_1 := by decide
  bcast_S_S64 := by decide
  reducesTo_S64_S_d0 := by decide

instance factsPreReference : Cert.Pre_routed_within_capacity_ReferenceIdeal.Facts where
  bcast_S_S16384x2 := by decide
  slices_S16384x2_S16384x1_0_0 := by decide
  bcast_S16384x1_S16384x64_0_1 := by decide
  slices_S16384x2_S16384x1_0_1 := by decide
  natLt_1_32 := by decide
  reducesTo_S16384x64_S64_d0 := by decide
  h_S_ := by decide
  reducesTo_S16384x2_S_d0_1 := by decide
  bcast_S_S64 := by decide
  reducesTo_S64_S_d0 := by decide

open Cert.Pre_routed_within_capacity_KernelIdeal

variable (x : FVec Ideal S512x256 .f32) (R : FVec Ideal S256x64 .f32) (I : IVec S512x2 32) (W : FVec Ideal S2x256x512 .f32)

/-- Every choice names an expert. -/
theorem routed_names (h : fn (F := Ideal) x R I W = fun _ => 1#1) (i : S512x2.Idx) : (I i).toNat < 64 := by
  haveI : Subsingleton S_.Idx := ⟨fun a b => funext fun k => k.elim0⟩
  have hi := Host.reduce_andi_all _ _ _ _ _ ((andi_one _ _).1 (congrFun h (fun k => k.elim0))).1 i
  have hb : IntOp.andi (IntOp.cmpi .sge (I i) 0#32) (IntOp.cmpi .slt (I i) (BitVec.ofNat 32 64)) = 1#1 := hi
  rw [WordCmp.andi_sge_zero_slt_ofNat (by decide), WordCmp.ofBool_decide_eq_one_iff] at hb
  exact hb

/-- A token's bit for an expert: one of its choices is the expert's number. -/
def picks (i : S512x64.Idx) : BitVec 1 :=
  IntOp.ori (IntOp.cmpi .eq (I (ix2 (i 0) 0)) (BitVec.ofNat 32 (i 1).val)) (IntOp.cmpi .eq (I (ix2 (i 0) 1)) (BitVec.ofNat 32 (i 1).val))

/-- The bits as the precondition has them. -/
def bits : IVec S512x64 32 :=
  extui 32 (ori (cmpi .eq (broadcastInDim S512x64 ![0, 1] Facts.bcast_S512x1_S512x64_0_1
        (extractStridedSlice S512x1 ![0, 0] I Facts.slices_S512x2_S512x1_0_0)) (iotaInDim S512x64 32 1))
      (cmpi .eq (broadcastInDim S512x64 ![0, 1] Facts.bcast_S512x1_S512x64_0_1
        (extractStridedSlice S512x1 ![0, 1] I Facts.slices_S512x2_S512x1_0_1)) (iotaInDim S512x64 32 1))) Facts.natLt_1_32

theorem bits_eq : bits I = fun i => (picks I i).setWidth 32 := by
  funext i
  obtain ⟨t, e, rfl⟩ : ∃ (t : Fin 512) (e : Fin 64), i = ix2 t e := ⟨i 0, i 1, (ix2_eta i).symm⟩
  pointwise [bits, picks]

theorem picks_of (t : Fin 512) (e : Fin 64) (h : (I (ix2 t 0)).toNat = e.val ∨ (I (ix2 t 1)).toNat = e.val) : picks I (ix2 t e) = 1#1 := by
  have key : ∀ w : BitVec 32, w.toNat = e.val → IntOp.cmpi .eq w (BitVec.ofNat 32 e.val) = 1#1 := fun w hw => by
    rw [← hw, BitVec.ofNat_toNat, BitVec.setWidth_eq]
    show BitVec.ofBool (w == w) = 1#1
    rw [beq_self_eq_true]
    rfl
  exact (ori_one _ _).2 (h.imp (key _) (key _))

/-- At most 48 of the device's tokens choose expert `e`. -/
theorem routed_capacity (h : fn (F := Ideal) x R I W = fun _ => 1#1) (e : Fin 64) :
    (Finset.univ.filter fun t : Fin 512 => (I (ix2 t 0)).toNat = e.val ∨ (I (ix2 t 1)).toNat = e.val).card ≤ 48 := by
  haveI : Subsingleton S_.Idx := ⟨fun a b => funext fun k => k.elim0⟩
  have he := Host.reduce_andi_all _ _ _ _ _ ((andi_one _ _).1 (congrFun h (fun k => k.elim0))).2 (ix1 e)
  have hr : IntOp.cmpi .sle (Host.reduce IntOp.addi (bits I) (constantI S_ 32 0#32)
      Facts.reducesTo_S512x64_S64_d0 Facts.h_S_ (ix1 e)) (BitVec.ofNat 32 48) = 1#1 := he
  rw [bits_eq, Host.reduce_eq_fold] at hr
  have hf := IndicatorCount.fold_addi_setWidth_eq_card (w := 32) (picks I)
    (Finset.univ.filter fun i => (Facts.reducesTo_S512x64_S64_d0 : S512x64.ReducesTo [0] S64).drop i = ix1 e)
  have hr' := hf ▸ hr
  have hn : S512x64.numel = 512 * 64 := by rw [Shape.numel, Fin.prod_univ_two]; rfl
  have hc : Fintype.card S512x64.Idx < 2 ^ (32 - 1) := by rw [Shape.card_idx, hn]; omega
  rw [WordCmp.cmpi_sle_ofNat_eq_one_iff (lt_of_le_of_lt (Finset.card_le_univ _) hc) (by omega)] at hr'
  refine le_trans (Finset.card_le_card_of_injOn (fun t => ix2 t e) (fun t ht => ?_) fun t _ t' _ ht => ?_) hr'
  · refine Finset.mem_coe.2 (Finset.mem_filter.2 ⟨Finset.mem_filter.2 ⟨Finset.mem_univ _, ?_⟩, picks_of I t e (Finset.mem_filter.1 ht).2⟩)
    funext b
    match b with
    | ⟨0, _⟩ => rfl
  · exact congrFun ht 0

end Cert.MoeProof
-- ==== Proof.Readings.lean ====
/-
# The kernel's values, read at an index

What the body computes from one device's blocks, element by element, over the extended reals: the router's
probabilities, the places, the rows dispatched, the products of an owner, the combining matrix and the result. The
choices of the two columns of expert numbers are given as `i0` and `i1`.
-/
module

public import proofs.«01_k».proof.Proof.Gen.KernelIdeal
public import proofs.«01_k».proof.Proof.Gen.KernelIdeal.Skeleton
public import proofs.«01_k».proof.Proof.Tokens
public import Idealize.ShloMosaic.Lib.Pointwise

@[expose] public section

noncomputable section

namespace Cert.MoeProof

open Cert.KernelIdeal Cert.KernelIdeal.Gen
open Idealize.ShloMosaic

set_option maxRecDepth 16384

/-- Expert `k` of device `d`. -/
def expertOf (d : Fin 32) (k : Fin 2) : Fin 64 := ⟨2 * d.val + k.val, by omega⟩

/-- Row `t` of a block of tokens, and the router's matrix, as functions. -/
abbrev tokenRow (X : Vec Ideal S512x256 .f32) (t : Fin 512) : Fin 256 → EReal := fun k => X (ix2 t k)
abbrev router (R : Vec Ideal S256x64 .f32) : Fin 256 → Fin 64 → EReal := fun k e => R (ix2 k e)

/-- The column `I` of expert numbers names `i`. -/
def Names (I : IVec S512x1 32) (i : Fin 512 → Fin 64) : Prop := ∀ t, (I (ix2 t 0)).toNat = (i t).val

theorem prob_read (X : Vec Ideal S512x256 .f32) (R : Vec Ideal S256x64 .f32) (t : Fin 512) (e : Fin 64) :
    k0_pay3 X R (ix2 t e) = prob (tokenRow X t) (router R) e := by
  pointwise [k0_pay3, k0_pay1]
  rfl

theorem col0_read (I : Vec Ideal S512x1 .i32) : k0_pay4 (F := Ideal) I = I := by funext i; pointwise [k0_pay4]
theorem col1_read (I : Vec Ideal S512x1 .i32) : k0_pay5 (F := Ideal) I = I := by funext i; pointwise [k0_pay5]

theorem select_if {α : Type} (b : BitVec 1) (x y : α) : Scalar.select b x y = if b = 1#1 then x else y := rfl

/-- A sum against a one-hot row is the element it picks. -/
theorem pick_sum (p : Fin 64 → EReal) (w : BitVec 32) (i : Fin 64) (hw : w.toNat = i.val) :
    (∑ x : Fin 64, p x * FloatOps.sitofp (F := Ideal) .f32 (BitVec.setWidth 32 (IntOp.cmpi .eq (BitVec.ofNat 32 x.val) w))) = p i := by
  rw [Finset.sum_congr rfl fun x _ => by rw [bit_value]]
  rw [Finset.sum_eq_single i]
  · rw [if_pos ((names_iff i w i hw).2 rfl), mul_one]
  · intro x _ hne; rw [if_neg fun h => hne ((names_iff x w i hw).1 h), mul_zero]
  · exact fun hn => absurd (Finset.mem_univ i) hn

theorem pick0_read (X : Vec Ideal S512x256 .f32) (R : Vec Ideal S256x64 .f32) (I0 : Vec Ideal S512x1 .i32)
    (i0 : Fin 512 → Fin 64) (h0 : Names I0 i0) (t : Fin 512) :
    k0_pay7 X R I0 (ix1 t) = prob (tokenRow X t) (router R) (i0 t) := by
  pointwise [k0_pay7, k0_pay4]
  exact (pick_sum (fun x => k0_pay3 X R (ix2 t x)) _ _ (h0 t)).trans (prob_read X R t _)

section Columns
variable (I0 I1 : IVec S512x1 32) (i0 i1 : Fin 512 → Fin 64) (h0 : Names I0 i0) (h1 : Names I1 i1)
include h0 h1

/-- The bit that marks the tokens of an expert. -/
theorem chose_bit (e : Fin 64) (t : Fin 512) :
    IntOp.ori (IntOp.cmpi .eq (BitVec.ofNat 32 e.val) (I0 (ix2 t 0))) (IntOp.cmpi .eq (BitVec.ofNat 32 e.val) (I1 (ix2 t 0))) = 1#1
      ↔ chose i0 i1 e t := by
  rw [ori_one, names_iff e _ _ (h0 t), names_iff e _ _ (h1 t)]

theorem placed_read (e : Fin 64) (s : Fin 48) (t : Fin 512) :
    k0_pay10 (F := Ideal) I0 I1 (ix3 e s t) = 1#1 ↔ placed i0 i1 e s t := by
  pointwise [k0_pay10, k0_pay8, k0_pay9]
  rw [andi_one, chose_bit I0 I1 i0 i1 h0 h1]
  refine and_congr_left fun _ => ?_
  have hsum : (∑ x : Fin 512, FloatOps.sitofp (F := Ideal) .f32 (BitVec.setWidth 32
        (IntOp.ori (IntOp.cmpi .eq (BitVec.ofNat 32 e.val) (I0 (ix2 x 0))) (IntOp.cmpi .eq (BitVec.ofNat 32 e.val) (I1 (ix2 x 0)))))
      * FloatOps.sitofp (F := Ideal) .f32 (BitVec.setWidth 32 (IntOp.cmpi .slt (BitVec.ofNat 32 x.val) (BitVec.ofNat 32 t.val))) : EReal)
      = ((place i0 i1 e t : ℝ) : EReal) := by
    rw [← place_sum]
    refine Finset.sum_congr rfl fun x _ => ?_
    rw [bit_value, bit_value]
    have hx := x.isLt; have ht := t.isLt
    rw [if_congr (chose_bit I0 I1 i0 i1 h0 h1 e x) rfl rfl,
      if_congr (WordCmp.cmpi_slt_ofNat_eq_one_iff (w := 32) (a := x.val) (b := t.val) (by omega) (by omega)) rfl rfl]
    rfl
  rw [show FloatOps.fptosi (F := Ideal) (φ := .f32) 32 _ = _ from (congrArg (Ideal.fptosi 32) hsum).trans
    (place_word _ (place_le i0 i1 e t))]
  have hp := place_le i0 i1 e t; have hs := s.isLt
  show BitVec.ofBool (BitVec.ofNat 32 _ == BitVec.ofNat 32 _) = 1#1 ↔ _
  constructor
  · intro h
    by_contra hne
    rw [beq_false_of_ne (fun h' => hne (by
      have h2 := congrArg BitVec.toNat h'
      rw [BitVec.toNat_ofNat, BitVec.toNat_ofNat] at h2
      omega))] at h
    exact absurd h (by decide)
  · intro h; rw [h, beq_self_eq_true]; rfl

/-- The selection matrix. -/
theorem select_read (e : Fin 64) (s : Fin 48) (t : Fin 512) (r : Fin 3072) (hr : r.val = 48 * e.val + s.val) :
    k0_pay11 (F := Ideal) I0 I1 (ix2 r t) = if placed i0 i1 e s t then (1 : EReal) else 0 := by
  pointwise [k0_pay11]
  rw [bit_value]
  have he : (⟨r.val / 48, by omega⟩ : Fin 64) = e := Fin.ext (show r.val / 48 = e.val by have := s.isLt; omega)
  have hs : (⟨r.val % 48, Nat.mod_lt _ (by decide)⟩ : Fin 48) = s := Fin.ext (show r.val % 48 = s.val by have := s.isLt; omega)
  rw [if_congr (placed_read I0 I1 i0 i1 h0 h1 _ _ t) rfl rfl, he, hs]

/-- What a device dispatches. -/
theorem dispatch_read (X : Vec Ideal S512x256 .f32) (d : Fin 32) (k : Fin 2) (s : Fin 48) (j : Fin 256) :
    k0_pay14 (k0_pay2 X) (k0_pay11 (F := Ideal) (k0_pay4 (F := Ideal) I0) (k0_pay5 (F := Ideal) I1)) (ix4 d k s j)
      = ∑ t, (if placed i0 i1 (expertOf d k) s t then (1 : EReal) else 0) * X (ix2 t j) := by
  rw [col0_read, col1_read]
  pointwise [k0_pay14, k0_pay2, k0_pay1]
  refine Finset.sum_congr rfl fun t _ => ?_
  rw [select_read I0 I1 i0 i1 h0 h1 (expertOf d k) s t _ (by show d.val * 96 + k.val * 48 + s.val = 48 * (2 * d.val + k.val) + s.val; omega)]

/-- The combining matrix: at a token's place of an expert the weights of the choices that name it. -/
theorem combine_read (X : Vec Ideal S512x256 .f32) (R : Vec Ideal S256x64 .f32) (e : Fin 64) (s : Fin 48) (t : Fin 512) (r : Fin 3072)
    (hr : r.val = 48 * e.val + s.val) :
    k0_pay13 (k0_pay10 (F := Ideal) (k0_pay4 (F := Ideal) I0) (k0_pay5 (F := Ideal) I1))
        (k0_pay12 (k0_pay3 X R) (k0_pay4 (F := Ideal) I0) (k0_pay5 (F := Ideal) I1) (k0_pay6 (F := Ideal) I1) (k0_pay7 X R I0))
        (Scalar.ofBits .f32 0x00000000#32) (ix2 r t)
      = if placed i0 i1 e s t then
          (if e = i0 t then weight (tokenRow X t) (router R) (i0 t) (i1 t) (i0 t) else 0)
            + (if e = i1 t then weight (tokenRow X t) (router R) (i0 t) (i1 t) (i1 t) else 0)
        else 0 := by
  rw [col0_read, col1_read]
  pointwise [k0_pay13]
  have he : (⟨r.val / 48, by omega⟩ : Fin 64) = e := Fin.ext (show r.val / 48 = e.val by have := s.isLt; omega)
  have hs : (⟨r.val % 48, Nat.mod_lt _ (by decide)⟩ : Fin 48) = s := Fin.ext (show r.val % 48 = s.val by have := s.isLt; omega)
  rw [he, hs]
  rw [select_if, if_congr (placed_read I0 I1 i0 i1 h0 h1 e s t) rfl rfl]
  refine if_congr Iff.rfl ?_ rfl
  pointwise [k0_pay12, k0_pay8, k0_pay9, k0_pay6, k0_pay5]
  rw [pick0_read X R I0 i0 h0, pick_sum (fun x => k0_pay3 X R (ix2 t x)) _ _ (h1 t), prob_read]
  rw [select_if, select_if, if_congr (names_iff e _ _ (h0 t)) rfl rfl, if_congr (names_iff e _ _ (h1 t)) rfl rfl]
  rfl

end Columns

/-- The product of an owner's expert with a row it received, in the first sixteen rows and in the last. -/
theorem owner0_read (W : Vec Ideal S2x256x512 .f32) (A : FVec Ideal S16x2x48x256 .bf16) (q : Fin 16) (k : Fin 2) (s : Fin 48) (h : Fin 512) :
    k0_pay17 (k0_pay16 W) A (ix4 q k s h) = ∑ j, A (ix4 q k s j) * W (ix3 k j h) := by
  pointwise [k0_pay17, k0_pay16]
  fin_cases k <;> rfl
theorem owner1_read (W : Vec Ideal S2x256x512 .f32) (A : FVec Ideal S16x2x48x256 .bf16) (q : Fin 16) (k : Fin 2) (s : Fin 48) (h : Fin 512) :
    k0_pay18 (k0_pay16 W) A (ix4 q k s h) = ∑ j, A (ix4 q k s j) * W (ix3 k j h) := by
  pointwise [k0_pay18, k0_pay16]
  fin_cases k <;> rfl

/-- The result: the sum over the first half of the rows, then over the second. -/
theorem result_read (C : FVec Ideal S3072x512 .bf16) (A B : FVec Ideal S16x2x48x512 .bf16) (t h : Fin 512) :
    k0_pay22 C (k0_pay21 C (k0_pay20 (F := Ideal)) A) B (ix2 t h)
      = (∑ x : Fin 1536, C (ix2 ⟨x.val, by omega⟩ t) * A (ix4 ⟨x.val / 96, by omega⟩ ⟨x.val / 48 % 2, by omega⟩ ⟨x.val % 48, by omega⟩ h))
        + ∑ x : Fin 1536, C (ix2 ⟨1536 + x.val, by omega⟩ t) * B (ix4 ⟨x.val / 96, by omega⟩ ⟨x.val / 48 % 2, by omega⟩ ⟨x.val % 48, by omega⟩ h) := by
  pointwise [k0_pay22, k0_pay21, k0_pay20]

end Cert.MoeProof
-- ==== Proof.Combined.lean ====
/-
# What the kernel leaves, token by token

The result of a device is, at every token, the token's answer: the row of a place comes back from the expert's owner
as the product of the token at that place, and the combining matrix weighs and adds the two that a token chose. The
device's choices name experts, and no expert is chosen by more of its tokens than there are places.
-/
module

public import proofs.«01_k».proof.Proof.Common
public import proofs.«01_k».proof.Proof.Readings

@[expose] public section

noncomputable section

namespace Cert.MoeProof

open Cert.KernelIdeal Cert.KernelIdeal.Gen
open Idealize.ShloMosaic

set_option maxRecDepth 16384

/-- A number of 3072 is an expert and a place. -/
theorem sum_places (f : Fin 3072 → EReal) :
    (∑ r, f r) = ∑ e : Fin 64, ∑ s : Fin 48, f ⟨48 * e.val + s.val, by omega⟩ := by
  have h := (Fintype.sum_equiv (finProdFinEquiv (m := 64) (n := 48)) (fun p => f (finProdFinEquiv p)) f (fun _ => rfl)).symm
  rw [h, Fintype.sum_prod_type]
  refine Finset.sum_congr rfl fun e _ => Finset.sum_congr rfl fun s _ => congrArg f (Fin.ext ?_)
  show s.val + 48 * e.val = 48 * e.val + s.val
  omega

/-- Two halves of 1536. -/
theorem sum_halves (f : Fin 3072 → EReal) :
    (∑ r, f r) = (∑ x : Fin 1536, f ⟨x.val, by omega⟩) + ∑ x : Fin 1536, f ⟨1536 + x.val, by omega⟩ :=
  Fin.sum_univ_add (a := 1536) (b := 1536) f

section Device
variable (m : (ℓ : Loc nD τ sig) → Buf (Elt Ideal) ℓ) (c : Dev nD)
variable (i0 i1 : Fin 512 → Fin 64) (h0 : Names (ch0 m c) i0) (h1 : Names (ch1 m c) i1)

/-- The experts of the mesh, by their numbers: expert `e` is the owner's `e % 2`. -/
def experts : Fin 64 → Fin 256 → Fin 512 → EReal := fun e k h =>
  inW m (⟨e.val / 2, by omega⟩ : Fin 32) (ix3 (⟨e.val % 2, Nat.mod_lt _ (by decide)⟩ : Fin 2) k h)

/-- What comes back to `c` from owner `i`. -/
theorem return_read (i : Fin 32) (k : Fin 2) (s : Fin 48) (h : Fin 512) :
    RET m c (ix4 i k s h) = ∑ j, SEND m c (ix4 i k s j) * inW m i (ix3 k j h) := by
  have hc : c.val < 32 := c.isLt
  have hq : (⟨c.val % 16, Nat.mod_lt _ (by decide)⟩ : Fin 16).val = c.val % 16 := rfl
  show PROD m i ⟨c.val / 16, _⟩ (ix4 (⟨c.val % 16, Nat.mod_lt _ (by decide)⟩ : Fin 16) k s h) = _
  rcases (show c.val / 16 = 0 ∨ c.val / 16 = 1 by omega) with hb | hb
  · rw [show (⟨c.val / 16, by omega⟩ : Fin 2) = 0 from Fin.ext hb]
    refine (owner0_read (inW m i) (chunk 0 (RECV m i)) _ k s h).trans (Finset.sum_congr rfl fun j _ => ?_)
    show SEND m (⟨16 * 0 + c.val % 16, _⟩ : Fin 32) (ix4 i k s j) * _ = _
    rw [show (⟨16 * 0 + c.val % 16, by omega⟩ : Fin 32) = c from Fin.ext (show 16 * 0 + c.val % 16 = c.val by omega)]
  · rw [show (⟨c.val / 16, by omega⟩ : Fin 2) = 1 from Fin.ext hb]
    refine (owner1_read (inW m i) (chunk 1 (RECV m i)) _ k s h).trans (Finset.sum_congr rfl fun j _ => ?_)
    show SEND m (⟨16 * 1 + c.val % 16, _⟩ : Fin 32) (ix4 i k s j) * _ = _
    rw [show (⟨16 * 1 + c.val % 16, by omega⟩ : Fin 32) = c from Fin.ext (show 16 * 1 + c.val % 16 = c.val by omega)]

/-- Row `r` of what the kernel adds up for token `t`. -/
def term (t h : Fin 512) (r : Fin 3072) : EReal :=
  COMB m c (ix2 r t) * RET m c (ix4 (⟨r.val / 96, by omega⟩ : Fin 32) (⟨r.val / 48 % 2, Nat.mod_lt _ (by decide)⟩ : Fin 2)
    (⟨r.val % 48, Nat.mod_lt _ (by decide)⟩ : Fin 48) h)

theorem out_terms (t h : Fin 512) : OUT m c (ix2 t h) = ∑ r, term m c t h r := by
  rw [sum_halves]
  refine (result_read (COMB m c) (chunk 0 (RET m c)) (chunk 1 (RET m c)) t h).trans ?_
  refine congrArg₂ (· + ·) (Finset.sum_congr rfl fun x _ => ?_) (Finset.sum_congr rfl fun x _ => ?_)
  · refine congrArg (COMB m c (ix2 ⟨x.val, by omega⟩ t) * ·) (congrArg (RET m c) ?_)
    have hx := x.isLt
    have e0 : (⟨16 * 0 + x.val / 96, by omega⟩ : Fin 32) = ⟨x.val / 96, by omega⟩ := Fin.ext (show 16 * 0 + x.val / 96 = x.val / 96 by omega)
    exact congrArg (fun i : Fin 32 => ix4 i (⟨x.val / 48 % 2, Nat.mod_lt _ (by decide)⟩ : Fin 2) (⟨x.val % 48, Nat.mod_lt _ (by decide)⟩ : Fin 48) h) e0
  · refine congrArg (COMB m c (ix2 ⟨1536 + x.val, by omega⟩ t) * ·) (congrArg (RET m c) ?_)
    have hx := x.isLt
    have e0 : (⟨16 * 1 + x.val / 96, by omega⟩ : Fin 32) = ⟨(1536 + x.val) / 96, by omega⟩ := Fin.ext (show 16 * 1 + x.val / 96 = (1536 + x.val) / 96 by omega)
    have e1 : (⟨x.val / 48 % 2, Nat.mod_lt _ (by decide)⟩ : Fin 2) = ⟨(1536 + x.val) / 48 % 2, Nat.mod_lt _ (by decide)⟩ :=
      Fin.ext (show x.val / 48 % 2 = (1536 + x.val) / 48 % 2 by omega)
    have e2 : (⟨x.val % 48, Nat.mod_lt _ (by decide)⟩ : Fin 48) = ⟨(1536 + x.val) % 48, Nat.mod_lt _ (by decide)⟩ :=
      Fin.ext (show x.val % 48 = (1536 + x.val) % 48 by omega)
    rw [← e0, ← e1, ← e2]
    rfl

include h0 h1

/-- What `c` dispatches for a place is the token at that place. -/
theorem send_read (e : Fin 64) (s : Fin 48) (t : Fin 512) (hp : placed i0 i1 e s t) (j : Fin 256) :
    SEND m c (ix4 (⟨e.val / 2, by omega⟩ : Fin 32) (⟨e.val % 2, Nat.mod_lt _ (by decide)⟩ : Fin 2) s j) = inX m c (ix2 t j) := by
  unfold SEND
  refine (dispatch_read (ch0 m c) (ch1 m c) i0 i1 h0 h1 (inX m c) _ _ s j).trans ?_
  rw [show expertOf (⟨e.val / 2, by omega⟩ : Fin 32) (⟨e.val % 2, Nat.mod_lt _ (by decide)⟩ : Fin 2) = e from
    Fin.ext (show 2 * (e.val / 2) + e.val % 2 = e.val by omega)]
  exact placed_sum i0 i1 hp (fun t' => inX m c (ix2 t' j))

/-- The term of expert `e` and place `s`: the product of token `t`, weighed, where it is the token at that place. -/
theorem term_read (e : Fin 64) (s : Fin 48) (t h : Fin 512) :
    term m c t h ⟨48 * e.val + s.val, by omega⟩
      = if placed i0 i1 e s t then
          ((if e = i0 t then weight (tokenRow (inX m c) t) (router (inR m c)) (i0 t) (i1 t) (i0 t) else 0)
            + (if e = i1 t then weight (tokenRow (inX m c) t) (router (inR m c)) (i0 t) (i1 t) (i1 t) else 0))
          * product (tokenRow (inX m c) t) (experts m) h e
        else 0 := by
  have hs := s.isLt
  have he := e.isLt
  unfold term COMB
  rw [combine_read (ch0 m c) (ch1 m c) i0 i1 h0 h1 (inX m c) (inR m c) e s t _ rfl]
  by_cases hp : placed i0 i1 e s t
  · rw [if_pos hp, if_pos hp]
    refine congrArg _ ?_
    have a0 : (⟨(48 * e.val + s.val) / 96, by omega⟩ : Fin 32) = ⟨e.val / 2, by omega⟩ := Fin.ext (show (48 * e.val + s.val) / 96 = e.val / 2 by omega)
    have a1 : (⟨(48 * e.val + s.val) / 48 % 2, Nat.mod_lt _ (by decide)⟩ : Fin 2) = ⟨e.val % 2, Nat.mod_lt _ (by decide)⟩ :=
      Fin.ext (show (48 * e.val + s.val) / 48 % 2 = e.val % 2 by omega)
    have a2 : (⟨(48 * e.val + s.val) % 48, Nat.mod_lt _ (by decide)⟩ : Fin 48) = s := Fin.ext (show (48 * e.val + s.val) % 48 = s.val by omega)
    show RET m c (ix4 (⟨(48 * e.val + s.val) / 96, _⟩ : Fin 32) (⟨(48 * e.val + s.val) / 48 % 2, _⟩ : Fin 2) (⟨(48 * e.val + s.val) % 48, _⟩ : Fin 48) h) = _
    rw [a0, a1, a2, return_read]
    unfold product
    refine Finset.sum_congr rfl fun j _ => ?_
    rw [send_read m c i0 i1 h0 h1 e s t hp j]
    rfl
  · rw [if_neg hp, if_neg hp, zero_mul]

/-- The result of device `c` at token `t`. -/
theorem out_read (hcap : ∀ e, (Finset.univ.filter fun t => chose i0 i1 e t).card ≤ 48) (t h : Fin 512) :
    OUT m c (ix2 t h) = answer (tokenRow (inX m c) t) (router (inR m c)) (experts m) (i0 t) (i1 t) h := by
  rw [out_terms, sum_places, Finset.sum_congr rfl fun e _ => Finset.sum_congr rfl fun s _ => term_read m c i0 i1 h0 h1 e s t h]
  refine (Finset.sum_congr rfl fun e _ => ?_).trans
    (two_of_all (i0 t) (i1 t) _ _ (fun he => by rw [he]) (product (tokenRow (inX m c) t) (experts m) h))
  by_cases hc : chose i0 i1 e t
  · rw [if_pos hc, Finset.sum_eq_single (⟨place i0 i1 e t, place_fits i0 i1 (hcap e) hc⟩ : Fin 48)]
    · rw [if_pos ⟨rfl, hc⟩]
    · intro s _ hne; rw [if_neg fun hp => hne (Fin.ext hp.1.symm)]
    · exact fun hn => absurd (Finset.mem_univ _) hn
  · rw [if_neg hc]
    exact Finset.sum_eq_zero fun s _ => if_neg fun hp => hc hp.2

end Device

end Cert.MoeProof
-- ==== Proof.Reference.lean ====
/-
# The reference's values, read at an index

The reference's result at a token is the token's answer, where the token's two choices name experts. Its two kinds of
gather are read first: the probability of a token's choice, and the weights of a token's expert.
-/
module

public import proofs.«01_k».proof.Proof.Gen.ReferenceIdeal
public import proofs.«01_k».proof.Proof.Gen.ReferenceIdeal.Run
public import proofs.«01_k».proof.Proof.Tokens
public import Idealize.ShloMosaic.Lib.Pointwise

@[expose] public section

noncomputable section

namespace Cert.MoeProof.Ref

open Cert.ReferenceIdeal Cert.ReferenceIdeal.Gen
open Idealize.ShloMosaic

set_option maxRecDepth 16384

/-- The expert a word names, clamped among the 64. -/
def named (w : BitVec 32) : Fin 64 := ⟨min w.toInt.toNat 63, by omega⟩

theorem toInt_small (w : BitVec 32) (h : w.toNat < 64) : w.toInt = w.toNat := by
  rw [BitVec.toInt_eq_toNat_cond, if_pos (by omega)]

theorem named_eq (w : BitVec 32) (i : Fin 64) (hw : w.toNat = i.val) : named w = i := by
  have hi := i.isLt
  refine Fin.ext ?_
  show min w.toInt.toNat 63 = i.val
  rw [toInt_small w (by omega), Int.toNat_natCast]
  omega

/-- A word that names an expert is not below zero, so it is not moved. -/
theorem unmoved (w v : BitVec 32) (h : w.toNat < 64) : Scalar.select (IntOp.cmpi .slt w 0#32) v w = w := by
  rw [WordCmp.cmpi_slt_eq, toInt_small w h, decide_eq_false (by rw [BitVec.toInt_zero]; omega)]
  rfl

/-- The probability at a token's choice. -/
theorem gather_prob {α : Type} (P : S16384x64.Idx → α) (w : IVec S16384x1x1 32) (t : Fin 16384) (z : Fin 1) :
    Host.gather gather_S16384x64_S16384x1x1_S16384x1_n_1_0_0_1_2_11 P w (ix2 t z) = P (ix2 t (named (w (ix3 t 0 0)))) := by
  unfold Host.gather
  congr 1
  funext a
  refine Fin.ext ?_
  let D := gather_S16384x64_S16384x1x1_S16384x1_n_1_0_0_1_2_11
  show D.start (ix2 t z) w a + D.batchCoord (ix2 t z) a + D.offCoord (ix2 t z) a = _
  have h01 : a = 0 ∨ a = 1 := by
    match a with
    | ⟨0, _⟩ => exact .inl rfl
    | ⟨1, _⟩ => exact .inr rfl
  rcases h01 with rfl | rfl
  · rw [D.start_batching _ _ _ (List.mem_singleton.mpr rfl),
      D.offCoord_eq_zero _ _ (fun h => ((D.mem_sKept _).mp h).2 (List.mem_singleton.mpr rfl)), zero_add, add_zero]
    unfold GatherDims.batchCoord
    rw [dif_pos (show (0 : Fin 2) ∈ D.operandBatchingDims from List.mem_singleton.mpr rfl)]
    rfl
  · rw [D.batchCoord_eq_zero _ _ (fun h => absurd (List.mem_singleton.1 h) (by decide)),
      D.offCoord_eq_zero _ _ (fun h => ((D.mem_sKept _).mp h).1 (List.mem_singleton.mpr rfl)), add_zero, add_zero]
    unfold GatherDims.start
    rw [dif_pos (show (1 : Fin 2) ∈ D.startIndexMap from List.mem_singleton.mpr rfl)]
    have hsi : D.siIdx (ix2 t z) ⟨List.idxOf (1 : Fin 2) D.startIndexMap, List.idxOf_lt_length_iff.2 (List.mem_singleton.mpr rfl)⟩
        = ix3 t 0 0 := by
      funext b; refine Fin.ext ?_
      match b with
      | ⟨0, _⟩ => rfl
      | ⟨1, _⟩ => show z.val = 0; omega
      | ⟨2, _⟩ => rfl
    rw [hsi]
    rfl

/-- The weights of a token's expert. -/
theorem gather_expert {α : Type} (W : S64x256x512.Idx → α) (w : IVec S16384x1 32) (t : Fin 16384) (k : Fin 256) (h : Fin 512) :
    Host.gather gather_S64x256x512_S16384x1_S16384x256x512_12_0_n_n_0_1_1256512 W w (ix3 t k h) = W (ix3 (named (w (ix2 t 0))) k h) := by
  unfold Host.gather
  congr 1
  funext a
  refine Fin.ext ?_
  let D := gather_S64x256x512_S16384x1_S16384x256x512_12_0_n_n_0_1_1256512
  show D.start (ix3 t k h) w a + D.batchCoord (ix3 t k h) a + D.offCoord (ix3 t k h) a = _
  rw [D.batchCoord_eq_zero _ _ List.not_mem_nil, add_zero]
  have h01 : a = 0 ∨ a = 1 ∨ a = 2 := by
    match a with
    | ⟨0, _⟩ => exact .inl rfl
    | ⟨1, _⟩ => exact .inr (.inl rfl)
    | ⟨2, _⟩ => exact .inr (.inr rfl)
  rcases h01 with rfl | rfl | rfl
  · rw [D.offCoord_eq_zero _ _ (fun h => ((D.mem_sKept _).mp h).1 (List.mem_singleton.mpr rfl)), add_zero]
    unfold GatherDims.start
    rw [dif_pos (show (0 : Fin 3) ∈ D.startIndexMap from List.mem_singleton.mpr rfl)]
    have hsi : D.siIdx (ix3 t k h) ⟨List.idxOf (0 : Fin 3) D.startIndexMap, List.idxOf_lt_length_iff.2 (List.mem_singleton.mpr rfl)⟩
        = ix2 t 0 := by
      funext b; refine Fin.ext ?_
      match b with
      | ⟨0, _⟩ => rfl
      | ⟨1, _⟩ => rfl
    rw [hsi]
    rfl
  · unfold GatherDims.start
    rw [dif_neg (show ¬ (1 : Fin 3) ∈ D.startIndexMap from fun h => absurd (List.mem_singleton.1 h) (by decide)), zero_add]
    rfl
  · unfold GatherDims.start
    rw [dif_neg (show ¬ (2 : Fin 3) ∈ D.startIndexMap from fun h => absurd (List.mem_singleton.1 h) (by decide)), zero_add]
    rfl

/-- The reference's result at token `t`. -/
theorem result_read (m : (ℓ : Loc nD τ sig) → Buf (Elt Ideal) ℓ) (c : Dev nD) (t : Fin 16384) (h : Fin 512) (e0 e1 : Fin 64)
    (h0 : BitVec.toNat (m (c.tc.loc main_arg2) (ix2 t 0)) = e0.val) (h1 : BitVec.toNat (m (c.tc.loc main_arg2) (ix2 t 1)) = e1.val) :
    Cert.ReferenceIdeal.Value.res_main_v29 m c (ix2 t h)
      = answer (fun k => m (c.tc.loc main_arg0) (ix2 t k)) (fun k e => m (c.tc.loc main_arg1) (ix2 k e))
          (fun e k h => m (c.tc.loc main_arg3) (ix3 e k h)) e0 e1 h := by
  have l0 := e0.isLt
  have l1 := e1.isLt
  pointwise [Cert.ReferenceIdeal.Value.res_main_v29, gather_prob, gather_expert]
  rw [unmoved (m (c.tc.loc main_arg2) (ix2 t 0)) _ (by rw [h0]; exact l0),
    unmoved (m (c.tc.loc main_arg2) (ix2 t 1)) _ (by rw [h1]; exact l1), named_eq _ e0 h0, named_eq _ e1 h1]
  rfl

end Cert.MoeProof.Ref
-- ==== Proof.Algebraic.lean ====
/-
# The kernel computes the reference's result

On every device, for choices the precondition holds of, the result array ends as the device's block of the reference's
result on the whole arrays.
-/
module

public import proofs.«01_k».proof.Proof.Combined
public import proofs.«01_k».proof.Proof.Frames
public import proofs.«01_k».proof.Proof.Reference
public import proofs.«01_k».proof.Proof.Routed
public import Idealize.ShloMosaic.Lib.Layout

@[expose] public section

noncomputable section

namespace Cert.MoeProof

open Cert.KernelIdeal Cert.KernelIdeal.Gen
open Idealize.ShloMosaic Idealize.ShloMosaic.TcCoe Idealize.SL.Sem

set_option maxRecDepth 20000

/-! ## The arrays, each one block of its window -/

section Arrays
variable {F : FTy → Type} [FloatOps F]
variable (m : (ℓ : Loc nD τ sig) → Buf (Elt F) ℓ) (ρ : Dev nD → PrngReg)

theorem inX_eq (c : Dev nD) : inX m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

theorem inR_eq (c : Dev nD) : inR m c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

theorem inI_eq (c : Dev nD) : inI m c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _

theorem inW_eq (c : Dev nD) : inW m c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _

/-- The result array ends at what the body computes on its device. -/
theorem result_eq (c : Dev nD) : finalA m ρ c (4 : Fin 5) = OUT m c := by
  have hz : (fun a => (win0_4.index t0_0) a * main_v1.ty.shape.size a) = fun _ => 0 := funext fun a => by fin_cases a <;> decide
  have hr := fun f => Memref.read_access_unit_zero (Elt F) main_v1 hz (fun a => by fin_cases a <;> decide) f
  have ho : (win0_4.blk t0_0).view.read (Elt F) (finalA m ρ c (4 : Fin 5)) = OUT m c := by
    unfold finalA
    rw [show cfg0.N = t0_0.val + 1 from rfl, (dats m ρ 0 c).arrAt_succ (4 : Fin 5) t0_0,
      show (cfg0.win (4 : Fin 5)).flush t0_0 = true from Gen.flush0_4 t0_0, if_pos rfl]
    exact View.read_write_univ _ _
  rw [hr] at ho
  exact ho

end Arrays

/-! ## Blocks -/

/-- Token `t` of device `c`, among all of them. -/
def tokenOf (c : Fin 32) (t : Fin 512) : Fin 16384 := ⟨c.val * 512 + t.val, by omega⟩

theorem block_rows {α : Type} {n : Nat} (c : Fin 32) (v : (⟨2, ![16384, n]⟩ : Shape).Idx → α)
    (hT : Layout.Tiles ⟨2, ![512, n]⟩ ⟨2, ![16384, n]⟩ 0 32) (t : Fin 512) (k : Fin n) :
    Layout.block ⟨2, ![512, n]⟩ ⟨2, ![16384, n]⟩ 0 32 c v hT (ix2 t k) = v (ix2 (tokenOf c t) k) := by
  refine congrArg v (funext fun b => ?_)
  match b with
  | ⟨0, _⟩ => rfl
  | ⟨1, _⟩ => rfl

theorem block_experts {α : Type} (e : Fin 64) (v : (⟨3, ![64, 256, 512]⟩ : Shape).Idx → α)
    (hT : Layout.Tiles ⟨3, ![2, 256, 512]⟩ ⟨3, ![64, 256, 512]⟩ 0 32) (k : Fin 256) (h : Fin 512) :
    Layout.block ⟨3, ![2, 256, 512]⟩ ⟨3, ![64, 256, 512]⟩ 0 32 (⟨e.val / 2, by omega⟩ : Fin 32) v hT
      (ix3 (⟨e.val % 2, Nat.mod_lt _ (by decide)⟩ : Fin 2) k h) = v (ix3 e k h) := by
  refine congrArg v (funext fun b => ?_)
  match b with
  | ⟨0, _⟩ => exact Fin.ext (show e.val / 2 * 2 + e.val % 2 = e.val by omega)
  | ⟨1, _⟩ => rfl
  | ⟨2, _⟩ => rfl

/-! ## The claim -/

section Claim
variable (m : (ℓ : Loc nD τ sig) → Buf (Elt Ideal) ℓ)
variable (X : (⟨2, ![16384, 256]⟩ : Shape).Idx → EReal) (R : (⟨2, ![256, 64]⟩ : Shape).Idx → EReal)
variable (I : (⟨2, ![16384, 2]⟩ : Shape).Idx → BitVec 32) (W : (⟨3, ![64, 256, 512]⟩ : Shape).Idx → EReal)

/-- A device's result at a token, from the whole arrays. -/
theorem value (c : Dev nD)
    (hX : m ((c : Thread nD τ).loc main_arg0) = Layout.block ⟨2, ![512, 256]⟩ ⟨2, ![16384, 256]⟩ 0 32 c X)
    (hR : m ((c : Thread nD τ).loc main_arg1) = R)
    (hI : m ((c : Thread nD τ).loc main_arg2) = Layout.block ⟨2, ![512, 2]⟩ ⟨2, ![16384, 2]⟩ 0 32 c I)
    (hW : ∀ d : Dev nD, m ((d : Thread nD τ).loc main_arg3) = Layout.block ⟨3, ![2, 256, 512]⟩ ⟨3, ![64, 256, 512]⟩ 0 32 d W)
    (hp : Cert.Pre_routed_within_capacity_KernelIdeal.fn (F := Ideal) (m ((c : Thread nD τ).loc main_arg0))
      (m ((c : Thread nD τ).loc main_arg1)) (m ((c : Thread nD τ).loc main_arg2)) (m ((c : Thread nD τ).loc main_arg3)) = fun _ => 1#1)
    (t h : Fin 512) :
    ∃ e0 e1 : Fin 64, (I (ix2 (tokenOf c t) 0)).toNat = e0.val ∧ (I (ix2 (tokenOf c t) 1)).toNat = e1.val
      ∧ OUT m c (ix2 t h) = answer (fun k => X (ix2 (tokenOf c t) k)) (fun k e => R (ix2 k e)) (fun e k h => W (ix3 e k h)) e0 e1 h := by
  have hn := routed_names _ _ _ _ hp
  have hc := routed_capacity _ _ _ _ hp
  rw [← inI_eq m c] at hI hn hc
  have hcol : ∀ (t : Fin 512) (k : Fin 2), inI m c (ix2 t k) = I (ix2 (tokenOf c t) k) := fun t k => by
    rw [hI]; exact block_rows c I _ t k
  refine ⟨⟨_, hn (ix2 t 0)⟩, ⟨_, hn (ix2 t 1)⟩, congrArg _ (hcol t 0).symm, congrArg _ (hcol t 1).symm, ?_⟩
  refine (out_read m c (fun t => ⟨_, hn (ix2 t 0)⟩) (fun t => ⟨_, hn (ix2 t 1)⟩) (fun _ => rfl) (fun _ => rfl) (fun e => ?_) t h).trans ?_
  · refine le_trans (Finset.card_le_card fun t ht => ?_) (hc e)
    exact Finset.mem_filter.2 ⟨Finset.mem_univ _, (Finset.mem_filter.1 ht).2.imp
      (fun he => (congrArg Fin.val he).symm) (fun he => (congrArg Fin.val he).symm)⟩
  · have hx : tokenRow (inX m c) t = fun k => X (ix2 (tokenOf c t) k) := funext fun k => by
      show inX m c (ix2 t k) = _
      rw [inX_eq, hX]; exact block_rows c X _ t k
    have hr : router (inR m c) = fun k e => R (ix2 k e) := funext fun k => funext fun e => by
      show inR m c (ix2 k e) = _
      rw [inR_eq, hR]
    have hw : experts m = fun e k h => W (ix3 e k h) := funext fun e => funext fun k => funext fun h => by
      show inW m _ _ = _
      rw [inW_eq, hW]; exact block_experts e W _ k h
    rw [hx, hr, hw]

end Claim

theorem algebraic : Cert.algebraic_KernelIdeal_ReferenceIdeal_pre_routed_within_capacity_KernelIdeal
    (hKernelIdeal := Cert.KernelIdeal.Gen.facts) (hReferenceIdeal := Cert.ReferenceIdeal.Gen.facts)
    (hPre_routed_within_capacity_KernelIdeal := factsPreKernel) := by
  intro m ρ m' ρ' hp hagree
  refine ⟨Cert.ReferenceIdeal.Value.res_main_v29 m' 0, ?_, ?_⟩
  · refine (θ_run Cert.KernelIdeal.defs _ _).mono (fun r h c => ⟨(h.1 c (4 : Fin 5)).trans ((result_eq m ρ c).trans ?_),
      (h.1 c (0 : Fin 5)).trans (finalA_0 m ρ c), (h.1 c (1 : Fin 5)).trans (finalA_1 m ρ c),
      (h.1 c (2 : Fin 5)).trans (finalA_2 m ρ c), (h.1 c (3 : Fin 5)).trans (finalA_3 m ρ c)⟩) (run_main m ρ)
    funext i
    obtain ⟨t, h, rfl⟩ : ∃ t h : Fin 512, i = ix2 t h := ⟨i 0, i 1, eq_ix2 i⟩
    obtain ⟨e0, e1, h0, h1, hv⟩ := value m _ _ _ _ c (hagree c).1 (hagree c).2.1 (hagree c).2.2.1 (fun d => (hagree d).2.2.2) (hp c) t h
    exact hv.trans ((Ref.result_read m' 0 (tokenOf c t) h e0 e1 h0 h1).symm.trans (block_rows c _ _ t h).symm)
  · exact (θ_run Cert.ReferenceIdeal.defs _ _).mono (fun r h => h 0) (Cert.ReferenceIdeal.Value.run (F := Ideal) m' ρ')

end Cert.MoeProof
-- ==== Proof.lean ====
/-
# The certificate

The proof of `Cert.Claim` (proofs.«01_k».proof.Defs): the frames, from `Proof/Frames.lean`, with and without the
precondition; the idealization, which rewrote no operation; and the value, from `Proof/Algebraic.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Routed
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.MoeProof.factsPreKernel, Cert.MoeProof.factsPreReference,
    Cert.MoeProof.frame_kernel, Cert.MoeProof.frame_ideal, fun m ρ _ => Cert.MoeProof.frame_ideal m ρ trivial,
    Cert.MoeProof.frame_reference, fun m ρ _ => Cert.MoeProof.frame_reference m ρ trivial, trivial, Cert.MoeProof.algebraic⟩

end Cert.Proof

end
